-- ==== Defs.lean ====
def Pre_Kernel [hPre_slots_fit : Cert.Pre_slots_fit.Facts] (m : (ℓ : Loc Cert.Kernel.nD Cert.Kernel.τ Cert.Kernel.sig) → Buf (Elt Bits) ℓ) : Prop :=
  ∀ c : Dev Cert.Kernel.nD,
    (Cert.Pre_slots_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_slots_fit : Cert.Pre_slots_fit.Facts] (m : (ℓ : Loc Cert.KernelIdeal.nD Cert.KernelIdeal.τ Cert.KernelIdeal.sig) → Buf (Elt Ideal) ℓ) : Prop :=
  ∀ c : Dev Cert.KernelIdeal.nD,
    (Cert.Pre_slots_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_fit [hPre_slots_fit : Cert.Pre_slots_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_slots_fit : Cert.Pre_slots_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_slots_fit : Cert.Pre_slots_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_slots_fit [hReferenceIdeal : Cert.ReferenceIdeal.Facts] [hPre_slots_fit : Cert.Pre_slots_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_fit : Cert.Pre_slots_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v61_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_slots_fit : Cert.Pre_slots_fit.Facts),
    quiescent_Kernel (hKernel := hKernel) (hPre_slots_fit := hPre_slots_fit)
    ∧ quiescent_KernelIdeal (hKernelIdeal := hKernelIdeal) (hPre_slots_fit := hPre_slots_fit)
    ∧ quiescent_ReferenceIdeal (hReferenceIdeal := hReferenceIdeal)
    ∧ quiescent_ReferenceIdeal_pre_slots_fit (hReferenceIdeal := hReferenceIdeal) (hPre_slots_fit := hPre_slots_fit)
    ∧ preserves_Kernel_KernelIdeal
    ∧ algebraic_KernelIdeal_ReferenceIdeal (hKernelIdeal := hKernelIdeal) (hReferenceIdeal := hReferenceIdeal) (hPre_slots_fit := hPre_slots_fit)
-- ==== Pre_slots_fit.lean ====
abbrev S256x1x2048 : Shape := ⟨3, ![256, 1, 2048]⟩
abbrev S256x1x8 : Shape := ⟨3, ![256, 1, 8]⟩
abbrev S128 : Shape := ⟨1, ![128]⟩
abbrev S48x2048x768 : Shape := ⟨3, ![48, 2048, 768]⟩
abbrev S48x16x768 : Shape := ⟨3, ![48, 16, 768]⟩
abbrev S48x768x1024 : Shape := ⟨3, ![48, 768, 1024]⟩
abbrev S48x6x2048 : Shape := ⟨3, ![48, 6, 2048]⟩
abbrev S256x8 : Shape := ⟨2, ![256, 8]⟩
abbrev S_ : Shape := ⟨0, ![]⟩
abbrev S256x8x1 : Shape := ⟨3, ![256, 8, 1]⟩
abbrev S2048 : Shape := ⟨1, ![2048]⟩
abbrev S1x2048 : Shape := ⟨2, ![1, 2048]⟩
abbrev S48 : Shape := ⟨1, ![48]⟩
abbrev S48x1 : Shape := ⟨2, ![48, 1]⟩
abbrev S48x2048 : Shape := ⟨2, ![48, 2048]⟩

class Facts : Prop where
  shapeCasts_S256x1x8_S256x8 : S256x1x8.ShapeCasts S256x8
  bcast_S_S256x8 : S_.BroadcastsInDim S256x8 (![] : Fin 0 → Fin S256x8.rank)
  bcast_S256x8_S256x8x1_0_1 : S256x8.BroadcastsInDim S256x8x1 (![0, 1] : Fin 2 → Fin S256x8x1.rank)
  shapeCasts_S256x8_S2048 : S256x8.ShapeCasts S2048
  bcast_S2048_S1x2048_1 : S2048.BroadcastsInDim S1x2048 (![1] : Fin 1 → Fin S1x2048.rank)
  bcast_S48_S48x1_0 : S48.BroadcastsInDim S48x1 (![0] : Fin 1 → Fin S48x1.rank)
  bcast_S1x2048_S48x2048_0_1 : S1x2048.BroadcastsInDim S48x2048 (![0, 1] : Fin 2 → Fin S48x2048.rank)
  bcast_S48x1_S48x2048_0_1 : S48x1.BroadcastsInDim S48x2048 (![0, 1] : Fin 2 → Fin S48x2048.rank)
  natLt_1_32 : 1 < 32
  reducesTo_S48x2048_S48_d1 : S48x2048.ReducesTo [1] S48
  h_S_ : 0 < S_.numel
  bcast_S_S1x2048 : S_.BroadcastsInDim S1x2048 (![] : Fin 0 → Fin S1x2048.rank)
  bcast_S_S48x1 : S_.BroadcastsInDim S48x1 (![] : Fin 0 → Fin S48x1.rank)
  gather_S128_S256x8x1_S256x8_n_0_n_n_0_2_1_wf : GatherDims.WF S128 S256x8x1 S256x8 [] [0] [] [0] [] 2 ![1]

variable [Facts]

def gather_S128_S256x8x1_S256x8_n_0_n_n_0_2_1 : GatherDims S128 S256x8x1 S256x8 where
  offsetDims := []
  collapsedSliceDims := [0]
  operandBatchingDims := []
  startIndicesBatchingDims := []
  startIndexMap := [0]
  indexVectorDim := 2
  sliceSizes := ![1]
  wf := gather_S128_S256x8x1_S256x8_n_0_n_n_0_2_1_wf
def fn_part1 {F : FTy → Type} [FloatOps F] (main_v16 : IVec S48 32) (main_v19 : IVec S1x2048 1) : IVec S48x2048 1 :=
  let main_v20 : IVec S48x1 32 := broadcastInDim S48x1 ![0] bcast_S48_S48x1_0 main_v16
  let main_c_3 : IVec S_ 32 := constantI S_ 32 256#32
  let main_v21 : IVec S48x1 32 := broadcastInDim S48x1 ![] bcast_S_S48x1 main_c_3
  let main_v22 : IVec S48x1 1 := cmpi .sle main_v20 main_v21
  let main_v23 : IVec S48x2048 1 := broadcastInDim S48x2048 ![0, 1] bcast_S1x2048_S48x2048_0_1 main_v19
  let main_v24 : IVec S48x2048 1 := broadcastInDim S48x2048 ![0, 1] bcast_S48x1_S48x2048_0_1 main_v22
  let main_v25 : IVec S48x2048 1 := andi main_v23 main_v24
  main_v25

def fn {F : FTy → Type} [FloatOps F] (main_arg0 : FVec F S256x1x2048 .bf16) (main_arg1 : IVec S256x1x8 32) (main_arg2 : FVec F S256x1x8 .f32) (main_arg3 : IVec S128 32) (main_arg4 : IVec S48x2048x768 8) (main_arg5 : FVec F S48x16x768 .bf16) (main_arg6 : FVec F S48x16x768 .bf16) (main_arg7 : IVec S48x768x1024 8) (main_arg8 : FVec F S48x6x2048 .bf16) : IVec S48x2048 1 :=
  let main_v0 : IVec S256x8 32 := shapeCast S256x8 main_arg1 shapeCasts_S256x1x8_S256x8
  let main_c : IVec S_ 32 := constantI S_ 32 0#32
  let main_v1 : IVec S256x8 32 := broadcastInDim S256x8 ![] bcast_S_S256x8 main_c
  let main_v2 : IVec S256x8 1 := cmpi .slt main_v0 main_v1
  let main_c_0 : IVec S_ 32 := constantI S_ 32 128#32
  let main_v3 : IVec S256x8 32 := broadcastInDim S256x8 ![] bcast_S_S256x8 main_c_0
  let main_v4 : IVec S256x8 32 := addi main_v0 main_v3
  let main_v5 : IVec S256x8 32 := select main_v2 main_v4 main_v0
  let main_v6 : IVec S256x8x1 32 := broadcastInDim S256x8x1 ![0, 1] bcast_S256x8_S256x8x1_0_1 main_v5
  let main_v7 : IVec S256x8 32 := (fun x i => Host.gather gather_S128_S256x8x1_S256x8_n_0_n_n_0_2_1 x i) main_arg3 main_v6
  let main_v8 : IVec S2048 32 := shapeCast S2048 main_v7 shapeCasts_S256x8_S2048
  let main_v9 : IVec S1x2048 32 := broadcastInDim S1x2048 ![1] bcast_S2048_S1x2048_1 main_v8
  let main_v10 : IVec S48 32 := iotaInDim S48 32 0
  let main_v11 : IVec S48x1 32 := broadcastInDim S48x1 ![0] bcast_S48_S48x1_0 main_v10
  let main_v12 : IVec S48x2048 32 := broadcastInDim S48x2048 ![0, 1] bcast_S1x2048_S48x2048_0_1 main_v9
  let main_v13 : IVec S48x2048 32 := broadcastInDim S48x2048 ![0, 1] bcast_S48x1_S48x2048_0_1 main_v11
  let main_v14 : IVec S48x2048 1 := cmpi .eq main_v12 main_v13
  let main_v15 : IVec S48x2048 32 := (extui 32 · natLt_1_32) main_v14
  let main_c_1 : IVec S_ 32 := constantI S_ 32 0#32
  let main_v16 : IVec S48 32 := (fun x v => Host.reduce IntOp.addi x v reducesTo_S48x2048_S48_d1 h_S_) main_v15 main_c_1
  let main_v17 : IVec S1x2048 32 := broadcastInDim S1x2048 ![1] bcast_S2048_S1x2048_1 main_v8
  let main_c_2 : IVec S_ 32 := constantI S_ 32 48#32
  let main_v18 : IVec S1x2048 32 := broadcastInDim S1x2048 ![] bcast_S_S1x2048 main_c_2
  let main_v19 : IVec S1x2048 1 := cmpi .slt main_v17 main_v18
  fn_part1 (F := F) main_v16 main_v19
-- ==== Kernel.lean ====
abbrev S256x1x2048 : Shape := ⟨3, ![256, 1, 2048]⟩
abbrev S256x1x8 : Shape := ⟨3, ![256, 1, 8]⟩
abbrev S128 : Shape := ⟨1, ![128]⟩
abbrev S48x2048x768 : Shape := ⟨3, ![48, 2048, 768]⟩
abbrev S48x16x768 : Shape := ⟨3, ![48, 16, 768]⟩
abbrev S48x768x1024 : Shape := ⟨3, ![48, 768, 1024]⟩
abbrev S48x6x2048 : Shape := ⟨3, ![48, 6, 2048]⟩
abbrev S256x8 : Shape := ⟨2, ![256, 8]⟩
abbrev S_ : Shape := ⟨0, ![]⟩
abbrev S256x8x1 : Shape := ⟨3, ![256, 8, 1]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S48 : Shape := ⟨1, ![48]⟩
abbrev S48x1 : Shape := ⟨2, ![48, 1]⟩
abbrev S48x2048 : Shape := ⟨2, ![48, 2048]⟩
abbrev S12289 : Shape := ⟨1, ![12289]⟩
abbrev S98304 : Shape := ⟨1, ![98304]⟩
abbrev S98304x1 : Shape := ⟨2, ![98304, 1]⟩
abbrev S12288 : Shape := ⟨1, ![12288]⟩
abbrev S256x2048 : Shape := ⟨2, ![256, 2048]⟩
abbrev S2048x2048 : Shape := ⟨2, ![2048, 2048]⟩
abbrev S1x2048x768 : Shape := ⟨3, ![1, 2048, 768]⟩
abbrev S1x16x768 : Shape := ⟨3, ![1, 16, 768]⟩
abbrev S1x768x1024 : Shape := ⟨3, ![1, 768, 1024]⟩
abbrev S1x6x2048 : Shape := ⟨3, ![1, 6, 2048]⟩
abbrev S64x2048 : Shape := ⟨2, ![64, 2048]⟩
abbrev S1 : Shape := ⟨1, ![1]⟩
abbrev S1x2048x256 : Shape := ⟨3, ![1, 2048, 256]⟩
abbrev S2048x256 : Shape := ⟨2, ![2048, 256]⟩
abbrev S512x256 : Shape := ⟨2, ![512, 256]⟩
abbrev S1x16x256 : Shape := ⟨3, ![1, 16, 256]⟩
abbrev S16x256 : Shape := ⟨2, ![16, 256]⟩
abbrev S16x128x256 : Shape := ⟨3, ![16, 128, 256]⟩
abbrev S16x1x256 : Shape := ⟨3, ![16, 1, 256]⟩
abbrev S64x256 : Shape := ⟨2, ![64, 256]⟩
abbrev S64x768 : Shape := ⟨2, ![64, 768]⟩
abbrev S1x768x256 : Shape := ⟨3, ![1, 768, 256]⟩
abbrev S768x256 : Shape := ⟨2, ![768, 256]⟩
abbrev S192x256 : Shape := ⟨2, ![192, 256]⟩
abbrev S1x6x256 : Shape := ⟨3, ![1, 6, 256]⟩
abbrev S6x256 : Shape := ⟨2, ![6, 256]⟩
abbrev S6x128x256 : Shape := ⟨3, ![6, 128, 256]⟩
abbrev S6x1x256 : Shape := ⟨3, ![6, 1, 256]⟩

abbrev nBuf : Space → Nat
  | .hbm => 91
  | .vmem => 17
  | .smem => 3
  | _ => 0

abbrev bufTy : (tb : Table) → Fin (tcTables nBuf tb) → BufTy
  | .hbm, ⟨0, _⟩ => ⟨S256x1x2048, .bf16⟩
  | .hbm, ⟨1, _⟩ => ⟨S256x1x8, .i32⟩
  | .hbm, ⟨2, _⟩ => ⟨S256x1x8, .f32⟩
  | .hbm, ⟨3, _⟩ => ⟨S128, .i32⟩
  | .hbm, ⟨4, _⟩ => ⟨S48x2048x768, .i8⟩
  | .hbm, ⟨5, _⟩ => ⟨S48x16x768, .bf16⟩
  | .hbm, ⟨6, _⟩ => ⟨S48x16x768, .bf16⟩
  | .hbm, ⟨7, _⟩ => ⟨S48x768x1024, .i8⟩
  | .hbm, ⟨8, _⟩ => ⟨S48x6x2048, .bf16⟩
  | .hbm, ⟨9, _⟩ => ⟨S256x8, .i32⟩
  | .hbm, ⟨10, _⟩ => ⟨S256x8, .f32⟩
  | .hbm, ⟨11, _⟩ => ⟨S_, .i32⟩
  | .hbm, ⟨12, _⟩ => ⟨S256x8, .i32⟩
  | .hbm, ⟨13, _⟩ => ⟨S256x8, .i1⟩
  | .hbm, ⟨14, _⟩ => ⟨S_, .i32⟩
  | .hbm, ⟨15, _⟩ => ⟨S256x8, .i32⟩
  | .hbm, ⟨16, _⟩ => ⟨S256x8, .i32⟩
  | .hbm, ⟨17, _⟩ => ⟨S256x8, .i32⟩
  | .hbm, ⟨18, _⟩ => ⟨S256x8x1, .i32⟩
  | .hbm, ⟨19, _⟩ => ⟨S256x8, .i32⟩
  | .hbm, ⟨20, _⟩ => ⟨S_, .i32⟩
  | .hbm, ⟨21, _⟩ => ⟨S256x8, .i32⟩
  | .hbm, ⟨22, _⟩ => ⟨S256x8, .i1⟩
  | .hbm, ⟨23, _⟩ => ⟨S256x8, .f32⟩
  | .hbm, ⟨24, _⟩ => ⟨S_, .f32⟩
  | .hbm, ⟨25, _⟩ => ⟨S256x8, .f32⟩
  | .hbm, ⟨26, _⟩ => ⟨S256x8, .f32⟩
  | .hbm, ⟨27, _⟩ => ⟨S256x8, .f32⟩
  | .hbm, ⟨28, _⟩ => ⟨S_, .f32⟩
  | .hbm, ⟨29, _⟩ => ⟨S256, .f32⟩
  | .hbm, ⟨30, _⟩ => ⟨S256x8, .f32⟩
  | .hbm, ⟨31, _⟩ => ⟨S_, .f32⟩
  | .hbm, ⟨32, _⟩ => ⟨S256, .f32⟩
  | .hbm, ⟨33, _⟩ => ⟨S256x8, .f32⟩
  | .hbm, ⟨34, _⟩ => ⟨S_, .f32⟩
  | .hbm, ⟨35, _⟩ => ⟨S256, .f32⟩
  | .hbm, ⟨36, _⟩ => ⟨S256, .i1⟩
  | .hbm, ⟨37, _⟩ => ⟨S_, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256x1, .f32⟩
  | .hbm, ⟨42, _⟩ => ⟨S256x8, .f32⟩
  | .hbm, ⟨43, _⟩ => ⟨S256x8, .f32⟩
  | .hbm, ⟨44, _⟩ => ⟨S2048, .i32⟩
  | .hbm, ⟨45, _⟩ => ⟨S1x2048, .i32⟩
  | .hbm, ⟨46, _⟩ => ⟨S48, .i32⟩
  | .hbm, ⟨47, _⟩ => ⟨S48x1, .i32⟩
  | .hbm, ⟨48, _⟩ => ⟨S48x2048, .i32⟩
  | .hbm, ⟨49, _⟩ => ⟨S48x2048, .i32⟩
  | .hbm, ⟨50, _⟩ => ⟨S48x2048, .i1⟩
  | .hbm, ⟨51, _⟩ => ⟨S48x2048, .i32⟩
  | .hbm, ⟨52, _⟩ => ⟨S_, .i32⟩
  | .hbm, ⟨53, _⟩ => ⟨S_, .i32⟩
  | .hbm, ⟨54, _⟩ => ⟨S48x2048, .i32⟩
  | .hbm, ⟨55, _⟩ => ⟨S_, .i32⟩
  | .hbm, ⟨56, _⟩ => ⟨S48x2048, .i32⟩
  | .hbm, ⟨57, _⟩ => ⟨S48x2048, .i32⟩
  | .hbm, ⟨58, _⟩ => ⟨S48x2048, .i32⟩
  | .hbm, ⟨59, _⟩ => ⟨S_, .i32⟩
  | .hbm, ⟨60, _⟩ => ⟨S48, .i32⟩
  | .hbm, ⟨61, _⟩ => ⟨S48x1, .i32⟩
  | .hbm, ⟨62, _⟩ => ⟨S_, .i32⟩
  | .hbm, ⟨63, _⟩ => ⟨S48x1, .i32⟩
  | .hbm, ⟨64, _⟩ => ⟨S48x1, .i32⟩
  | .hbm, ⟨65, _⟩ => ⟨S48x2048, .i32⟩
  | .hbm, ⟨66, _⟩ => ⟨S48x2048, .i32⟩
  | .hbm, ⟨67, _⟩ => ⟨S_, .i32⟩
  | .hbm, ⟨68, _⟩ => ⟨S_, .i32⟩
  | .hbm, ⟨69, _⟩ => ⟨S48x2048, .i32⟩
  | .hbm, ⟨70, _⟩ => ⟨S48x2048, .i32⟩
  | .hbm, ⟨71, _⟩ => ⟨S_, .i32⟩
  | .hbm, ⟨72, _⟩ => ⟨S12289, .i32⟩
  | .hbm, ⟨73, _⟩ => ⟨S98304, .i32⟩
  | .hbm, ⟨74, _⟩ => ⟨S2048, .i32⟩
  | .hbm, ⟨75, _⟩ => ⟨S1x2048, .i32⟩
  | .hbm, ⟨76, _⟩ => ⟨S48x2048, .i32⟩
  | .hbm, ⟨77, _⟩ => ⟨S98304, .i32⟩
  | .hbm, ⟨78, _⟩ => ⟨S_, .i32⟩
  | .hbm, ⟨79, _⟩ => ⟨S98304, .i32⟩
  | .hbm, ⟨80, _⟩ => ⟨S98304, .i1⟩
  | .hbm, ⟨81, _⟩ => ⟨S_, .i32⟩
  | .hbm, ⟨82, _⟩ => ⟨S98304, .i32⟩
  | .hbm, ⟨83, _⟩ => ⟨S98304, .i32⟩
  | .hbm, ⟨84, _⟩ => ⟨S98304, .i32⟩
  | .hbm, ⟨85, _⟩ => ⟨S98304x1, .i32⟩
  | .hbm, ⟨86, _⟩ => ⟨S12289, .i32⟩
  | .hbm, ⟨87, _⟩ => ⟨S256x2048, .bf16⟩
  | .hbm, ⟨88, _⟩ => ⟨S2048, .f32⟩
  | .hbm, ⟨89, _⟩ => ⟨S256x2048, .bf16⟩
  | .hbm, ⟨90, _⟩ => ⟨S2048x2048, .f32⟩
  | .local _ .vmem, ⟨0, _⟩ => ⟨S256x2048, .bf16⟩
  | .local _ .vmem, ⟨1, _⟩ => ⟨S1x2048x768, .i8⟩
  | .local _ .vmem, ⟨2, _⟩ => ⟨S1x2048x768, .i8⟩
  | .local _ .vmem, ⟨3, _⟩ => ⟨S1x16x768, .bf16⟩
  | .local _ .vmem, ⟨4, _⟩ => ⟨S1x16x768, .bf16⟩
  | .local _ .vmem, ⟨5, _⟩ => ⟨S1x16x768, .bf16⟩
  | .local _ .vmem, ⟨6, _⟩ => ⟨S1x16x768, .bf16⟩
  | .local _ .vmem, ⟨7, _⟩ => ⟨S1x768x1024, .i8⟩
  | .local _ .vmem, ⟨8, _⟩ => ⟨S1x768x1024, .i8⟩
  | .local _ .vmem, ⟨9, _⟩ => ⟨S1x6x2048, .bf16⟩
  | .local _ .vmem, ⟨10, _⟩ => ⟨S1x6x2048, .bf16⟩
  | .local _ .vmem, ⟨11, _⟩ => ⟨S256x2048, .bf16⟩
  | .local _ .vmem, ⟨12, _⟩ => ⟨S2048x2048, .f32⟩
  | .local _ .vmem, ⟨13, _⟩ => ⟨S256x2048, .f32⟩
  | .local _ .vmem, ⟨14, _⟩ => ⟨S64x2048, .f32⟩
  | .local _ .vmem, ⟨15, _⟩ => ⟨S256x2048, .f32⟩
  | .local _ .vmem, ⟨16, _⟩ => ⟨S64x2048, .f32⟩
  | .local _ .smem, ⟨0, _⟩ => ⟨S48, .i32⟩
  | .local _ .smem, ⟨1, _⟩ => ⟨S12288, .i32⟩
  | .local _ .smem, ⟨2, _⟩ => ⟨S2048, .f32⟩
  | _, _ => ⟨S256x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_call0_c : Ref sig .tc := ⟨.hbm, 52, rfl⟩
abbrev main_call1_call0_v0 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_call2_v0 : Ref sig .tc := ⟨.hbm, 68, rfl⟩
abbrev main_call2_v1 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_v37 : Ref sig .tc := ⟨.smem, 0, rfl⟩
abbrev main_v58 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg6_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_v37.idx, main_v58.idx], fun | 0 => main_v37.names | 1 => main_v58.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
@[reducible] def k0_t1_loop (v4 : BitVec 32) : Scf.Loop 32 :=
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_11 : BitVec 32 := 1#32
  ⟨c0_i32_8, v28, c1_i32_11⟩

@[reducible] def k0_t2_loop (v4 : BitVec 32) (k0_t1 : Fin (k0_t1_loop v4).trips) : Scf.Loop 32 :=
  let c0_i32_16 : BitVec 32 := 0#32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let c1_i32_19 : BitVec 32 := 1#32
  ⟨c0_i32_16, v41, c1_i32_19⟩
def k0_off2 (i : grid0.Coords) (v4 : BitVec 32) (k0_t1 : Fin (k0_t1_loop v4).trips) (k0_t2 : Fin (k0_t2_loop v4 k0_t1).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v322 : BitVec 32 := Scalar.addi v321 v34
  let c0_i32_16 : BitVec 32 := 0#32
  let c1_i32_19 : BitVec 32 := 1#32
  let arg18 : BitVec 32 := Scf.iv c0_i32_16 c1_i32_19 k0_t2
  let v323 : BitVec 32 := Scalar.addi v322 arg18
  let v324 : Index := Scalar.indexCast v323
  ![v324.toNat]
def k0_off3 (v325 : BitVec 32) : Fin 2 → Nat :=
  let c3_i32 : BitVec 32 := 3#32
  let v326 : BitVec 32 := Scalar.shrsi v325 c3_i32
  let v327 : Index := Scalar.indexCast v326
  let c0_146 : Index := 0#32
  ![v327.toNat, 0]

def k0_chk2 (v325 : BitVec 32) : Prop :=
  (∀ a, (k0_off3 v325) a + S1x2048.size a ≤ S256x2048.size a)
theorem k0_off3_inb : ∀ (v325 : BitVec 32) (k0_hw2 : k0_chk2 v325), ∀ a, (k0_off3 v325) a + S1x2048.size a ≤ S256x2048.size a := fun v325 k0_hw2 => k0_hw2

def k0_off4 (v4 : BitVec 32) (k0_t1 : Fin (k0_t1_loop v4).trips) (k0_t2 : Fin (k0_t2_loop v4 k0_t1).trips) : Fin 2 → Nat :=
  let c0_i32_16 : BitVec 32 := 0#32
  let c1_i32_19 : BitVec 32 := 1#32
  let arg18 : BitVec 32 := Scf.iv c0_i32_16 c1_i32_19 k0_t2
  let v329 : Index := Scalar.indexCast arg18
  let c0_147 : Index := 0#32
  ![v329.toNat, 0]
@[reducible] def k0_t3_loop (v4 : BitVec 32) (k0_t1 : Fin (k0_t1_loop v4).trips) : Scf.Loop 32 :=
  let c0_i32_16 : BitVec 32 := 0#32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let v38 : BitVec 32 := Scalar.addi c0_i32_16 v37
  let c1_i32_20 : BitVec 32 := 1#32
  ⟨v41, v38, c1_i32_20⟩
def k0_off5 (i : grid0.Coords) (v4 : BitVec 32) (k0_t1 : Fin (k0_t1_loop v4).trips) (k0_t3 : Fin (k0_t3_loop v4 k0_t1).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v322 : BitVec 32 := Scalar.addi v321 v34
  let c0_i32_16 : BitVec 32 := 0#32
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let c1_i32_20 : BitVec 32 := 1#32
  let arg18 : BitVec 32 := Scf.iv v41 c1_i32_20 k0_t3
  let v323 : BitVec 32 := Scalar.addi v322 arg18
  let v324 : Index := Scalar.indexCast v323
  ![v324.toNat]
def k0_off6 (v325 : BitVec 32) : Fin 2 → Nat :=
  let c3_i32 : BitVec 32 := 3#32
  let v326 : BitVec 32 := Scalar.shrsi v325 c3_i32
  let v327 : Index := Scalar.indexCast v326
  let c0_146 : Index := 0#32
  ![v327.toNat, 0]

def k0_chk3 (v325 : BitVec 32) : Prop :=
  (∀ a, (k0_off6 v325) a + S1x2048.size a ≤ S256x2048.size a)
theorem k0_off6_inb : ∀ (v325 : BitVec 32) (k0_hw3 : k0_chk3 v325), ∀ a, (k0_off6 v325) a + S1x2048.size a ≤ S256x2048.size a := fun v325 k0_hw3 => k0_hw3

def k0_off7 (v4 : BitVec 32) (k0_t1 : Fin (k0_t1_loop v4).trips) (k0_t3 : Fin (k0_t3_loop v4 k0_t1).trips) : Fin 2 → Nat :=
  let c0_i32_16 : BitVec 32 := 0#32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let c1_i32_20 : BitVec 32 := 1#32
  let arg18 : BitVec 32 := Scf.iv v41 c1_i32_20 k0_t3
  let v329 : Index := Scalar.indexCast arg18
  let c0_147 : Index := 0#32
  ![v329.toNat, 0]
@[reducible] def k0_t4_loop (v4 : BitVec 32) (k0_t1 : Fin (k0_t1_loop v4).trips) : Scf.Loop 32 :=
  let c0_i32_140 : BitVec 32 := 0#32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let c1_i32_143 : BitVec 32 := 1#32
  ⟨c0_i32_140, v318, c1_i32_143⟩
def k0_off8 (i : grid0.Coords) (v4 : BitVec 32) (k0_t1 : Fin (k0_t1_loop v4).trips) (k0_t4 : Fin (k0_t4_loop v4 k0_t1).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v322 : BitVec 32 := Scalar.addi v321 v34
  let c0_i32_140 : BitVec 32 := 0#32
  let c1_i32_143 : BitVec 32 := 1#32
  let arg18 : BitVec 32 := Scf.iv c0_i32_140 c1_i32_143 k0_t4
  let v323 : BitVec 32 := Scalar.addi v322 arg18
  let v324 : Index := Scalar.indexCast v323
  ![v324.toNat]
def k0_off9 (v4 : BitVec 32) (k0_t1 : Fin (k0_t1_loop v4).trips) (k0_t4 : Fin (k0_t4_loop v4 k0_t1).trips) : Fin 2 → Nat :=
  let c0_i32_140 : BitVec 32 := 0#32
  let c1_i32_143 : BitVec 32 := 1#32
  let arg18 : BitVec 32 := Scf.iv c0_i32_140 c1_i32_143 k0_t4
  let v326 : Index := Scalar.indexCast arg18
  let c0_146 : Index := 0#32
  ![v326.toNat, 0]
def k0_off10 (v325 : BitVec 32) : Fin 2 → Nat :=
  let v328 : Index := Scalar.indexCast v325
  let c0_147 : Index := 0#32
  ![v328.toNat, 0]

def k0_off11 (v325 : BitVec 32) : Fin 2 → Nat :=
  let c3_i32 : BitVec 32 := 3#32
  let v330 : BitVec 32 := Scalar.shrsi v325 c3_i32
  let v331 : Index := Scalar.indexCast v330
  let c0_148 : Index := 0#32
  ![v331.toNat, 0]
def k0_off12 (v325 : BitVec 32) : Fin 1 → Nat :=
  let v333 : Index := Scalar.indexCast v325
  ![v333.toNat]

def k0_chk4 (v325 : BitVec 32) : Prop :=
  (∀ a, (k0_off10 v325) a + S1x2048.size a ≤ S2048x2048.size a) ∧
  (∀ a, (k0_off11 v325) a + S1x2048.size a ≤ S256x2048.size a) ∧
  (∀ a, (k0_off12 v325) a + S1.size a ≤ S2048.size a)
theorem k0_off10_inb : ∀ (v325 : BitVec 32) (k0_hw4 : k0_chk4 v325), ∀ a, (k0_off10 v325) a + S1x2048.size a ≤ S2048x2048.size a := fun v325 k0_hw4 => k0_hw4.1
theorem k0_off11_inb : ∀ (v325 : BitVec 32) (k0_hw4 : k0_chk4 v325), ∀ a, (k0_off11 v325) a + S1x2048.size a ≤ S256x2048.size a := fun v325 k0_hw4 => k0_hw4.2.1
theorem k0_off12_inb : ∀ (v325 : BitVec 32) (k0_hw4 : k0_chk4 v325), ∀ a, (k0_off12 v325) a + S1.size a ≤ S2048.size a := fun v325 k0_hw4 => k0_hw4.2.2

@[reducible] def k0_t5_loop (v4 : BitVec 32) (k0_t1 : Fin (k0_t1_loop v4).trips) : Scf.Loop 32 :=
  let c0_i32_140 : BitVec 32 := 0#32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let v315 : BitVec 32 := Scalar.addi c0_i32_140 v314
  let c1_i32_144 : BitVec 32 := 1#32
  ⟨v318, v315, c1_i32_144⟩
def k0_off13 (i : grid0.Coords) (v4 : BitVec 32) (k0_t1 : Fin (k0_t1_loop v4).trips) (k0_t5 : Fin (k0_t5_loop v4 k0_t1).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v322 : BitVec 32 := Scalar.addi v321 v34
  let c0_i32_140 : BitVec 32 := 0#32
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let c1_i32_144 : BitVec 32 := 1#32
  let arg18 : BitVec 32 := Scf.iv v318 c1_i32_144 k0_t5
  let v323 : BitVec 32 := Scalar.addi v322 arg18
  let v324 : Index := Scalar.indexCast v323
  ![v324.toNat]
def k0_off14 (v4 : BitVec 32) (k0_t1 : Fin (k0_t1_loop v4).trips) (k0_t5 : Fin (k0_t5_loop v4 k0_t1).trips) : Fin 2 → Nat :=
  let c0_i32_140 : BitVec 32 := 0#32
  let c0_i32_8 : BitVec 32 := 0#32
  let c1_i32_11 : BitVec 32 := 1#32
  let arg16 : BitVec 32 := Scf.iv c0_i32_8 c1_i32_11 k0_t1
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let c1_i32_144 : BitVec 32 := 1#32
  let arg18 : BitVec 32 := Scf.iv v318 c1_i32_144 k0_t5
  let v326 : Index := Scalar.indexCast arg18
  let c0_146 : Index := 0#32
  ![v326.toNat, 0]
def k0_off15 (v325 : BitVec 32) : Fin 2 → Nat :=
  let v328 : Index := Scalar.indexCast v325
  let c0_147 : Index := 0#32
  ![v328.toNat, 0]

def k0_off16 (v325 : BitVec 32) : Fin 2 → Nat :=
  let c3_i32 : BitVec 32 := 3#32
  let v330 : BitVec 32 := Scalar.shrsi v325 c3_i32
  let v331 : Index := Scalar.indexCast v330
  let c0_148 : Index := 0#32
  ![v331.toNat, 0]
def k0_off17 (v325 : BitVec 32) : Fin 1 → Nat :=
  let v333 : Index := Scalar.indexCast v325
  ![v333.toNat]

def k0_chk5 (v325 : BitVec 32) : Prop :=
  (∀ a, (k0_off15 v325) a + S1x2048.size a ≤ S2048x2048.size a) ∧
  (∀ a, (k0_off16 v325) a + S1x2048.size a ≤ S256x2048.size a) ∧
  (∀ a, (k0_off17 v325) a + S1.size a ≤ S2048.size a)
theorem k0_off15_inb : ∀ (v325 : BitVec 32) (k0_hw5 : k0_chk5 v325), ∀ a, (k0_off15 v325) a + S1x2048.size a ≤ S2048x2048.size a := fun v325 k0_hw5 => k0_hw5.1
theorem k0_off16_inb : ∀ (v325 : BitVec 32) (k0_hw5 : k0_chk5 v325), ∀ a, (k0_off16 v325) a + S1x2048.size a ≤ S256x2048.size a := fun v325 k0_hw5 => k0_hw5.2.1
theorem k0_off17_inb : ∀ (v325 : BitVec 32) (k0_hw5 : k0_chk5 v325), ∀ a, (k0_off17 v325) a + S1.size a ≤ S2048.size a := fun v325 k0_hw5 => k0_hw5.2.2

@[reducible] def k0_t6_loop (v4 : BitVec 32) : Scf.Loop 32 :=
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let v25 : BitVec 32 := Scalar.addi c0_i32_8 v24
  let c1_i32_12 : BitVec 32 := 1#32
  ⟨v28, v25, c1_i32_12⟩
@[reducible] def k0_t7_loop (v4 : BitVec 32) (k0_t6 : Fin (k0_t6_loop v4).trips) : Scf.Loop 32 :=
  let c0_i32_16 : BitVec 32 := 0#32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let c1_i32_19 : BitVec 32 := 1#32
  ⟨c0_i32_16, v41, c1_i32_19⟩
def k0_off18 (i : grid0.Coords) (v4 : BitVec 32) (k0_t6 : Fin (k0_t6_loop v4).trips) (k0_t7 : Fin (k0_t7_loop v4 k0_t6).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v322 : BitVec 32 := Scalar.addi v321 v34
  let c0_i32_16 : BitVec 32 := 0#32
  let c1_i32_19 : BitVec 32 := 1#32
  let arg18 : BitVec 32 := Scf.iv c0_i32_16 c1_i32_19 k0_t7
  let v323 : BitVec 32 := Scalar.addi v322 arg18
  let v324 : Index := Scalar.indexCast v323
  ![v324.toNat]
def k0_off19 (v325 : BitVec 32) : Fin 2 → Nat :=
  let c3_i32 : BitVec 32 := 3#32
  let v326 : BitVec 32 := Scalar.shrsi v325 c3_i32
  let v327 : Index := Scalar.indexCast v326
  let c0_146 : Index := 0#32
  ![v327.toNat, 0]

def k0_chk6 (v325 : BitVec 32) : Prop :=
  (∀ a, (k0_off19 v325) a + S1x2048.size a ≤ S256x2048.size a)
theorem k0_off19_inb : ∀ (v325 : BitVec 32) (k0_hw6 : k0_chk6 v325), ∀ a, (k0_off19 v325) a + S1x2048.size a ≤ S256x2048.size a := fun v325 k0_hw6 => k0_hw6

def k0_off20 (v4 : BitVec 32) (k0_t6 : Fin (k0_t6_loop v4).trips) (k0_t7 : Fin (k0_t7_loop v4 k0_t6).trips) : Fin 2 → Nat :=
  let c0_i32_16 : BitVec 32 := 0#32
  let c1_i32_19 : BitVec 32 := 1#32
  let arg18 : BitVec 32 := Scf.iv c0_i32_16 c1_i32_19 k0_t7
  let v329 : Index := Scalar.indexCast arg18
  let c0_147 : Index := 0#32
  ![v329.toNat, 0]
@[reducible] def k0_t8_loop (v4 : BitVec 32) (k0_t6 : Fin (k0_t6_loop v4).trips) : Scf.Loop 32 :=
  let c0_i32_16 : BitVec 32 := 0#32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let v38 : BitVec 32 := Scalar.addi c0_i32_16 v37
  let c1_i32_20 : BitVec 32 := 1#32
  ⟨v41, v38, c1_i32_20⟩
def k0_off21 (i : grid0.Coords) (v4 : BitVec 32) (k0_t6 : Fin (k0_t6_loop v4).trips) (k0_t8 : Fin (k0_t8_loop v4 k0_t6).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v322 : BitVec 32 := Scalar.addi v321 v34
  let c0_i32_16 : BitVec 32 := 0#32
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let c1_i32_20 : BitVec 32 := 1#32
  let arg18 : BitVec 32 := Scf.iv v41 c1_i32_20 k0_t8
  let v323 : BitVec 32 := Scalar.addi v322 arg18
  let v324 : Index := Scalar.indexCast v323
  ![v324.toNat]
def k0_off22 (v325 : BitVec 32) : Fin 2 → Nat :=
  let c3_i32 : BitVec 32 := 3#32
  let v326 : BitVec 32 := Scalar.shrsi v325 c3_i32
  let v327 : Index := Scalar.indexCast v326
  let c0_146 : Index := 0#32
  ![v327.toNat, 0]

def k0_chk7 (v325 : BitVec 32) : Prop :=
  (∀ a, (k0_off22 v325) a + S1x2048.size a ≤ S256x2048.size a)
theorem k0_off22_inb : ∀ (v325 : BitVec 32) (k0_hw7 : k0_chk7 v325), ∀ a, (k0_off22 v325) a + S1x2048.size a ≤ S256x2048.size a := fun v325 k0_hw7 => k0_hw7

def k0_off23 (v4 : BitVec 32) (k0_t6 : Fin (k0_t6_loop v4).trips) (k0_t8 : Fin (k0_t8_loop v4 k0_t6).trips) : Fin 2 → Nat :=
  let c0_i32_16 : BitVec 32 := 0#32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v37 : BitVec 32 := Scalar.subi v36 c0_i32_16
  let c1_i32_18 : BitVec 32 := 1#32
  let v39 : BitVec 32 := Scalar.divsi v37 c1_i32_18
  let v40 : BitVec 32 := Scalar.muli v39 c1_i32_18
  let v41 : BitVec 32 := Scalar.addi c0_i32_16 v40
  let c1_i32_20 : BitVec 32 := 1#32
  let arg18 : BitVec 32 := Scf.iv v41 c1_i32_20 k0_t8
  let v329 : Index := Scalar.indexCast arg18
  let c0_147 : Index := 0#32
  ![v329.toNat, 0]
@[reducible] def k0_t9_loop (v4 : BitVec 32) (k0_t6 : Fin (k0_t6_loop v4).trips) : Scf.Loop 32 :=
  let c0_i32_140 : BitVec 32 := 0#32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let c1_i32_143 : BitVec 32 := 1#32
  ⟨c0_i32_140, v318, c1_i32_143⟩
def k0_off24 (i : grid0.Coords) (v4 : BitVec 32) (k0_t6 : Fin (k0_t6_loop v4).trips) (k0_t9 : Fin (k0_t9_loop v4 k0_t6).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v322 : BitVec 32 := Scalar.addi v321 v34
  let c0_i32_140 : BitVec 32 := 0#32
  let c1_i32_143 : BitVec 32 := 1#32
  let arg18 : BitVec 32 := Scf.iv c0_i32_140 c1_i32_143 k0_t9
  let v323 : BitVec 32 := Scalar.addi v322 arg18
  let v324 : Index := Scalar.indexCast v323
  ![v324.toNat]
def k0_off25 (v4 : BitVec 32) (k0_t6 : Fin (k0_t6_loop v4).trips) (k0_t9 : Fin (k0_t9_loop v4 k0_t6).trips) : Fin 2 → Nat :=
  let c0_i32_140 : BitVec 32 := 0#32
  let c1_i32_143 : BitVec 32 := 1#32
  let arg18 : BitVec 32 := Scf.iv c0_i32_140 c1_i32_143 k0_t9
  let v326 : Index := Scalar.indexCast arg18
  let c0_146 : Index := 0#32
  ![v326.toNat, 0]
def k0_off26 (v325 : BitVec 32) : Fin 2 → Nat :=
  let v328 : Index := Scalar.indexCast v325
  let c0_147 : Index := 0#32
  ![v328.toNat, 0]

def k0_off27 (v325 : BitVec 32) : Fin 2 → Nat :=
  let c3_i32 : BitVec 32 := 3#32
  let v330 : BitVec 32 := Scalar.shrsi v325 c3_i32
  let v331 : Index := Scalar.indexCast v330
  let c0_148 : Index := 0#32
  ![v331.toNat, 0]
def k0_off28 (v325 : BitVec 32) : Fin 1 → Nat :=
  let v333 : Index := Scalar.indexCast v325
  ![v333.toNat]

def k0_chk8 (v325 : BitVec 32) : Prop :=
  (∀ a, (k0_off26 v325) a + S1x2048.size a ≤ S2048x2048.size a) ∧
  (∀ a, (k0_off27 v325) a + S1x2048.size a ≤ S256x2048.size a) ∧
  (∀ a, (k0_off28 v325) a + S1.size a ≤ S2048.size a)
theorem k0_off26_inb : ∀ (v325 : BitVec 32) (k0_hw8 : k0_chk8 v325), ∀ a, (k0_off26 v325) a + S1x2048.size a ≤ S2048x2048.size a := fun v325 k0_hw8 => k0_hw8.1
theorem k0_off27_inb : ∀ (v325 : BitVec 32) (k0_hw8 : k0_chk8 v325), ∀ a, (k0_off27 v325) a + S1x2048.size a ≤ S256x2048.size a := fun v325 k0_hw8 => k0_hw8.2.1
theorem k0_off28_inb : ∀ (v325 : BitVec 32) (k0_hw8 : k0_chk8 v325), ∀ a, (k0_off28 v325) a + S1.size a ≤ S2048.size a := fun v325 k0_hw8 => k0_hw8.2.2

@[reducible] def k0_t10_loop (v4 : BitVec 32) (k0_t6 : Fin (k0_t6_loop v4).trips) : Scf.Loop 32 :=
  let c0_i32_140 : BitVec 32 := 0#32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let v315 : BitVec 32 := Scalar.addi c0_i32_140 v314
  let c1_i32_144 : BitVec 32 := 1#32
  ⟨v318, v315, c1_i32_144⟩
def k0_off29 (i : grid0.Coords) (v4 : BitVec 32) (k0_t6 : Fin (k0_t6_loop v4).trips) (k0_t10 : Fin (k0_t10_loop v4 k0_t6).trips) : Fin 1 → Nat :=
  let arg0 : BitVec 32 := BitVec.ofNat 32 (i 0).val
  let c256_i32 : BitVec 32 := 256#32
  let v321 : BitVec 32 := Scalar.muli arg0 c256_i32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v322 : BitVec 32 := Scalar.addi v321 v34
  let c0_i32_140 : BitVec 32 := 0#32
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let c1_i32_144 : BitVec 32 := 1#32
  let arg18 : BitVec 32 := Scf.iv v318 c1_i32_144 k0_t10
  let v323 : BitVec 32 := Scalar.addi v322 arg18
  let v324 : Index := Scalar.indexCast v323
  ![v324.toNat]
def k0_off30 (v4 : BitVec 32) (k0_t6 : Fin (k0_t6_loop v4).trips) (k0_t10 : Fin (k0_t10_loop v4 k0_t6).trips) : Fin 2 → Nat :=
  let c0_i32_140 : BitVec 32 := 0#32
  let c0_i32_8 : BitVec 32 := 0#32
  let c64_i32 : BitVec 32 := 64#32
  let v5 : BitVec 32 := Scalar.addi v4 c64_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32_1 : BitVec 32 := 64#32
  let c0_i32_4 : BitVec 32 := 0#32
  let v13 : BitVec 1 := Scalar.cmpi .sgt c64_i32_1 c0_i32_4
  let v14 : BitVec 32 := Scalar.extui v13
  let c0_i32_5 : BitVec 32 := 0#32
  let v15 : BitVec 1 := Scalar.cmpi .slt c64_i32_1 c0_i32_5
  let v16 : BitVec 32 := Scalar.extui v15
  let v17 : BitVec 32 := Scalar.subi v14 v16
  let v18 : BitVec 1 := Scalar.cmpi .ne v12 v17
  let v19 : BitVec 32 := Scalar.remsi v6 c64_i32_1
  let c0_i32_6 : BitVec 32 := 0#32
  let v20 : BitVec 1 := Scalar.cmpi .ne v19 c0_i32_6
  let v21 : BitVec 1 := Scalar.andi v18 v20
  let v7 : BitVec 32 := Scalar.divsi v6 c64_i32_1
  let c1_i32_7 : BitVec 32 := 1#32
  let v22 : BitVec 32 := Scalar.subi v7 c1_i32_7
  let v23 : BitVec 32 := Scalar.select v21 v22 v7
  let v24 : BitVec 32 := Scalar.subi v23 c0_i32_8
  let c1_i32_10 : BitVec 32 := 1#32
  let v26 : BitVec 32 := Scalar.divsi v24 c1_i32_10
  let v27 : BitVec 32 := Scalar.muli v26 c1_i32_10
  let v28 : BitVec 32 := Scalar.addi c0_i32_8 v27
  let c1_i32_12 : BitVec 32 := 1#32
  let arg16 : BitVec 32 := Scf.iv v28 c1_i32_12 k0_t6
  let c64_i32_14 : BitVec 32 := 64#32
  let v34 : BitVec 32 := Scalar.muli arg16 c64_i32_14
  let v35 : BitVec 32 := Scalar.subi v4 v34
  let c64_i32_15 : BitVec 32 := 64#32
  let v36 : BitVec 32 := Scalar.minsi v35 c64_i32_15
  let v314 : BitVec 32 := Scalar.subi v36 c0_i32_140
  let c1_i32_142 : BitVec 32 := 1#32
  let v316 : BitVec 32 := Scalar.divsi v314 c1_i32_142
  let v317 : BitVec 32 := Scalar.muli v316 c1_i32_142
  let v318 : BitVec 32 := Scalar.addi c0_i32_140 v317
  let c1_i32_144 : BitVec 32 := 1#32
  let arg18 : BitVec 32 := Scf.iv v318 c1_i32_144 k0_t10
  let v326 : Index := Scalar.indexCast arg18
  let c0_146 : Index := 0#32
  ![v326.toNat, 0]

def k0_chk1 (i : grid0.Coords) (v4 : BitVec 32) : Prop :=
  ((k0_t1_loop v4).OK) ∧
  (∀ k0_t1 : Fin (k0_t1_loop v4).trips, (k0_t2_loop v4 k0_t1).OK) ∧
  (∀ (k0_t1 : Fin (k0_t1_loop v4).trips) (k0_t2 : Fin (k0_t2_loop v4 k0_t1).trips), ∀ a, (k0_off2 i v4 k0_t1 k0_t2) a + S1.size a ≤ S12288.size a) ∧
  (∀ (k0_t1 : Fin (k0_t1_loop v4).trips) (k0_t2 : Fin (k0_t2_loop v4 k0_t1).trips), ∀ a, (k0_off4 v4 k0_t1 k0_t2) a + S1x2048.size a ≤ S64x2048.size a) ∧
  (∀ k0_t1 : Fin (k0_t1_loop v4).trips, (k0_t3_loop v4 k0_t1).OK) ∧
  (∀ (k0_t1 : Fin (k0_t1_loop v4).trips) (k0_t3 : Fin (k0_t3_loop v4 k0_t1).trips), ∀ a, (k0_off5 i v4 k0_t1 k0_t3) a + S1.size a ≤ S12288.size a) ∧
  (∀ (k0_t1 : Fin (k0_t1_loop v4).trips) (k0_t3 : Fin (k0_t3_loop v4 k0_t1).trips), ∀ a, (k0_off7 v4 k0_t1 k0_t3) a + S1x2048.size a ≤ S64x2048.size a) ∧
  (∀ k0_t1 : Fin (k0_t1_loop v4).trips, (k0_t4_loop v4 k0_t1).OK) ∧
  (∀ (k0_t1 : Fin (k0_t1_loop v4).trips) (k0_t4 : Fin (k0_t4_loop v4 k0_t1).trips), ∀ a, (k0_off8 i v4 k0_t1 k0_t4) a + S1.size a ≤ S12288.size a) ∧
  (∀ (k0_t1 : Fin (k0_t1_loop v4).trips) (k0_t4 : Fin (k0_t4_loop v4 k0_t1).trips), ∀ a, (k0_off9 v4 k0_t1 k0_t4) a + S1x2048.size a ≤ S64x2048.size a) ∧
  (∀ k0_t1 : Fin (k0_t1_loop v4).trips, (k0_t5_loop v4 k0_t1).OK) ∧
  (∀ (k0_t1 : Fin (k0_t1_loop v4).trips) (k0_t5 : Fin (k0_t5_loop v4 k0_t1).trips), ∀ a, (k0_off13 i v4 k0_t1 k0_t5) a + S1.size a ≤ S12288.size a) ∧
  (∀ (k0_t1 : Fin (k0_t1_loop v4).trips) (k0_t5 : Fin (k0_t5_loop v4 k0_t1).trips), ∀ a, (k0_off14 v4 k0_t1 k0_t5) a + S1x2048.size a ≤ S64x2048.size a) ∧
  ((k0_t6_loop v4).OK) ∧
  (∀ k0_t6 : Fin (k0_t6_loop v4).trips, (k0_t7_loop v4 k0_t6).OK) ∧
  (∀ (k0_t6 : Fin (k0_t6_loop v4).trips) (k0_t7 : Fin (k0_t7_loop v4 k0_t6).trips), ∀ a, (k0_off18 i v4 k0_t6 k0_t7) a + S1.size a ≤ S12288.size a) ∧
  (∀ (k0_t6 : Fin (k0_t6_loop v4).trips) (k0_t7 : Fin (k0_t7_loop v4 k0_t6).trips), ∀ a, (k0_off20 v4 k0_t6 k0_t7) a + S1x2048.size a ≤ S64x2048.size a) ∧
  (∀ k0_t6 : Fin (k0_t6_loop v4).trips, (k0_t8_loop v4 k0_t6).OK) ∧
  (∀ (k0_t6 : Fin (k0_t6_loop v4).trips) (k0_t8 : Fin (k0_t8_loop v4 k0_t6).trips), ∀ a, (k0_off21 i v4 k0_t6 k0_t8) a + S1.size a ≤ S12288.size a) ∧
  (∀ (k0_t6 : Fin (k0_t6_loop v4).trips) (k0_t8 : Fin (k0_t8_loop v4 k0_t6).trips), ∀ a, (k0_off23 v4 k0_t6 k0_t8) a + S1x2048.size a ≤ S64x2048.size a) ∧
  (∀ k0_t6 : Fin (k0_t6_loop v4).trips, (k0_t9_loop v4 k0_t6).OK) ∧
  (∀ (k0_t6 : Fin (k0_t6_loop v4).trips) (k0_t9 : Fin (k0_t9_loop v4 k0_t6).trips), ∀ a, (k0_off24 i v4 k0_t6 k0_t9) a + S1.size a ≤ S12288.size a) ∧
  (∀ (k0_t6 : Fin (k0_t6_loop v4).trips) (k0_t9 : Fin (k0_t9_loop v4 k0_t6).trips), ∀ a, (k0_off25 v4 k0_t6 k0_t9) a + S1x2048.size a ≤ S64x2048.size a) ∧
  (∀ k0_t6 : Fin (k0_t6_loop v4).trips, (k0_t10_loop v4 k0_t6).OK) ∧
  (∀ (k0_t6 : Fin (k0_t6_loop v4).trips) (k0_t10 : Fin (k0_t10_loop v4 k0_t6).trips), ∀ a, (k0_off29 i v4 k0_t6 k0_t10) a + S1.size a ≤ S12288.size a) ∧
  (∀ (k0_t6 : Fin (k0_t6_loop v4).trips) (k0_t10 : Fin (k0_t10_loop v4 k0_t6).trips), ∀ a, (k0_off30 v4 k0_t6 k0_t10) a + S1x2048.size a ≤ S64x2048.size a)
theorem k0_t1_ok : ∀ (i : grid0.Coords) (v4 : BitVec 32) (k0_hw1 : k0_chk1 i v4), (k0_t1_loop v4).OK := fun i v4 k0_hw1 => k0_hw1.1
theorem k0_t2_ok : ∀ (i : grid0.Coords) (v4 : BitVec 32) (k0_hw1 : k0_chk1 i v4) (k0_t1 : Fin (k0_t1_loop v4).trips), (k0_t2_loop v4 k0_t1).OK := fun i v4 k0_hw1 k0_t1 => k0_hw1.2.1 k0_t1
theorem k0_off2_inb : ∀ (i : grid0.Coords) (v4 : BitVec 32) (k0_hw1 : k0_chk1 i v4) (k0_t1 : Fin (k0_t1_loop v4).trips) (k0_t2 : Fin (k0_t2_loop v4 k0_t1).trips), ∀ a, (k0_off2 i v4 k0_t1 k0_t2) a + S1.size a ≤ S12288.size a := fun i v4 k0_hw1 k0_t1 k0_t2 => k0_hw1.2.2.1 k0_t1 k0_t2
theorem k0_off4_inb : ∀ (i : grid0.Coords) (v4 : BitVec 32) (k0_hw1 : k0_chk1 i v4) (k0_t1 : Fin (k0_t1_loop v4).trips) (k0_t2 : Fin (k0_t2_loop v4 k0_t1).trips), ∀ a, (k0_off4 v4 k0_t1 k0_t2) a + S1x2048.size a ≤ S64x2048.size a := fun i v4 k0_hw1 k0_t1 k0_t2 => k0_hw1.2.2.2.1 k0_t1 k0_t2
theorem k0_t3_ok : ∀ (i : grid0.Coords) (v4 : BitVec 32) (k0_hw1 : k0_chk1 i v4) (k0_t1 : Fin (k0_t1_loop v4).trips), (k0_t3_loop v4 k0_t1).OK := fun i v4 k0_hw1 k0_t1 => k0_hw1.2.2.2.2.1 k0_t1
theorem k0_off5_inb : ∀ (i : grid0.Coords) (v4 : BitVec 32) (k0_hw1 : k0_chk1 i v4) (k0_t1 : Fin (k0_t1_loop v4).trips) (k0_t3 : Fin (k0_t3_loop v4 k0_t1).trips), ∀ a, (k0_off5 i v4 k0_t1 k0_t3) a + S1.size a ≤ S12288.size a := fun i v4 k0_hw1 k0_t1 k0_t3 => k0_hw1.2.2.2.2.2.1 k0_t1 k0_t3
theorem k0_off7_inb : ∀ (i : grid0.Coords) (v4 : BitVec 32) (k0_hw1 : k0_chk1 i v4) (k0_t1 : Fin (k0_t1_loop v4).trips) (k0_t3 : Fin (k0_t3_loop v4 k0_t1).trips), ∀ a, (k0_off7 v4 k0_t1 k0_t3) a + S1x2048.size a ≤ S64x2048.size a := fun i v4 k0_hw1 k0_t1 k0_t3 => k0_hw1.2.2.2.2.2.2.1 k0_t1 k0_t3
theorem k0_t4_ok : ∀ (i : grid0.Coords) (v4 : BitVec 32) (k0_hw1 : k0_chk1 i v4) (k0_t1 : Fin (k0_t1_loop v4).trips), (k0_t4_loop v4 k0_t1).OK := fun i v4 k0_hw1 k0_t1 => k0_hw1.2.2.2.2.2.2.2.1 k0_t1
theorem k0_off8_inb : ∀ (i : grid0.Coords) (v4 : BitVec 32) (k0_hw1 : k0_chk1 i v4) (k0_t1 : Fin (k0_t1_loop v4).trips) (k0_t4 : Fin (k0_t4_loop v4 k0_t1).trips), ∀ a, (k0_off8 i v4 k0_t1 k0_t4) a + S1.size a ≤ S12288.size a := fun i v4 k0_hw1 k0_t1 k0_t4 => k0_hw1.2.2.2.2.2.2.2.2.1 k0_t1 k0_t4
theorem k0_off9_inb : ∀ (i : grid0.Coords) (v4 : BitVec 32) (k0_hw1 : k0_chk1 i v4) (k0_t1 : Fin (k0_t1_loop v4).trips) (k0_t4 : Fin (k0_t4_loop v4 k0_t1).trips), ∀ a, (k0_off9 v4 k0_t1 k0_t4) a + S1x2048.size a ≤ S64x2048.size a := fun i v4 k0_hw1 k0_t1 k0_t4 => k0_hw1.2.2.2.2.2.2.2.2.2.1 k0_t1 k0_t4
theorem k0_t5_ok : ∀ (i : grid0.Coords) (v4 : BitVec 32) (k0_hw1 : k0_chk1 i v4) (k0_t1 : Fin (k0_t1_loop v4).trips), (k0_t5_loop v4 k0_t1).OK := fun i v4 k0_hw1 k0_t1 => k0_hw1.2.2.2.2.2.2.2.2.2.2.1 k0_t1
theorem k0_off13_inb : ∀ (i : grid0.Coords) (v4 : BitVec 32) (k0_hw1 : k0_chk1 i v4) (k0_t1 : Fin (k0_t1_loop v4).trips) (k0_t5 : Fin (k0_t5_loop v4 k0_t1).trips), ∀ a, (k0_off13 i v4 k0_t1 k0_t5) a + S1.size a ≤ S12288.size a := fun i v4 k0_hw1 k0_t1 k0_t5 => k0_hw1.2.2.2.2.2.2.2.2.2.2.2.1 k0_t1 k0_t5
theorem k0_off14_inb : ∀ (i : grid0.Coords) (v4 : BitVec 32) (k0_hw1 : k0_chk1 i v4) (k0_t1 : Fin (k0_t1_loop v4).trips) (k0_t5 : Fin (k0_t5_loop v4 k0_t1).trips), ∀ a, (k0_off14 v4 k0_t1 k0_t5) a + S1x2048.size a ≤ S64x2048.size a := fun i v4 k0_hw1 k0_t1 k0_t5 => k0_hw1.2.2.2.2.2.2.2.2.2.2.2.2.1 k0_t1 k0_t5
theorem k0_t6_ok : ∀ (i : grid0.Coords) (v4 : BitVec 32) (k0_hw1 : k0_chk1 i v4), (k0_t6_loop v4).OK := fun i v4 k0_hw1 => k0_hw1.2.2.2.2.2.2.2.2.2.2.2.2.2.1
theorem k0_t7_ok : ∀ (i : grid0.Coords) (v4 : BitVec 32) (k0_hw1 : k0_chk1 i v4) (k0_t6 : Fin (k0_t6_loop v4).trips), (k0_t7_loop v4 k0_t6).OK := fun i v4 k0_hw1 k0_t6 => k0_hw1.2.2.2.2.2.2.2.2.2.2.2.2.2.2.1 k0_t6
theorem k0_off18_inb : ∀ (i : grid0.Coords) (v4 : BitVec 32) (k0_hw1 : k0_chk1 i v4) (k0_t6 : Fin (k0_t6_loop v4).trips) (k0_t7 : Fin (k0_t7_loop v4 k0_t6).trips), ∀ a, (k0_off18 i v4 k0_t6 k0_t7) a + S1.size a ≤ S12288.size a := fun i v4 k0_hw1 k0_t6 k0_t7 => k0_hw1.2.2.2.2.2.2.2.2.2.2.2.2.2.2.2.1 k0_t6 k0_t7
theorem k0_off20_inb : ∀ (i : grid0.Coords) (v4 : BitVec 32) (k0_hw1 : k0_chk1 i v4) (k0_t6 : Fin (k0_t6_loop v4).trips) (k0_t7 : Fin (k0_t7_loop v4 k0_t6).trips), ∀ a, (k0_off20 v4 k0_t6 k0_t7) a + S1x2048.size a ≤ S64x2048.size a := fun i v4 k0_hw1 k0_t6 k0_t7 => k0_hw1.2.2.2.2.2.2.2.2.2.2.2.2.2.2.2.2.1 k0_t6 k0_t7
theorem k0_t8_ok : ∀ (i : grid0.Coords) (v4 : BitVec 32) (k0_hw1 : k0_chk1 i v4) (k0_t6 : Fin (k0_t6_loop v4).trips), (k0_t8_loop v4 k0_t6).OK := fun i v4 k0_hw1 k0_t6 => k0_hw1.2.2.2.2.2.2.2.2.2.2.2.2.2.2.2.2.2.1 k0_t6
theorem k0_off21_inb : ∀ (i : grid0.Coords) (v4 : BitVec 32) (k0_hw1 : k0_chk1 i v4) (k0_t6 : Fin (k0_t6_loop v4).trips) (k0_t8 : Fin (k0_t8_loop v4 k0_t6).trips), ∀ a, (k0_off21 i v4 k0_t6 k0_t8) a + S1.size a ≤ S12288.size a := fun i v4 k0_hw1 k0_t6 k0_t8 => k0_hw1.2.2.2.2.2.2.2.2.2.2.2.2.2.2.2.2.2.2.1 k0_t6 k0_t8
theorem k0_off23_inb : ∀ (i : grid0.Coords) (v4 : BitVec 32) (k0_hw1 : k0_chk1 i v4) (k0_t6 : Fin (k0_t6_loop v4).trips) (k0_t8 : Fin (k0_t8_loop v4 k0_t6).trips), ∀ a, (k0_off23 v4 k0_t6 k0_t8) a + S1x2048.size a ≤ S64x2048.size a := fun i v4 k0_hw1 k0_t6 k0_t8 => k0_hw1.2.2.2.2.2.2.2.2.2.2.2.2.2.2.2.2.2.2.2.1 k0_t6 k0_t8
theorem k0_t9_ok : ∀ (i : grid0.Coords) (v4 : BitVec 32) (k0_hw1 : k0_chk1 i v4) (k0_t6 : Fin (k0_t6_loop v4).trips), (k0_t9_loop v4 k0_t6).OK := fun i v4 k0_hw1 k0_t6 => k0_hw1.2.2.2.2.2.2.2.2.2.2.2.2.2.2.2.2.2.2.2.2.1 k0_t6
theorem k0_off24_inb : ∀ (i : grid0.Coords) (v4 : BitVec 32) (k0_hw1 : k0_chk1 i v4) (k0_t6 : Fin (k0_t6_loop v4).trips) (k0_t9 : Fin (k0_t9_loop v4 k0_t6).trips), ∀ a, (k0_off24 i v4 k0_t6 k0_t9) a + S1.size a ≤ S12288.size a := fun i v4 k0_hw1 k0_t6 k0_t9 => k0_hw1.2.2.2.2.2.2.2.2.2.2.2.2.2.2.2.2.2.2.2.2.2.1 k0_t6 k0_t9
theorem k0_off25_inb : ∀ (i : grid0.Coords) (v4 : BitVec 32) (k0_hw1 : k0_chk1 i v4) (k0_t6 : Fin (k0_t6_loop v4).trips) (k0_t9 : Fin (k0_t9_loop v4 k0_t6).trips), ∀ a, (k0_off25 v4 k0_t6 k0_t9) a + S1x2048.size a ≤ S64x2048.size a := fun i v4 k0_hw1 k0_t6 k0_t9 => k0_hw1.2.2.2.2.2.2.2.2.2.2.2.2.2.2.2.2.2.2.2.2.2.2.1 k0_t6 k0_t9
theorem k0_t10_ok : ∀ (i : grid0.Coords) (v4 : BitVec 32) (k0_hw1 : k0_chk1 i v4) (k0_t6 : Fin (k0_t6_loop v4).trips), (k0_t10_loop v4 k0_t6).OK := fun i v4 k0_hw1 k0_t6 => k0_hw1.2.2.2.2.2.2.2.2.2.2.2.2.2.2.2.2.2.2.2.2.2.2.2.1 k0_t6
theorem k0_off29_inb : ∀ (i : grid0.Coords) (v4 : BitVec 32) (k0_hw1 : k0_chk1 i v4) (k0_t6 : Fin (k0_t6_loop v4).trips) (k0_t10 : Fin (k0_t10_loop v4 k0_t6).trips), ∀ a, (k0_off29 i v4 k0_t6 k0_t10) a + S1.size a ≤ S12288.size a := fun i v4 k0_hw1 k0_t6 k0_t10 => k0_hw1.2.2.2.2.2.2.2.2.2.2.2.2.2.2.2.2.2.2.2.2.2.2.2.2.1 k0_t6 k0_t10
theorem k0_off30_inb : ∀ (i : grid0.Coords) (v4 : BitVec 32) (k0_hw1 : k0_chk1 i v4) (k0_t6 : Fin (k0_t6_loop v4).trips) (k0_t10 : Fin (k0_t10_loop v4 k0_t6).trips), ∀ a, (k0_off30 v4 k0_t6 k0_t10) a + S1x2048.size a ≤ S64x2048.size a := fun i v4 k0_hw1 k0_t6 k0_t10 => k0_hw1.2.2.2.2.2.2.2.2.2.2.2.2.2.2.2.2.2.2.2.2.2.2.2.2.2 k0_t6 k0_t10

def k0_off31 (v325 : BitVec 32) : Fin 2 → Nat :=
  let v328 : Index := Scalar.indexCast v325
  let c0_147 : Index := 0#32
  ![v328.toNat, 0]

def k0_off32 (v325 : BitVec 32) : Fin 2 → Nat :=
  let c3_i32 : BitVec 32 := 3#32
  let v330 : BitVec 32 := Scalar.shrsi v325 c3_i32
  let v331 : Index := Scalar.indexCast v330
  let c0_148 : Index := 0#32
  ![v331.toNat, 0]
def k0_off33 (v325 : BitVec 32) : Fin 1 → Nat :=
  let v333 : Index := Scalar.indexCast v325
  ![v333.toNat]

def k0_chk9 (v325 : BitVec 32) : Prop :=
  (∀ a, (k0_off31 v325) a + S1x2048.size a ≤ S2048x2048.size a) ∧
  (∀ a, (k0_off32 v325) a + S1x2048.size a ≤ S256x2048.size a) ∧
  (∀ a, (k0_off33 v325) a + S1.size a ≤ S2048.size a)
theorem k0_off31_inb : ∀ (v325 : BitVec 32) (k0_hw9 : k0_chk9 v325), ∀ a, (k0_off31 v325) a + S1x2048.size a ≤ S2048x2048.size a := fun v325 k0_hw9 => k0_hw9.1
theorem k0_off32_inb : ∀ (v325 : BitVec 32) (k0_hw9 : k0_chk9 v325), ∀ a, (k0_off32 v325) a + S1x2048.size a ≤ S256x2048.size a := fun v325 k0_hw9 => k0_hw9.2.1
theorem k0_off33_inb : ∀ (v325 : BitVec 32) (k0_hw9 : k0_chk9 v325), ∀ a, (k0_off33 v325) a + S1.size a ≤ S2048.size a := fun v325 k0_hw9 => k0_hw9.2.2

def k0_cond2 (i : grid0.Coords) : BitVec 1 :=
  let arg0 : BitVec 32 := BitVec.ofNat 32 (i 0).val
  let c47_i32 : BitVec 32 := 47#32
  let v31 : BitVec 1 := Scalar.cmpi .eq arg0 c47_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S256x1x2048 : Shape := ⟨3, ![256, 1, 2048]⟩
abbrev S256x1x8 : Shape := ⟨3, ![256, 1, 8]⟩
abbrev S128 : Shape := ⟨1, ![128]⟩
abbrev S48x2048x768 : Shape := ⟨3, ![48, 2048, 768]⟩
abbrev S48x16x768 : Shape := ⟨3, ![48, 16, 768]⟩
abbrev S48x768x1024 : Shape := ⟨3, ![48, 768, 1024]⟩
abbrev S48x6x2048 : Shape := ⟨3, ![48, 6, 2048]⟩
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S256 : Shape := ⟨1, ![256]⟩
abbrev S256x1 : Shape := ⟨2, ![256, 1]⟩
abbrev S48x16x128x768 : Shape := ⟨4, ![48, 16, 128, 768]⟩
abbrev S48x16x1x768 : Shape := ⟨4, ![48, 16, 1, 768]⟩
abbrev S256x48x768 : Shape := ⟨3, ![256, 48, 768]⟩
abbrev S48x6x1024 : Shape := ⟨3, ![48, 6, 1024]⟩
abbrev S48x6x128x1024 : Shape := ⟨4, ![48, 6, 128, 1024]⟩
abbrev S48x6x1x1024 : Shape := ⟨4, ![48, 6, 1, 1024]⟩
abbrev S48x256x1024 : Shape := ⟨3, ![48, 256, 1024]⟩
abbrev S48x256x2048 : Shape := ⟨3, ![48, 256, 2048]⟩
abbrev S256x8x2 : Shape := ⟨3, ![256, 8, 2]⟩
abbrev S256x8x2048 : Shape := ⟨3, ![256, 8, 2048]⟩
abbrev S2048x2048 : Shape := ⟨2, ![2048, 2048]⟩

abbrev nBuf : Space → Nat
  | .hbm => 162
  | .vmem => 0
  | .smem => 0
  | _ => 0

abbrev hbmTy0_0 (i : Nat) : BufTy := match i % 128 with
  | 0 => ⟨S256x1x2048, .bf16⟩
  | 1 => ⟨S256x1x8, .i32⟩
  | 2 => ⟨S256x1x8, .f32⟩
  | 3 => ⟨S128, .i32⟩
  | 4 => ⟨S48x2048x768, .i8⟩
  | 5 => ⟨S48x16x768, .bf16⟩
  | 6 => ⟨S48x16x768, .bf16⟩
  | 7 => ⟨S48x768x1024, .i8⟩
  | 8 => ⟨S48x6x2048, .bf16⟩
  | 9 => ⟨S256x2048, .bf16⟩
  | 10 => ⟨S256x8, .i32⟩
  | 11 => ⟨S256x8, .f32⟩
  | 12 => ⟨S_, .i32⟩
  | 13 => ⟨S256x8, .i32⟩
  | 14 => ⟨S256x8, .i1⟩
  | 15 => ⟨S_, .i32⟩
  | 16 => ⟨S256x8, .i32⟩
  | 17 => ⟨S256x8, .i32⟩
  | 18 => ⟨S256x8, .i32⟩
  | 19 => ⟨S256x8x1, .i32⟩
  | 20 => ⟨S256x8, .i32⟩
  | 21 => ⟨S_, .i32⟩
  | 22 => ⟨S256x8, .i32⟩
  | 23 => ⟨S256x8, .i1⟩
  | 24 => ⟨S256x8, .f32⟩
  | 25 => ⟨S_, .f32⟩
  | 26 => ⟨S256x8, .f32⟩
  | 27 => ⟨S256x8, .f32⟩
  | 28 => ⟨S256x8, .f32⟩
  | 29 => ⟨S_, .f32⟩
  | 30 => ⟨S256, .f32⟩
  | 31 => ⟨S256x8, .f32⟩
  | 32 => ⟨S_, .f32⟩
  | 33 => ⟨S256, .f32⟩
  | 34 => ⟨S256x8, .f32⟩
  | 35 => ⟨S_, .f32⟩
  | 36 => ⟨S256, .f32⟩
  | 37 => ⟨S256, .i1⟩
  | 38 => ⟨S_, .f32⟩
  | 39 => ⟨S_, .f32⟩
  | 40 => ⟨S256, .f32⟩
  | 41 => ⟨S256, .f32⟩
  | 42 => ⟨S256x1, .f32⟩
  | 43 => ⟨S256x8, .f32⟩
  | 44 => ⟨S256x8, .f32⟩
  | 45 => ⟨S48x2048x768, .i32⟩
  | 46 => ⟨S_, .i32⟩
  | 47 => ⟨S48x2048x768, .i32⟩
  | 48 => ⟨S48x2048x768, .i32⟩
  | 49 => ⟨S_, .i32⟩
  | 50 => ⟨S48x2048x768, .i32⟩
  | 51 => ⟨S48x2048x768, .i32⟩
  | 52 => ⟨S_, .i32⟩
  | 53 => ⟨S48x2048x768, .i32⟩
  | 54 => ⟨S48x2048x768, .i1⟩
  | 55 => ⟨S_, .i32⟩
  | 56 => ⟨S48x2048x768, .i32⟩
  | 57 => ⟨S48x2048x768, .i32⟩
  | 58 => ⟨S48x2048x768, .i32⟩
  | 59 => ⟨S_, .i32⟩
  | 60 => ⟨S48x2048x768, .i32⟩
  | 61 => ⟨S48x2048x768, .i1⟩
  | 62 => ⟨S_, .i32⟩
  | 63 => ⟨S48x2048x768, .i32⟩
  | 64 => ⟨S48x2048x768, .i32⟩
  | 65 => ⟨S48x2048x768, .i32⟩
  | 66 => ⟨S48x2048x768, .bf16⟩
  | 67 => ⟨S48x16x128x768, .bf16⟩
  | 68 => ⟨S48x16x1x768, .bf16⟩
  | 69 => ⟨S48x16x128x768, .bf16⟩
  | 70 => ⟨S48x16x128x768, .bf16⟩
  | 71 => ⟨S48x2048x768, .bf16⟩
  | 72 => ⟨S48x2048x768, .bf16⟩
  | 73 => ⟨S48x16x128x768, .bf16⟩
  | 74 => ⟨S48x16x1x768, .bf16⟩
  | 75 => ⟨S48x16x128x768, .bf16⟩
  | 76 => ⟨S48x16x128x768, .bf16⟩
  | 77 => ⟨S48x2048x768, .bf16⟩
  | 78 => ⟨S256x48x768, .f32⟩
  | 79 => ⟨S256x48x768, .f32⟩
  | 80 => ⟨S256x48x768, .f32⟩
  | 81 => ⟨S256x48x768, .f32⟩
  | 82 => ⟨S_, .f32⟩
  | 83 => ⟨S256x48x768, .f32⟩
  | 84 => ⟨S256x48x768, .f32⟩
  | 85 => ⟨S_, .f32⟩
  | 86 => ⟨S256x48x768, .f32⟩
  | 87 => ⟨S256x48x768, .f32⟩
  | 88 => ⟨S256x48x768, .f32⟩
  | 89 => ⟨S256x48x768, .f32⟩
  | 90 => ⟨S256x48x768, .bf16⟩
  | 91 => ⟨S48x768x1024, .i32⟩
  | 92 => ⟨S_, .i32⟩
  | 93 => ⟨S48x768x1024, .i32⟩
  | 94 => ⟨S48x768x1024, .i32⟩
  | 95 => ⟨S_, .i32⟩
  | 96 => ⟨S48x768x1024, .i32⟩
  | 97 => ⟨S48x768x1024, .i32⟩
  | 98 => ⟨S_, .i32⟩
  | 99 => ⟨S48x768x1024, .i32⟩
  | 100 => ⟨S48x768x1024, .i1⟩
  | 101 => ⟨S_, .i32⟩
  | 102 => ⟨S48x768x1024, .i32⟩
  | 103 => ⟨S48x768x1024, .i32⟩
  | 104 => ⟨S48x768x1024, .i32⟩
  | 105 => ⟨S_, .i32⟩
  | 106 => ⟨S48x768x1024, .i32⟩
  | 107 => ⟨S48x768x1024, .i1⟩
  | 108 => ⟨S_, .i32⟩
  | 109 => ⟨S48x768x1024, .i32⟩
  | 110 => ⟨S48x768x1024, .i32⟩
  | 111 => ⟨S48x768x1024, .i32⟩
  | 112 => ⟨S48x6x1024, .bf16⟩
  | 113 => ⟨S48x768x1024, .bf16⟩
  | 114 => ⟨S48x6x128x1024, .bf16⟩
  | 115 => ⟨S48x6x1x1024, .bf16⟩
  | 116 => ⟨S48x6x128x1024, .bf16⟩
  | 117 => ⟨S48x6x128x1024, .bf16⟩
  | 118 => ⟨S48x768x1024, .bf16⟩
  | 119 => ⟨S48x6x1024, .bf16⟩
  | 120 => ⟨S48x768x1024, .bf16⟩
  | 121 => ⟨S48x6x128x1024, .bf16⟩
  | 122 => ⟨S48x6x1x1024, .bf16⟩
  | 123 => ⟨S48x6x128x1024, .bf16⟩
  | 124 => ⟨S48x6x128x1024, .bf16⟩
  | 125 => ⟨S48x768x1024, .bf16⟩
  | 126 => ⟨S48x256x1024, .f32⟩
  | 127 => ⟨S48x256x1024, .f32⟩
  | _ => ⟨S256x1x2048, .bf16⟩

abbrev hbmTy0_1 (i : Nat) : BufTy := match i % 128 with
  | 0 => ⟨S48x256x2048, .f32⟩
  | 1 => ⟨S_, .i32⟩
  | 2 => ⟨S256x8, .i32⟩
  | 3 => ⟨S256x8, .i32⟩
  | 4 => ⟨S256, .i32⟩
  | 5 => ⟨S256x1, .i32⟩
  | 6 => ⟨S_, .i32⟩
  | 7 => ⟨S256x8, .i32⟩
  | 8 => ⟨S256x8, .i1⟩
  | 9 => ⟨S_, .i32⟩
  | 10 => ⟨S256x8, .i32⟩
  | 11 => ⟨S256x8, .i32⟩
  | 12 => ⟨S256x8, .i32⟩
  | 13 => ⟨S_, .i32⟩
  | 14 => ⟨S256x1, .i32⟩
  | 15 => ⟨S256x1, .i1⟩
  | 16 => ⟨S_, .i32⟩
  | 17 => ⟨S256x1, .i32⟩
  | 18 => ⟨S256x1, .i32⟩
  | 19 => ⟨S256x1, .i32⟩
  | 20 => ⟨S256x8, .i32⟩
  | 21 => ⟨S256x8x1, .i32⟩
  | 22 => ⟨S256x8x1, .i32⟩
  | 23 => ⟨S256x8x2, .i32⟩
  | 24 => ⟨S256x8x2048, .f32⟩
  | 25 => ⟨S256x8x1, .i1⟩
  | 26 => ⟨S_, .f32⟩
  | 27 => ⟨S_, .f32⟩
  | 28 => ⟨S256x8x2048, .i1⟩
  | 29 => ⟨S256x8x2048, .f32⟩
  | 30 => ⟨S256x8x2048, .f32⟩
  | 31 => ⟨S256x2048, .f32⟩
  | 32 => ⟨S256x2048, .bf16⟩
  | 33 => ⟨S2048x2048, .f32⟩
  | _ => ⟨S256x1x2048, .bf16⟩

abbrev hbmTy (i : Nat) : BufTy := match i / 128 with
  | 0 => hbmTy0_0 i
  | 1 => hbmTy0_1 i
  | _ => ⟨S256x1x2048, .bf16⟩

abbrev bufTy : (tb : Table) → Fin (tcTables nBuf tb) → BufTy
  | .hbm, ⟨i, _⟩ => hbmTy i
  | _, _ => ⟨S256x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_c_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_16 : Ref sig .tc := ⟨.hbm, 105, rfl⟩
abbrev main_v68 : Ref sig .tc := ⟨.hbm, 106, rfl⟩
abbrev main_v69 : Ref sig .tc := ⟨.hbm, 107, rfl⟩
abbrev main_c_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_19 : Ref sig .tc := ⟨.hbm, 134, rfl⟩
abbrev main_v94 : Ref sig .tc := ⟨.hbm, 135, rfl⟩
abbrev main_v95 : Ref sig .tc := ⟨.hbm, 136, rfl⟩
abbrev main_c_20 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩

abbrev nD : Nat := 1
abbrev τ : Topo := Topo.v7x

variable {F : FTy → Type} [FloatOps F]
-- ==== Proof.Words.lean ====
/- The integer words of the kernel: how many trips its counted loops make, at which rows it reads and writes, and the
   side conditions it assumes. Everything is stated at a count word `v4` of at most 256. -/
module

public import proofs.«01_k».proof.Defs
public import Idealize.ShloMosaic.Lib.Tactic
public import Idealize.ShloMosaic.Lib.LoopRemainder

@[expose] public section

set_option maxRecDepth 16384

namespace Cert.KernelIdeal

open Idealize.ShloMosaic

namespace Words

/-- Every word of at most 256 is the word of a number below 257. -/
theorem word_cases {P : BitVec 32 → Prop} (h : ∀ n : Fin 257, P (BitVec.ofNat 32 n.val)) (v : BitVec 32)
    (hv : v.toNat ≤ 256) : P v := by
  have := h ⟨v.toNat, by omega⟩
  simpa using this

/-- The chunk loop makes one trip for each 64 rows, the last one perhaps short. -/
theorem t1_facts (v4 : BitVec 32) (hv : v4.toNat ≤ 256) :
    (k0_t1_loop v4).OK ∧ (k0_t1_loop v4).trips = (v4.toNat + 63) / 64 := by
  revert hv
  refine fun hv => word_cases (P := fun v => (k0_t1_loop v).OK ∧ (k0_t1_loop v).trips = (v.toNat + 63) / 64) ?_ v4 hv
  decide +kernel

/-- The gather loop of chunk `t1` makes one trip for each of its rows. -/
theorem t2_facts (v4 : BitVec 32) (hv : v4.toNat ≤ 256) (t1 : Fin (k0_t1_loop v4).trips) :
    (k0_t2_loop v4 t1).OK ∧ (k0_t2_loop v4 t1).trips = min (v4.toNat - 64 * t1.val) 64 := by
  refine word_cases (P := fun v => ∀ t1 : Fin (k0_t1_loop v).trips,
    (k0_t2_loop v t1).OK ∧ (k0_t2_loop v t1).trips = min (v.toNat - 64 * t1.val) 64) ?_ v4 hv t1
  decide +kernel

/-- So does its scatter loop. -/
theorem t4_facts (v4 : BitVec 32) (hv : v4.toNat ≤ 256) (t1 : Fin (k0_t1_loop v4).trips) :
    (k0_t4_loop v4 t1).OK ∧ (k0_t4_loop v4 t1).trips = min (v4.toNat - 64 * t1.val) 64 := t2_facts v4 hv t1

theorem t1_lt (v4 : BitVec 32) (hv : v4.toNat ≤ 256) (t1 : Fin (k0_t1_loop v4).trips) : 64 * t1.val < v4.toNat := by
  have h := t1.isLt
  have e := (t1_facts v4 hv).2
  omega

theorem t2_lt (v4 : BitVec 32) (hv : v4.toNat ≤ 256) (t1 : Fin (k0_t1_loop v4).trips)
    (t2 : Fin (k0_t2_loop v4 t1).trips) : 64 * t1.val + t2.val < v4.toNat ∧ t2.val < 64 := by
  have h := t2.isLt
  have e := (t2_facts v4 hv t1).2
  have := t1_lt v4 hv t1
  omega

theorem t4_lt (v4 : BitVec 32) (hv : v4.toNat ≤ 256) (t1 : Fin (k0_t1_loop v4).trips)
    (t4 : Fin (k0_t4_loop v4 t1).trips) : 64 * t1.val + t4.val < v4.toNat ∧ t4.val < 64 := t2_lt v4 hv t1 t4

theorem iv01 (k : Nat) : Scf.iv (0#32) (1#32) k = BitVec.ofNat 32 k := by
  simp [Scf.iv]

/-- The word of `256 * s + 64 * a + b`. -/
theorem addr (s a b : Nat) (hs : s < 48) (ha : 64 * a + b < 256) :
    (Scalar.indexCast (Scalar.addi (Scalar.addi (Scalar.muli (BitVec.ofNat 32 s) 256#32)
      (Scalar.muli (Scf.iv 0#32 1#32 a) 64#32)) (Scf.iv 0#32 1#32 b))).toNat = s * 256 + (64 * a + b) := by
  rw [iv01, iv01]
  simp only [Scalar.indexCast, Scalar.addi, Scalar.muli, IntOp.addi, IntOp.muli]
  simp only [BitVec.toNat_add, BitVec.toNat_mul, BitVec.toNat_ofNat]
  omega

theorem off1_eq (i : grid0.Coords) : k0_off1 i = ![(i 0).val] := by
  have h : (i 0).val < 48 := (i 0).isLt
  unfold k0_off1
  simp only [Scalar.indexCast, BitVec.toNat_ofNat]
  congr 1
  omega

theorem off2_eq (i : grid0.Coords) (v4 : BitVec 32) (hv : v4.toNat ≤ 256) (t1 : Fin (k0_t1_loop v4).trips)
    (t2 : Fin (k0_t2_loop v4 t1).trips) : k0_off2 i v4 t1 t2 = ![(i 0).val * 256 + (64 * t1.val + t2.val)] := by
  have h : (i 0).val < 48 := (i 0).isLt
  have := t2_lt v4 hv t1 t2
  unfold k0_off2
  exact congrArg (fun x => ![x]) (addr _ _ _ h (by omega))

theorem off8_eq (i : grid0.Coords) (v4 : BitVec 32) (hv : v4.toNat ≤ 256) (t1 : Fin (k0_t1_loop v4).trips)
    (t4 : Fin (k0_t4_loop v4 t1).trips) : k0_off8 i v4 t1 t4 = ![(i 0).val * 256 + (64 * t1.val + t4.val)] :=
  off2_eq i v4 hv t1 t4

theorem off4_eq (v4 : BitVec 32) (hv : v4.toNat ≤ 256) (t1 : Fin (k0_t1_loop v4).trips)
    (t2 : Fin (k0_t2_loop v4 t1).trips) : k0_off4 v4 t1 t2 = ![t2.val, 0] := by
  have := t2_lt v4 hv t1 t2
  unfold k0_off4
  simp only [iv01, Scalar.indexCast, BitVec.toNat_ofNat]
  congr 1
  omega

theorem off9_eq (v4 : BitVec 32) (hv : v4.toNat ≤ 256) (t1 : Fin (k0_t1_loop v4).trips)
    (t4 : Fin (k0_t4_loop v4 t1).trips) : k0_off9 v4 t1 t4 = ![t4.val, 0] := off4_eq v4 hv t1 t4

/-- The token of a pair: a shift right by three is a division by eight. -/
theorem shift3 (v : BitVec 32) (hv : v.toNat < 2048) :
    (Scalar.indexCast (Scalar.shrsi v 3#32)).toNat = v.toNat / 8 := by
  have h : ∀ n : Fin 2048, (Scalar.indexCast (Scalar.shrsi (BitVec.ofNat 32 n.val) 3#32)).toNat = n.val / 8 := by
    decide +kernel
  have := h ⟨v.toNat, hv⟩
  simpa using this

theorem off3_eq (v : BitVec 32) (hv : v.toNat < 2048) : k0_off3 v = ![v.toNat / 8, 0] :=
  congrArg (fun x => ![x, 0]) (shift3 v hv)

theorem off11_eq (v : BitVec 32) (hv : v.toNat < 2048) : k0_off11 v = ![v.toNat / 8, 0] := off3_eq v hv

theorem off10_eq (v : BitVec 32) : k0_off10 v = ![v.toNat, 0] := rfl

theorem off12_eq (v : BitVec 32) : k0_off12 v = ![v.toNat] := rfl

theorem chk2 (v : BitVec 32) (hv : v.toNat < 2048) : k0_chk2 v := by
  unfold k0_chk2
  rw [off3_eq v hv]
  intro a
  fin_cases a
  · show v.toNat / 8 + 1 ≤ 256
    omega
  · exact le_refl 2048

theorem chk4 (v : BitVec 32) (hv : v.toNat < 2048) : k0_chk4 v := by
  unfold k0_chk4
  rw [off11_eq v hv, off10_eq, off12_eq]
  refine ⟨?_, ?_, ?_⟩
  · intro a
    fin_cases a
    · show v.toNat + 1 ≤ 2048
      omega
    · exact le_refl 2048
  · intro a
    fin_cases a
    · show v.toNat / 8 + 1 ≤ 256
      omega
    · exact le_refl 2048
  · intro a
    fin_cases a
    show v.toNat + 1 ≤ 2048
    omega

theorem no_t3 (v4 : BitVec 32) (t1 : Fin (k0_t1_loop v4).trips) (k : Fin (k0_t3_loop v4 t1).trips) : False :=
  Scf.rem_no_trip _ _ k

theorem no_t5 (v4 : BitVec 32) (t1 : Fin (k0_t1_loop v4).trips) (k : Fin (k0_t5_loop v4 t1).trips) : False :=
  Scf.rem_no_trip _ _ k

theorem no_t6 (v4 : BitVec 32) (k : Fin (k0_t6_loop v4).trips) : False :=
  Scf.rem_no_trip _ _ k

/-- The body's first side condition holds at every count of at most 256. -/
theorem chk1 (i : grid0.Coords) (v4 : BitVec 32) (hv : v4.toNat ≤ 256) : k0_chk1 i v4 := by
  have h : (i 0).val < 48 := (i 0).isLt
  unfold k0_chk1
  refine ⟨(t1_facts v4 hv).1, fun t1 => (t2_facts v4 hv t1).1, fun t1 t2 => ?_, fun t1 t2 => ?_,
    fun t1 => Scf.rem_ok _ _, fun t1 k => (no_t3 v4 t1 k).elim, fun t1 k => (no_t3 v4 t1 k).elim,
    fun t1 => (t4_facts v4 hv t1).1, fun t1 t2 => ?_, fun t1 t2 => ?_,
    fun t1 => Scf.rem_ok _ _, fun t1 k => (no_t5 v4 t1 k).elim, fun t1 k => (no_t5 v4 t1 k).elim,
    Scf.rem_ok _ _,
    fun k => (no_t6 v4 k).elim, fun k => (no_t6 v4 k).elim, fun k => (no_t6 v4 k).elim, fun k => (no_t6 v4 k).elim,
    fun k => (no_t6 v4 k).elim, fun k => (no_t6 v4 k).elim, fun k => (no_t6 v4 k).elim, fun k => (no_t6 v4 k).elim,
    fun k => (no_t6 v4 k).elim, fun k => (no_t6 v4 k).elim, fun k => (no_t6 v4 k).elim, fun k => (no_t6 v4 k).elim⟩
  · rw [off2_eq i v4 hv]
    have := t2_lt v4 hv t1 t2
    intro a
    fin_cases a
    show (i 0).val * 256 + (64 * t1.val + t2.val) + 1 ≤ 12288
    omega
  · rw [off4_eq v4 hv]
    have := t2_lt v4 hv t1 t2
    intro a
    fin_cases a
    · show t2.val + 1 ≤ 64
      omega
    · exact le_refl 2048
  · rw [off8_eq i v4 hv]
    have := t4_lt v4 hv t1 t2
    intro a
    fin_cases a
    show (i 0).val * 256 + (64 * t1.val + t2.val) + 1 ≤ 12288
    omega
  · rw [off9_eq v4 hv]
    have := t4_lt v4 hv t1 t2
    intro a
    fin_cases a
    · show t2.val + 1 ≤ 64
      omega
    · exact le_refl 2048

/-- The first branch is taken at the first point only, -/
theorem cond1_iff (n : Nat) (hn : n < 48) :
    (Scalar.cmpi .ne (Scalar.extui (Scalar.cmpi .eq (BitVec.ofNat 32 n) 0#32) : BitVec 32) 0#32 = 1#1) ↔ (n = 0) := by
  have : ∀ n : Fin 48, (Scalar.cmpi .ne (Scalar.extui (Scalar.cmpi .eq (BitVec.ofNat 32 n.val) 0#32) : BitVec 32) 0#32 = 1#1) ↔ (n.val = 0) := by
    decide +kernel
  exact this ⟨n, hn⟩

/-- and the last at the last point only. -/
theorem cond2_iff (i : grid0.Coords) : (k0_cond2 i = 1#1) ↔ ((i 0).val = 47) := by
  have : ∀ n : Fin 48, (Scalar.cmpi .ne (Scalar.extui (Scalar.cmpi .eq (BitVec.ofNat 32 n.val) 47#32) : BitVec 32) 0#32 = 1#1) ↔ (n.val = 47) := by
    decide +kernel
  exact this (i 0)

end Words

end Cert.KernelIdeal
-- ==== Proof.Mem.lean ====
/-
  Loads and stores stated on the contents of a memref (`owns c m q X`: the memref's elements are held at share `q`, and read
  `X`), one rule per effect of the kernel's body: a load through a rectangle reads `X` at the rectangle's places, a store
  overlays the rectangle's places with what is stored, an SMEM load reads one word. With them, a counted loop that makes no
  trip, and an assumed fact that holds.
-/
module

public import Idealize.ShloMosaic.Lib.Tactic
public import Idealize.ShloMosaic.Lib.LoopRemainder
public import Idealize.ShloMosaic.Lib.Pipeline.Frame

@[expose] public section

noncomputable section

namespace Cert.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {α : Type} {defs : Defs nD τ sig Val Λ} {𝒱 : Variants} {c : Thread nD τ} {bd : Option 𝒱.V} {E : Set Name}

/-- What reads `X` through a memref, overwritten through a rectangle of it with `w`, reads `X` overlaid with `w`. -/
theorem read_write_overlay {cs : CoreSpace} {s : Shape} {e : EltTy} (m : Memref sig c.2.kind cs s e) (r : Rect s)
    (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    change m.view.read Val _ (r.emb i) = r.overlay _ w (r.emb i)
    rw [Rect.overlay_emb]
    exact congrFun (View.read_write_univ (v := m.access r) f w) i
  · rw [Rect.overlay_of_not_mem _ _ _ hj, View.read_apply, View.read_apply, View.write_of_not_mem]
    rw [View.setOn_univ]
    show m.view.emb j ∉ (m.view.slice r).set
    rw [View.set_slice, Finset.mem_map' m.view.emb]; exact hj

/-- The rectangle of a whole shape is the whole shape, -/
theorem unit_whole_emb {S : Shape} (off : Fin S.rank → Nat) (h : ∀ a, off a + S.size a ≤ S.size a)
    (j : (Rect.unit (s := S) off S.size h).shape.Idx) : (Rect.unit (s := S) off S.size h).emb j = j := by
  funext a
  apply Fin.ext
  rw [Rect.emb_apply]
  have := h a
  show off a + 1 * (j a).val = (j a).val
  omega

/-- so that a load through it reads everything, -/
theorem unit_whole_read {S : Shape} {β : Type} (off : Fin S.rank → Nat) (h : ∀ a, off a + S.size a ≤ S.size a)
    (X : S.Idx → β) : (fun j => X ((Rect.unit (s := S) off S.size h).emb j)) = X := by
  funext j
  exact congrArg X (unit_whole_emb off h j)

/-- and a store through it replaces everything. -/
theorem unit_whole_overlay {S : Shape} {β : Type} (off : Fin S.rank → Nat) (h : ∀ a, off a + S.size a ≤ S.size a)
    (X w : S.Idx → β) : (Rect.unit (s := S) off S.size h).overlay X w = w := by
  funext j
  have := Rect.overlay_emb (Rect.unit (s := S) off S.size h) X w j
  rwa [unit_whole_emb off h j] at this

/-- A load through a rectangle reads the contents at the rectangle's places. -/
theorem wp_load_owns {cs : CoreSpace} {s : Shape} {e : EltTy} {m : Memref sig c.2.kind cs s e} {r : Rect s}
    {hl : m.view.LoadsAt r.toLoadRect} {k : (r.shape.Idx → Val e) → Prog (TpuEff nD τ sig Val Λ c.2) α}
    {q : PosShare TreeShare} {X : s.Idx → Val e} {Q : α → sProp 𝕄} :
    (owns c m q X : sProp 𝕄)
      ⊢ iprop((owns c m q X -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  subst hf
  iapply (wp_load_rect 𝒱 c bd E (m := m) (r := r) (S := m.view.set) (m.view.set_slice_subset r)) $$ H
  iintro H
  iapply Hk
  iexists f; isplitr
  · ipureintro; rfl
  · iexact H

/-- A store of every place of a rectangle overlays the contents there. -/
theorem wp_store_owns {cs : CoreSpace} {s : Shape} {e : EltTy} {m : Memref sig c.2.kind cs s e} {r : Rect s}
    {w : r.shape.Idx → Val e} {hx : (m.access r).Stores Finset.univ} {hm : Finset.univ = Finset.univ ∨ ∀ a, r.stride a = 1}
    {k : PUnit → Prog (TpuEff nD τ sig Val Λ c.2) α} {X : s.Idx → Val e} {Q : α → sProp 𝕄} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (Mk := Finset.univ) (S := m.view.set)
    (by rw [View.setOn_univ]; exact m.view.set_slice_subset r)) $$ H
  iintro H
  iapply Hk
  iexists _; isplitr; rotate_left
  · iexact H
  · ipureintro; exact read_write_overlay m r f w

/-- The load of one SMEM word reads the contents at that word. -/
theorem wp_smem_owns {s : Shape} {e : EltTy} {m : Memref sig c.2.kind .smem s e} {r : Rect s}
    {h1 : r.shape.numel = 1} {hp : e.packing = 1}
    {k : Val e → Prog (TpuEff nD τ sig Val Λ c.2) α}
    {q : PosShare TreeShare} {X : s.Idx → Val e} {Q : α → sProp 𝕄} :
    (owns c m q X : sProp 𝕄)
      ⊢ iprop((owns c m q X -∗ wp frame (wpE defs 𝒱 c bd) E (k (X (r.emb (Shape.Idx.first (h1.symm ▸ Nat.one_pos))))) Q)
        -∗ wp frame (wpE defs 𝒱 c bd) E (smemLoad m r h1 hp >>= k) Q) := by
  unfold owns
  iintro ⟨%f, %hf, H⟩ Hk
  subst hf
  unfold smemLoad smemLoadElt
  simp only [Prog.bind_op, Prog.bind_ret]
  iapply (wp_load_rect 𝒱 c bd E (m := m) (r := r) (S := m.view.set) (m.view.set_slice_subset r)) $$ H
  iintro H
  iapply Hk
  iexists f; isplitr
  · ipureintro; rfl
  · iexact H

end Cert.Mem
-- ==== Proof.Block.lean ====
/- What one visit of a slot computes, as functions of the contents of the buffers: the rows of the tables, the result tile
   of a chunk of 64 rows, and the two updates made for one row of it. At any float type. -/
module

public import proofs.«01_k».proof.Proof.Gen.KernelIdeal.Skeleton
public import proofs.«01_k».proof.Proof.Words
public import proofs.«01_k».proof.Proof.Mem
public import Idealize.ShloMosaic.Lib.Pointwise.Index

@[expose] public section

set_option maxRecDepth 16384

noncomputable section

namespace Cert.KernelIdeal.Blk

open Idealize.ShloMosaic Cert.KernelIdeal.Gen

variable {F : FTy → Type} [FloatOps F]

/-- Row `r` of a tile of 64 rows. -/
abbrev r64 (r : Nat) (h : r < 64) : Rect S64x2048 :=
  Rect.unit (s := S64x2048) ![r, 0] S1x2048.size (by
    intro a; fin_cases a
    · show r + 1 ≤ 64; omega
    · exact le_refl 2048)

/-- Row `r` of an array of 256 rows. -/
abbrev r256 (r : Nat) (h : r < 256) : Rect S256x2048 :=
  Rect.unit (s := S256x2048) ![r, 0] S1x2048.size (by
    intro a; fin_cases a
    · show r + 1 ≤ 256; omega
    · exact le_refl 2048)

/-- Row `r` of an array of 2048 rows. -/
abbrev r2048 (r : Nat) (h : r < 2048) : Rect S2048x2048 :=
  Rect.unit (s := S2048x2048) ![r, 0] S1x2048.size (by
    intro a; fin_cases a
    · show r + 1 ≤ 2048; omega
    · exact le_refl 2048)

/-- Columns `o … o + 255` of a tile of 64 rows. -/
abbrev c64 (o : Nat) (h : o + 256 ≤ 2048) : Rect S64x2048 :=
  Rect.unit (s := S64x2048) ![0, o] S64x256.size (by
    intro a; fin_cases a
    · exact le_refl 64
    · exact h)

/-- Columns `o … o + 255` of a block of gate and up codes, -/
abbrev c13At (X : Vec F S1x2048x768 .i8) (o : Nat) (h : o + 256 ≤ 768) : Vec F S1x2048x256 .i8 := fun j =>
  X ((Rect.unit (s := S1x2048x768) ![0, 0, o] S1x2048x256.size (by
    intro a; fin_cases a
    · exact le_refl 1
    · exact le_refl 2048
    · exact h)).emb j)

/-- of its scales, -/
abbrev s13At (X : Vec F S1x16x768 .bf16) (o : Nat) (h : o + 256 ≤ 768) : Vec F S1x16x256 .bf16 := fun j =>
  X ((Rect.unit (s := S1x16x768) ![0, 0, o] S1x16x256.size (by
    intro a; fin_cases a
    · exact le_refl 1
    · exact le_refl 16
    · exact h)).emb j)

/-- of a block of down codes, -/
abbrev c2At (X : Vec F S1x768x1024 .i8) (o : Nat) (h : o + 256 ≤ 1024) : Vec F S1x768x256 .i8 := fun j =>
  X ((Rect.unit (s := S1x768x1024) ![0, 0, o] S1x768x256.size (by
    intro a; fin_cases a
    · exact le_refl 1
    · exact le_refl 768
    · exact h)).emb j)

/-- and of its scales. -/
abbrev s2At (X : Vec F S1x6x2048 .bf16) (o : Nat) (h : o + 256 ≤ 2048) : Vec F S1x6x256 .bf16 := fun j =>
  X ((Rect.unit (s := S1x6x2048) ![0, 0, o] S1x6x256.size (by
    intro a; fin_cases a
    · exact le_refl 1
    · exact le_refl 6
    · exact h)).emb j)

section Tile

variable (X : Vec F S64x2048 .f32) (c13 : Vec F S1x2048x768 .i8) (sg su : Vec F S1x16x768 .bf16)
  (c2 : Vec F S1x768x1024 .i8) (s2 : Vec F S1x6x2048 .bf16)

/-- The gathered rows in the narrower format. -/
def tA : FVec F S64x2048 .bf16 := k0_pay13 X

/-- The first 256 columns of the hidden layer, -/
def h0 : FVec F S64x256 .bf16 :=
  k0_pay17 (tA X) (k0_pay15 (c13At c13 0 (by decide)) (s13At sg 0 (by decide)))
    (k0_pay16 (c13At c13 0 (by decide)) (s13At su 0 (by decide)))

/-- the next 256, -/
def h1 : FVec F S64x256 .bf16 :=
  k0_pay21 (tA X) (k0_pay19 (c13At c13 256 (by decide)) (s13At su 256 (by decide)))
    (k0_pay20 (tA X) (c13At c13 256 (by decide)) (s13At sg 256 (by decide))) (constant S64x256 .f32 0x00000000#32)

/-- and the last 256, not yet narrowed. -/
def h2 : FVec F S64x256 .f32 :=
  k0_pay22 (tA X) (c13At c13 512 (by decide)) (s13At sg 512 (by decide)) (s13At su 512 (by decide))

/-- The hidden layer of the 64 rows. -/
def hid : FVec F S64x768 .bf16 := k0_pay23 (h0 X c13 sg su) (h1 X c13 sg su) (h2 X c13 sg su)

/-- What the eight stores of a chunk leave in the result tile, over what stood there. -/
def ogTile (O : Vec F S64x2048 .f32) : Vec F S64x2048 .f32 :=
  (c64 1792 (by decide)).overlay
    ((c64 768 (by decide)).overlay
      ((c64 1536 (by decide)).overlay
        ((c64 512 (by decide)).overlay
          ((c64 1280 (by decide)).overlay
            ((c64 256 (by decide)).overlay
              ((c64 1024 (by decide)).overlay
                ((c64 0 (by decide)).overlay O
                  (k0_pay25 (h0 X c13 sg su) (h1 X c13 sg su) (h2 X c13 sg su) (c2At c2 0 (by decide)) (s2At s2 0 (by decide))))
                (k0_pay27 (k0_pay26 (h0 X c13 sg su) (h1 X c13 sg su) (h2 X c13 sg su) (c2At c2 0 (by decide))
                  (s2At s2 1024 (by decide)))))
              (k0_pay29 (hid X c13 sg su) (c2At c2 256 (by decide)) (s2At s2 256 (by decide))))
            (k0_pay31 (k0_pay30 (hid X c13 sg su) (c2At c2 256 (by decide)) (s2At s2 1280 (by decide)))))
          (k0_pay33 (hid X c13 sg su) (c2At c2 512 (by decide)) (s2At s2 512 (by decide))))
        (k0_pay35 (k0_pay34 (hid X c13 sg su) (c2At c2 512 (by decide)) (s2At s2 1536 (by decide)))))
      (k0_pay37 (hid X c13 sg su) (c2At c2 768 (by decide)) (s2At s2 768 (by decide))))
    (k0_pay4 (k0_pay38 (hid X c13 sg su) (c2At c2 768 (by decide)) (s2At s2 1792 (by decide))))

end Tile

/-- The pair recorded at place `n` of the list. -/
def pairAt (lst : Vec F S12288 .i32) (n : Nat) (h : n < 12288) : BitVec 32 := lst (ix1 ⟨n, h⟩)

/-- The per-pair result array after row `r` of the tile `O` is written at pair `p`. -/
def putE (O : Vec F S64x2048 .f32) (r : Nat) (hr : r < 64) (p : Nat) (hp : p < 2048) (E : Vec F S2048x2048 .f32) :
    Vec F S2048x2048 .f32 := (r2048 p hp).overlay E (fun j => O ((r64 r hr).emb j))

/-- The accumulator after row `r` of the tile `O`, times the pair's weight, is added at the pair's token. -/
def putY (wt : Vec F S2048 .f32) (O : Vec F S64x2048 .f32) (r : Nat) (hr : r < 64) (p : Nat) (hp : p < 2048)
    (Y : Vec F S256x2048 .f32) : Vec F S256x2048 .f32 :=
  (r256 (p / 8) (by omega)).overlay Y
    (k0_pay5 (fun j => O ((r64 r hr).emb j)) (fun j => Y ((r256 (p / 8) (by omega)).emb j)) (wt (ix1 ⟨p, hp⟩)))

/-- Rows `0 … n - 1` of the gathered tile are the rows of the tokens of the pairs recorded from place `b` on. -/
def Gathered (lst : Vec F S12288 .i32) (xs : Vec F S256x2048 .f32) (b n : Nat) (X : Vec F S64x2048 .f32) : Prop :=
  ∀ r (hr : r < n) (hr' : r < 64) (hb : b + r < 12288) (hp : (pairAt lst (b + r) hb).toNat < 2048),
    (fun j => X ((r64 r hr').emb j)) = fun j => xs ((r256 ((pairAt lst (b + r) hb).toNat / 8) (by omega)).emb j)

/-- `J c E Y` is kept by the handling of one pair of slot `s`, from `c` pairs handled to `c + 1`; `n` is the slot's count. -/
def StepOK (lst : Vec F S12288 .i32) (wt : Vec F S2048 .f32) (xs : Vec F S256x2048 .f32)
    (c13 : Vec F S1x2048x768 .i8) (sg su : Vec F S1x16x768 .bf16) (c2 : Vec F S1x768x1024 .i8) (s2 : Vec F S1x6x2048 .bf16)
    (s n : Nat) (J : Nat → Vec F S2048x2048 .f32 → Vec F S256x2048 .f32 → Prop) : Prop :=
  ∀ (b r : Nat) (hr : r < 64) (hn : b + r < n) (hb : s * 256 + (b + r) < 12288)
    (hp : (pairAt lst (s * 256 + (b + r)) hb).toNat < 2048) (X O : Vec F S64x2048 .f32),
    Gathered lst xs (s * 256 + b) (min (n - b) 64) X → ∀ E Y, J (b + r) E Y →
      J (b + r + 1) (putE (ogTile X c13 sg su c2 s2 O) r hr _ hp E) (putY wt (ogTile X c13 sg su c2 s2 O) r hr _ hp Y)

end Cert.KernelIdeal.Blk
-- ==== Proof.Loops.lean ====
/- The two inner loops of a chunk, as rules over the contents of the buffers: the loop that gathers the rows of the chunk's
   tokens, and the loop that hands its result rows out. -/
module

public import proofs.«01_k».proof.Proof.Block
public import Idealize.ShloMosaic.Lib.Pipeline.Value
public import proofs.«01_k».proof.Proof.Gen.KernelIdeal.Launch

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Blk Cert.Mem

variable {F : FTy → Type} [FloatOps F]

local notation "𝕄" => MT nD τ sig Unit (Elt F) ℕ (UR sig nD τ) ℕ

/-- No loop of the program is justified by a variant: every count is bounded. -/
abbrev 𝒱₀ : Variants := Variants.none

variable (c : Dev nD) (i : grid0.Coords)
variable (a1 : Memref sig .tc .smem S48 .i32) (w1 : a1.IsWhole)
variable (a2 : Memref sig .tc .smem S12288 .i32) (w2 : a2.IsWhole)
variable (a3 : Memref sig .tc .vmem S256x2048 .bf16) (w3 : a3.IsWhole)
variable (a4 : Memref sig .tc .vmem S1x2048x768 .i8) (w4 : a4.IsWhole)
variable (a5 : Memref sig .tc .vmem S1x16x768 .bf16) (w5 : a5.IsWhole)
variable (a6 : Memref sig .tc .vmem S1x16x768 .bf16) (w6 : a6.IsWhole)
variable (a7 : Memref sig .tc .vmem S1x768x1024 .i8) (w7 : a7.IsWhole)
variable (a8 : Memref sig .tc .vmem S1x6x2048 .bf16) (w8 : a8.IsWhole)
variable (a9 : Memref sig .tc .smem S2048 .f32) (w9 : a9.IsWhole)
variable (a10 : Memref sig .tc .vmem S256x2048 .bf16) (w10 : a10.IsWhole)
variable (a11 : Memref sig .tc .vmem S2048x2048 .f32) (w11 : a11.IsWhole)
variable (a12 : Memref sig .tc .vmem S256x2048 .f32) (w12 : a12.IsWhole)
variable (a13 : Memref sig .tc .vmem S64x2048 .f32) (w13 : a13.IsWhole)
variable (a14 : Memref sig .tc .vmem S256x2048 .f32) (w14 : a14.IsWhole)
variable (a15 : Memref sig .tc .vmem S64x2048 .f32) (w15 : a15.IsWhole)

/-- The word a scalar load at place `n` of the list reads. -/
theorem lst_read (lst : Vec F S12288 .i32) (off : Fin 1 → Nat) (inb : ∀ a, off a + S1.size a ≤ S12288.size a) (n : Nat)
    (hn : n < 12288) (ho : off = ![n]) :
    lst ((Rect.unit (s := S12288) off S1.size inb).emb (Shape.Idx.first (s := S1) (numel1_S1.symm ▸ Nat.one_pos))) = pairAt lst n hn := by
  subst ho
  unfold pairAt
  congr 1
  funext a
  fin_cases a
  rfl

theorem pairAt_congr (lst : Vec F S12288 .i32) {m n : Nat} (e : m = n) (hm : m < 12288) (hn : n < 12288) :
    pairAt lst m hm = pairAt lst n hn := by subst e; rfl

/-- A gathered tile with one more row stored has one more gathered row. -/
theorem gathered_succ (lst : Vec F S12288 .i32) (xs : Vec F S256x2048 .f32) (b n : Nat) (hn : n < 64) (hb : b + n < 12288)
    {X : Vec F S64x2048 .f32} (hX : Gathered lst xs b n X) (p : BitVec 32) (hpb : p = pairAt lst (b + n) hb)
    (hp : p.toNat < 2048) {off3 off4 : Fin 2 → Nat} (e3 : off3 = ![p.toNat / 8, 0]) (e4 : off4 = ![n, 0])
    (i3 : ∀ a, off3 a + S1x2048.size a ≤ S256x2048.size a) (i4 : ∀ a, off4 a + S1x2048.size a ≤ S64x2048.size a) :
    Gathered lst xs b (n + 1) ((Rect.unit (s := S64x2048) off4 S1x2048.size i4).overlay X
      (k0_pay11 fun j => xs ((Rect.unit (s := S256x2048) off3 S1x2048.size i3).emb j))) := by
  subst e3 e4 hpb
  intro r hr hr' hb' hp'
  by_cases h : r = n
  · subst h
    funext j
    have : ∀ (w : Vec F S1x2048 .f32), (r64 r hr').overlay X w ((r64 r hr').emb j) = w j := fun w => Rect.overlay_emb _ _ _ _
    refine (this _).trans ?_
    unfold k0_pay11
    rw [shapeCast_self]
  · rw [← hX r (by omega) hr' hb' hp']
    funext j
    refine Rect.overlay_of_not_mem _ _ _ ?_
    intro hm
    obtain ⟨k, hk⟩ := LoadRect.exists_idx_of_mem _ hm
    have h0 := congrArg (fun x : S64x2048.Idx => (x 0).val) hk
    have k0 : (k 0).val = 0 := by have := (k 0).isLt; exact Nat.lt_one_iff.mp this
    have j0 : (j 0).val = 0 := by have := (j 0).isLt; exact Nat.lt_one_iff.mp this
    simp only [Rect.emb_apply] at h0
    have : n + 1 * (k 0).val = r + 1 * (j 0).val := h0
    omega

/-- One trip of the gathering loop puts one more row in place. -/
theorem gather_trip (lst : Vec F S12288 .i32) (xs : Vec F S256x2048 .f32) (q : PosShare TreeShare)
    (hlst : ∀ j, (lst j).toNat < 2048) (v4 : BitVec 32) (hv : v4.toNat ≤ 256) (hw : k0_chk1 i v4)
    (t1 : Fin (k0_t1_loop v4).trips) (t2 : Fin (k0_t2_loop v4 t1).trips) (acc : BitVec 32) (X : Vec F S64x2048 .f32)
    (hX : Gathered lst xs ((i 0).val * 256 + 64 * t1.val) t2.val X) (Q : BitVec 32 → sProp 𝕄) :
    iprop(owns c a2 q lst ∗ owns c a12 fullShare xs ∗ owns c a13 fullShare X ∗
      (∀ X', ⌜Gathered lst xs ((i 0).val * 256 + 64 * t1.val) (t2.val + 1) X'⌝ -∗
        owns c a2 q lst -∗ owns c a12 fullShare xs -∗ owns c a13 fullShare X' -∗ Q 0#32)) ⊢
      wp frame (wpE (defs₀ (F := F)) 𝒱₀ c none) Set.univ (k0_t2_body (F := F) i a1 w1 a2 w2 a3 w3 a4 w4 a5 w5 a6 w6 a7 w7 a8 w8 a9 w9 a10 w10 a11 w11 a12 w12 a13 w13 a14 w14 a15 w15 (BitVec.ofNat 32 (i 0).val) v4 hw 0#32 1#32 t1 t2 acc) Q := by
  have hi : (i 0).val < 48 := (i 0).isLt
  have ht := Words.t2_lt v4 hv t1 t2
  unfold k0_t2_body
  iintro ⟨H2, H12, H13, Hk⟩
  iapply (wp_smem_owns (Q := Q)) $$ H2; iintro H2
  rw [lst_read lst _ _ ((i 0).val * 256 + (64 * t1.val + t2.val)) (by omega) (Words.off2_eq i v4 hv t1 t2)]
  simp only [Prog.pure_eq_ret]
  have hp := hlst (ix1 ⟨(i 0).val * 256 + (64 * t1.val + t2.val), by omega⟩)
  have hpe : lst (ix1 ⟨(i 0).val * 256 + (64 * t1.val + t2.val), by omega⟩) =
    pairAt lst ((i 0).val * 256 + (64 * t1.val + t2.val)) (by omega) := rfl
  rw [hpe] at hp
  have hc : k0_chk2 (pairAt lst ((i 0).val * 256 + (64 * t1.val + t2.val)) (by omega)) := Words.chk2 _ hp
  iapply (wp_assume (Q := Q) 𝒱₀ c none Set.univ hc)
  iapply (wp_load_owns (Q := Q)) $$ H12; iintro H12
  iapply (wp_load_owns (Q := Q)) $$ H13; iintro H13
  iapply (wp_store_owns (Q := Q)) $$ H13; iintro H13
  dsimp only [Prog.bind]; sl_step
  iapply Hk $$ [] H2 H12 H13
  ipureintro
  exact gathered_succ lst xs _ _ ht.2 (by omega) hX _ (pairAt_congr lst (by omega) _ _) hp (Words.off3_eq _ hp) (Words.off4_eq v4 hv t1 t2) _ _

/-- The gathering loop leaves the chunk's rows in place. -/
theorem gather_loop {α : Type} (lst : Vec F S12288 .i32) (xs : Vec F S256x2048 .f32) (q : PosShare TreeShare)
    (hlst : ∀ j, (lst j).toNat < 2048) (v4 : BitVec 32) (hv : v4.toNat ≤ 256) (hw : k0_chk1 i v4)
    (t1 : Fin (k0_t1_loop v4).trips) (X : Vec F S64x2048 .f32)
    (kk : BitVec 32 → Prog (TpuEff nD τ sig (Elt F) Λ₀ .tc) α) (Q : α → sProp 𝕄) :
    iprop(owns c a2 q lst ∗ owns c a12 fullShare xs ∗ owns c a13 fullShare X ∗
      (∀ acc X', ⌜Gathered lst xs ((i 0).val * 256 + 64 * t1.val) (min (v4.toNat - 64 * t1.val) 64) X'⌝ -∗
        owns c a2 q lst -∗ owns c a12 fullShare xs -∗ owns c a13 fullShare X' -∗ wp frame (wpE (defs₀ (F := F)) 𝒱₀ c none) Set.univ (kk acc) Q)) ⊢
      wp frame (wpE (defs₀ (F := F)) 𝒱₀ c none) Set.univ (Scf.Loop.for (k0_t2_loop v4 t1) (k0_t2_ok i v4 hw t1) 0#32
        (k0_t2_body (F := F) i a1 w1 a2 w2 a3 w3 a4 w4 a5 w5 a6 w6 a7 w7 a8 w8 a9 w9 a10 w10 a11 w11 a12 w12 a13 w13 a14 w14 a15 w15 (BitVec.ofNat 32 (i 0).val) v4 hw 0#32 1#32 t1) >>= kk) Q := by
  iintro ⟨H2, H12, H13, Hk⟩
  iapply (Scf.wp_for_bind frame (wpE (defs₀ (F := F)) 𝒱₀ c none) Set.univ _ _ _ (k0_t2_ok i v4 hw t1) _ _
      (fun k _ => iprop(∃ X', ⌜Gathered lst xs ((i 0).val * 256 + 64 * t1.val) k X'⌝ ∗
        owns c a2 q lst ∗ owns c a12 fullShare xs ∗ owns c a13 fullShare X')) ?trip) $$ [H2 H12 H13]
  · intro k acc
    iintro ⟨%X', %hX, H2, H12, H13⟩
    iapply (gather_trip c i a1 w1 a2 w2 a3 w3 a4 w4 a5 w5 a6 w6 a7 w7 a8 w8 a9 w9 a10 w10 a11 w11 a12 w12 a13 w13 a14 w14 a15 w15 lst xs q hlst v4 hv hw t1 k acc X' hX)
    isplitl [H2]; · iexact H2
    isplitl [H12]; · iexact H12
    isplitl [H13]; · iexact H13
    iintro %X'' %hX'' H2 H12 H13
    iexists X''
    isplitr; · ipureintro; exact hX''
    isplitl [H2]; · iexact H2
    isplitl [H12]; · iexact H12
    iexact H13
  · iexists X
    isplitr; · ipureintro; intro r hr; exact absurd hr (Nat.not_lt_zero _)
    isplitl [H2]; · iexact H2
    isplitl [H12]; · iexact H12
    iexact H13
  iintro %acc ⟨%X', %hX, H2, H12, H13⟩
  rw [(show Scf.trips (k0_t2_loop v4 t1).lb (k0_t2_loop v4 t1).ub (k0_t2_loop v4 t1).st = _ from (Words.t2_facts v4 hv t1).2)] at hX
  iapply Hk $$ %acc %X' [] H2 H12 H13
  ipureintro; exact hX

/-- The word a scalar load at place `n` of the weights reads. -/
theorem wt_read (wt : Vec F S2048 .f32) (off : Fin 1 → Nat) (inb : ∀ a, off a + S1.size a ≤ S2048.size a) (n : Nat)
    (hn : n < 2048) (ho : off = ![n]) :
    wt ((Rect.unit (s := S2048) off S1.size inb).emb (Shape.Idx.first (s := S1) (numel1_S1.symm ▸ Nat.one_pos))) = wt (ix1 ⟨n, hn⟩) := by
  subst ho
  congr 1
  funext a
  fin_cases a
  rfl

theorem putE_eq (O : Vec F S64x2048 .f32) (E : Vec F S2048x2048 .f32) (r p : Nat) (hr : r < 64) (hp : p < 2048)
    {off9 off10 : Fin 2 → Nat} (e9 : off9 = ![r, 0]) (e10 : off10 = ![p, 0])
    (i9 : ∀ a, off9 a + S1x2048.size a ≤ S64x2048.size a) (i10 : ∀ a, off10 a + S1x2048.size a ≤ S2048x2048.size a) :
    (Rect.unit (s := S2048x2048) off10 S1x2048.size i10).overlay E
      (fun j => O ((Rect.unit (s := S64x2048) off9 S1x2048.size i9).emb j)) = putE O r hr p hp E := by
  subst e9 e10; rfl

theorem putY_eq (wt : Vec F S2048 .f32) (O : Vec F S64x2048 .f32) (Y : Vec F S256x2048 .f32) (r p : Nat) (hr : r < 64)
    (hp : p < 2048) {off9 off11 : Fin 2 → Nat} {off12 : Fin 1 → Nat} (e9 : off9 = ![r, 0]) (e11 : off11 = ![p / 8, 0])
    (e12 : off12 = ![p]) (i9 : ∀ a, off9 a + S1x2048.size a ≤ S64x2048.size a)
    (i11 : ∀ a, off11 a + S1x2048.size a ≤ S256x2048.size a) (i12 : ∀ a, off12 a + S1.size a ≤ S2048.size a) :
    (Rect.unit (s := S256x2048) off11 S1x2048.size i11).overlay Y
      (k0_pay5 (fun j => O ((Rect.unit (s := S64x2048) off9 S1x2048.size i9).emb j))
        (fun j => Y ((Rect.unit (s := S256x2048) off11 S1x2048.size i11).emb j))
        (wt ((Rect.unit (s := S2048) off12 S1.size i12).emb (Shape.Idx.first (s := S1) (numel1_S1.symm ▸ Nat.one_pos))))) =
      putY wt O r hr p hp Y := by
  rw [wt_read wt _ _ p hp e12]
  subst e9 e11; rfl

/-- One trip of the scattering loop hands one result row out. -/
theorem scatter_trip (lst : Vec F S12288 .i32) (wt : Vec F S2048 .f32) (q q9 : PosShare TreeShare)
    (hlst : ∀ j, (lst j).toNat < 2048) (v4 : BitVec 32) (hv : v4.toNat ≤ 256) (hw : k0_chk1 i v4)
    (t1 : Fin (k0_t1_loop v4).trips) (t4 : Fin (k0_t4_loop v4 t1).trips) (acc : BitVec 32) (O : Vec F S64x2048 .f32)
    (E : Vec F S2048x2048 .f32) (Y : Vec F S256x2048 .f32) (hb : (i 0).val * 256 + (64 * t1.val + t4.val) < 12288)
    (hr : t4.val < 64) (hp : (pairAt lst ((i 0).val * 256 + (64 * t1.val + t4.val)) hb).toNat < 2048)
    (Q : BitVec 32 → sProp 𝕄) :
    iprop(owns c a2 q lst ∗ owns c a9 q9 wt ∗ owns c a15 fullShare O ∗ owns c a11 fullShare E ∗ owns c a14 fullShare Y ∗
      (owns c a2 q lst -∗ owns c a9 q9 wt -∗ owns c a15 fullShare O -∗
        owns c a11 fullShare (putE O t4.val hr _ hp E) -∗ owns c a14 fullShare (putY wt O t4.val hr _ hp Y) -∗ Q 0#32)) ⊢
      wp frame (wpE (defs₀ (F := F)) 𝒱₀ c none) Set.univ (k0_t4_body (F := F) i a1 w1 a2 w2 a3 w3 a4 w4 a5 w5 a6 w6 a7 w7 a8 w8 a9 w9 a10 w10 a11 w11 a12 w12 a13 w13 a14 w14 a15 w15 v4 hw t1 t4 acc) Q := by
  have hi : (i 0).val < 48 := (i 0).isLt
  have ht := Words.t4_lt v4 hv t1 t4
  unfold k0_t4_body
  iintro ⟨H2, H9, H15, H11, H14, Hk⟩
  iapply (wp_smem_owns (Q := Q)) $$ H2; iintro H2
  rw [lst_read lst _ _ ((i 0).val * 256 + (64 * t1.val + t4.val)) (by omega) (Words.off8_eq i v4 hv t1 t4)]
  simp only [Prog.pure_eq_ret]
  have hc : k0_chk4 (pairAt lst ((i 0).val * 256 + (64 * t1.val + t4.val)) (by omega)) := Words.chk4 _ hp
  iapply (wp_assume (Q := Q) 𝒱₀ c none Set.univ hc)
  iapply (wp_load_owns (Q := Q)) $$ H15; iintro H15
  iapply (wp_load_owns (Q := Q)) $$ H11; iintro H11
  iapply (wp_store_owns (Q := Q)) $$ H11; iintro H11
  iapply (wp_load_owns (Q := Q)) $$ H14; iintro H14
  iapply (wp_smem_owns (h1 := numel1_S1) (hp := rfl) (Q := Q)) $$ H9; iintro H9
  iapply (wp_load_owns (Q := Q)) $$ H14; iintro H14
  iapply (wp_store_owns (Q := Q)) $$ H14; iintro H14
  dsimp only [Prog.bind]; sl_step
  iapply Hk $$ H2 H9 H15 [H11] [H14]
  · rw [← putE_eq O E t4.val _ hr hp (Words.off9_eq v4 hv t1 t4) (Words.off10_eq _) (k0_off9_inb i v4 hw t1 t4)
      (k0_off10_inb _ hc)]
    iexact H11
  · rw [← putY_eq wt O Y t4.val _ hr hp (Words.off9_eq v4 hv t1 t4) (Words.off11_eq _ hp) (Words.off12_eq _)
      (k0_off9_inb i v4 hw t1 t4) (k0_off11_inb _ hc) (k0_off12_inb _ hc)]
    iexact H14

/-- The scattering loop hands the chunk's result rows out, whatever property of the two results each row keeps. -/
theorem scatter_loop {α : Type} (lst : Vec F S12288 .i32) (wt : Vec F S2048 .f32) (q q9 : PosShare TreeShare)
    (hlst : ∀ j, (lst j).toNat < 2048) (v4 : BitVec 32) (hv : v4.toNat ≤ 256) (hw : k0_chk1 i v4)
    (t1 : Fin (k0_t1_loop v4).trips) (O : Vec F S64x2048 .f32)
    (J : Nat → Vec F S2048x2048 .f32 → Vec F S256x2048 .f32 → Prop)
    (hJ : ∀ (r : Nat) (hr : r < 64) (hn : 64 * t1.val + r < v4.toNat) (hb : (i 0).val * 256 + (64 * t1.val + r) < 12288)
      (hp : (pairAt lst ((i 0).val * 256 + (64 * t1.val + r)) hb).toNat < 2048) E Y, J (64 * t1.val + r) E Y →
        J (64 * t1.val + r + 1) (putE O r hr _ hp E) (putY wt O r hr _ hp Y))
    (E : Vec F S2048x2048 .f32) (Y : Vec F S256x2048 .f32) (h0 : J (64 * t1.val) E Y)
    (kk : BitVec 32 → Prog (TpuEff nD τ sig (Elt F) Λ₀ .tc) α) (Q : α → sProp 𝕄) :
    iprop(owns c a2 q lst ∗ owns c a9 q9 wt ∗ owns c a15 fullShare O ∗ owns c a11 fullShare E ∗ owns c a14 fullShare Y ∗
      (∀ acc E' Y', ⌜J (64 * t1.val + min (v4.toNat - 64 * t1.val) 64) E' Y'⌝ -∗
        owns c a2 q lst -∗ owns c a9 q9 wt -∗ owns c a15 fullShare O -∗
        owns c a11 fullShare E' -∗ owns c a14 fullShare Y' -∗ wp frame (wpE (defs₀ (F := F)) 𝒱₀ c none) Set.univ (kk acc) Q)) ⊢
      wp frame (wpE (defs₀ (F := F)) 𝒱₀ c none) Set.univ (Scf.Loop.for (k0_t4_loop v4 t1) (k0_t4_ok i v4 hw t1) 0#32
        (k0_t4_body (F := F) i a1 w1 a2 w2 a3 w3 a4 w4 a5 w5 a6 w6 a7 w7 a8 w8 a9 w9 a10 w10 a11 w11 a12 w12 a13 w13 a14 w14 a15 w15 v4 hw t1) >>= kk) Q := by
  have hi : (i 0).val < 48 := (i 0).isLt
  iintro ⟨H2, H9, H15, H11, H14, Hk⟩
  iapply (Scf.wp_for_bind frame (wpE (defs₀ (F := F)) 𝒱₀ c none) Set.univ _ _ _ (k0_t4_ok i v4 hw t1) _ _
      (fun k _ => iprop(∃ E' Y', ⌜J (64 * t1.val + k) E' Y'⌝ ∗
        owns c a2 q lst ∗ owns c a9 q9 wt ∗ owns c a15 fullShare O ∗ owns c a11 fullShare E' ∗ owns c a14 fullShare Y')) ?trip)
      $$ [H2 H9 H15 H11 H14]
  · intro k acc
    have ht := Words.t4_lt v4 hv t1 k
    iintro ⟨%E', %Y', %hEY, H2, H9, H15, H11, H14⟩
    iapply (scatter_trip c i a1 w1 a2 w2 a3 w3 a4 w4 a5 w5 a6 w6 a7 w7 a8 w8 a9 w9 a10 w10 a11 w11 a12 w12 a13 w13 a14 w14 a15 w15 lst wt q q9 hlst v4 hv hw t1 k acc O E' Y' (by omega) ht.2 (hlst _))
    isplitl [H2]; · iexact H2
    isplitl [H9]; · iexact H9
    isplitl [H15]; · iexact H15
    isplitl [H11]; · iexact H11
    isplitl [H14]; · iexact H14
    iintro H2 H9 H15 H11 H14
    iexists _; iexists _
    isplitr; · ipureintro; exact hJ k.val ht.2 ht.1 (by omega) (hlst _) E' Y' hEY
    isplitl [H2]; · iexact H2
    isplitl [H9]; · iexact H9
    isplitl [H15]; · iexact H15
    isplitl [H11]; · iexact H11
    iexact H14
  · iexists E; iexists Y
    isplitr; · ipureintro; exact h0
    isplitl [H2]; · iexact H2
    isplitl [H9]; · iexact H9
    isplitl [H15]; · iexact H15
    isplitl [H11]; · iexact H11
    iexact H14
  iintro %acc ⟨%E', %Y', %hEY, H2, H9, H15, H11, H14⟩
  rw [(show Scf.trips (k0_t4_loop v4 t1).lb (k0_t4_loop v4 t1).ub (k0_t4_loop v4 t1).st = _ from (Words.t4_facts v4 hv t1).2)] at hEY
  iapply Hk $$ %acc %E' %Y' [] H2 H9 H15 H11 H14
  ipureintro; exact hEY

end Cert.KernelIdeal.Body
-- ==== Proof.Parts.lean ====
/- The parts of a chunk's trip, and the whole trip, as rules over the contents of the buffers. -/
module

public import proofs.«01_k».proof.Proof.Loops

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Blk Cert.Mem

variable {F : FTy → Type} [FloatOps F]

local notation "𝕄" => MT nD τ sig Unit (Elt F) ℕ (UR sig nD τ) ℕ

variable (c : Dev nD) (i : grid0.Coords)
variable (a1 : Memref sig .tc .smem S48 .i32) (w1 : a1.IsWhole)
variable (a2 : Memref sig .tc .smem S12288 .i32) (w2 : a2.IsWhole)
variable (a3 : Memref sig .tc .vmem S256x2048 .bf16) (w3 : a3.IsWhole)
variable (a4 : Memref sig .tc .vmem S1x2048x768 .i8) (w4 : a4.IsWhole)
variable (a5 : Memref sig .tc .vmem S1x16x768 .bf16) (w5 : a5.IsWhole)
variable (a6 : Memref sig .tc .vmem S1x16x768 .bf16) (w6 : a6.IsWhole)
variable (a7 : Memref sig .tc .vmem S1x768x1024 .i8) (w7 : a7.IsWhole)
variable (a8 : Memref sig .tc .vmem S1x6x2048 .bf16) (w8 : a8.IsWhole)
variable (a9 : Memref sig .tc .smem S2048 .f32) (w9 : a9.IsWhole)
variable (a10 : Memref sig .tc .vmem S256x2048 .bf16) (w10 : a10.IsWhole)
variable (a11 : Memref sig .tc .vmem S2048x2048 .f32) (w11 : a11.IsWhole)
variable (a12 : Memref sig .tc .vmem S256x2048 .f32) (w12 : a12.IsWhole)
variable (a13 : Memref sig .tc .vmem S64x2048 .f32) (w13 : a13.IsWhole)
variable (a14 : Memref sig .tc .vmem S256x2048 .f32) (w14 : a14.IsWhole)
variable (a15 : Memref sig .tc .vmem S64x2048 .f32) (w15 : a15.IsWhole)

/-- The second part reads the second third of the gate and up blocks. -/
theorem part2_wp {α : Type} (c13 : Vec F S1x2048x768 .i8) (sg : Vec F S1x16x768 .bf16) (su : Vec F S1x16x768 .bf16)
    (v45 : FVec F S64x2048 .bf16) (v65 : FVec F S2048x256 .bf16) (v71 : FVec F S16x128x256 .bf16)
    (kk : (Σ' (_ : FVec F S64x256 .bf16) (_ : FVec F S2048x256 .bf16) (_ : FVec F S64x256 .f32), FVec F S64x256 .f32) → Prog (TpuEff nD τ sig (Elt F) Λ₀ .tc) α) (Q : α → sProp 𝕄) :
    iprop(owns c a4 fullShare c13 ∗ owns c a5 fullShare sg ∗ owns c a6 fullShare su ∗
      (owns c a4 fullShare c13 -∗ owns c a5 fullShare sg -∗ owns c a6 fullShare su -∗ wp frame (wpE (defs₀ (F := F)) 𝒱₀ c none) Set.univ (kk ⟨k0_pay17 v45 v65 v71, k0_pay19 (c13At c13 256 (by decide)) (s13At su 256 (by decide)), k0_pay20 v45 (c13At c13 256 (by decide)) (s13At sg 256 (by decide)), constant S64x256 .f32 0x00000000#32⟩) Q)) ⊢
      wp frame (wpE (defs₀ (F := F)) 𝒱₀ c none) Set.univ (k0_part2 (F := F) i a1 w1 a2 w2 a3 w3 a4 w4 a5 w5 a6 w6 a7 w7 a8 w8 a9 w9 a10 w10 a11 w11 a12 w12 a13 w13 a14 w14 a15 w15 v45 v65 v71 >>= kk) Q := by
  rw [k0_part2_eq_skeleton]
  unfold k0_part2_skel
  iintro ⟨H4, H5, H6, Hk⟩
  iapply (wp_load_owns (Q := Q)) $$ H4; iintro H4
  iapply (wp_load_owns (Q := Q)) $$ H5; iintro H5
  iapply (wp_load_owns (Q := Q)) $$ H6; iintro H6
  iapply Hk $$ H4 H5 H6

/-- The third part reads their last third. -/
theorem part3_wp {α : Type} (c13 : Vec F S1x2048x768 .i8) (sg : Vec F S1x16x768 .bf16) (su : Vec F S1x16x768 .bf16)
    (v45 : FVec F S64x2048 .bf16) (v109 : FVec F S2048x256 .bf16) (v112 : FVec F S64x256 .f32) (cst : FVec F S64x256 .f32)
    (kk : (Σ' (_ : FVec F S64x256 .bf16), FVec F S64x256 .f32) → Prog (TpuEff nD τ sig (Elt F) Λ₀ .tc) α) (Q : α → sProp 𝕄) :
    iprop(owns c a4 fullShare c13 ∗ owns c a5 fullShare sg ∗ owns c a6 fullShare su ∗
      (owns c a4 fullShare c13 -∗ owns c a5 fullShare sg -∗ owns c a6 fullShare su -∗ wp frame (wpE (defs₀ (F := F)) 𝒱₀ c none) Set.univ (kk ⟨k0_pay21 v45 v109 v112 cst, k0_pay22 v45 (c13At c13 512 (by decide)) (s13At sg 512 (by decide)) (s13At su 512 (by decide))⟩) Q)) ⊢
      wp frame (wpE (defs₀ (F := F)) 𝒱₀ c none) Set.univ (k0_part3 (F := F) i a1 w1 a2 w2 a3 w3 a4 w4 a5 w5 a6 w6 a7 w7 a8 w8 a9 w9 a10 w10 a11 w11 a12 w12 a13 w13 a14 w14 a15 w15 v45 v109 v112 cst >>= kk) Q := by
  rw [k0_part3_eq_skeleton]
  unfold k0_part3_skel
  iintro ⟨H4, H5, H6, Hk⟩
  iapply (wp_load_owns (Q := Q)) $$ H4; iintro H4
  iapply (wp_load_owns (Q := Q)) $$ H5; iintro H5
  iapply (wp_load_owns (Q := Q)) $$ H6; iintro H6
  iapply Hk $$ H4 H5 H6

/-- The fourth part assembles the hidden layer and stores the first columns of the result tile. -/
theorem part4_wp {α : Type} (c2 : Vec F S1x768x1024 .i8) (s2 : Vec F S1x6x2048 .bf16) (O : Vec F S64x2048 .f32)
    (v82 : FVec F S64x256 .bf16) (v119 : FVec F S64x256 .bf16) (v155 : FVec F S64x256 .f32)
    (kk : (Σ' (_ : FVec F S64x768 .bf16) (_ : FVec F S64x256 .f32), Vec F S64x256 .f32) → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 0 (by decide)).overlay O (k0_pay25 v82 v119 v155 (c2At c2 0 (by decide)) (s2At s2 0 (by decide)))) -∗ wp frame (wpE (defs₀ (F := F)) 𝒱₀ c none) Set.univ (kk ⟨k0_pay23 v82 v119 v155, k0_pay26 v82 v119 v155 (c2At c2 0 (by decide)) (s2At s2 1024 (by decide)), fun j => ((c64 0 (by decide)).overlay O (k0_pay25 v82 v119 v155 (c2At c2 0 (by decide)) (s2At s2 0 (by decide)))) ((c64 1024 (by decide)).emb j)⟩) Q)) ⊢
      wp frame (wpE (defs₀ (F := F)) 𝒱₀ c none) Set.univ (k0_part4 (F := F) i a1 w1 a2 w2 a3 w3 a4 w4 a5 w5 a6 w6 a7 w7 a8 w8 a9 w9 a10 w10 a11 w11 a12 w12 a13 w13 a14 w14 a15 w15 v82 v119 v155 >>= kk) Q := by
  rw [k0_part4_eq_skeleton]
  unfold k0_part4_skel
  iintro ⟨H7, H8, H15, Hk⟩
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply (wp_load_owns (Q := Q)) $$ H15; iintro H15
  iapply Hk $$ H7 H8 [H15]
  iexact H15

/-- The fifth part stores two more groups of columns. -/
theorem part5_wp {α : Type} (c2 : Vec F S1x768x1024 .i8) (s2 : Vec F S1x6x2048 .bf16) (O : Vec F S64x2048 .f32)
    (v157 : FVec F S64x768 .bf16) (v193 : FVec F S64x256 .f32) (v194 : Vec F S64x256 .f32)
    (kk : FVec F S64x256 .f32 → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 256 (by decide)).overlay ((c64 1024 (by decide)).overlay O (k0_pay27 v193)) (k0_pay29 v157 (c2At c2 256 (by decide)) (s2At s2 256 (by decide)))) -∗ wp frame (wpE (defs₀ (F := F)) 𝒱₀ c none) Set.univ (kk (k0_pay30 v157 (c2At c2 256 (by decide)) (s2At s2 1280 (by decide)))) Q)) ⊢
      wp frame (wpE (defs₀ (F := F)) 𝒱₀ c none) Set.univ (k0_part5 (F := F) i a1 w1 a2 w2 a3 w3 a4 w4 a5 w5 a6 w6 a7 w7 a8 w8 a9 w9 a10 w10 a11 w11 a12 w12 a13 w13 a14 w14 a15 w15 v157 v193 v194 >>= kk) Q := by
  rw [k0_part5_eq_skeleton]
  unfold k0_part5_skel
  iintro ⟨H7, H8, H15, Hk⟩
  iapply (wp_store_owns (Q := Q)) $$ H15; iintro H15
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply Hk $$ H7 H8 [H15]
  iexact H15

/-- So does the sixth. -/
theorem part6_wp {α : Type} (c2 : Vec F S1x768x1024 .i8) (s2 : Vec F S1x6x2048 .bf16) (O : Vec F S64x2048 .f32)
    (v157 : FVec F S64x768 .bf16) (v232 : FVec F S64x256 .f32)
    (kk : FVec F S64x256 .f32 → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 512 (by decide)).overlay ((c64 1280 (by decide)).overlay O (k0_pay31 v232)) (k0_pay33 v157 (c2At c2 512 (by decide)) (s2At s2 512 (by decide)))) -∗ wp frame (wpE (defs₀ (F := F)) 𝒱₀ c none) Set.univ (kk (k0_pay34 v157 (c2At c2 512 (by decide)) (s2At s2 1536 (by decide)))) Q)) ⊢
      wp frame (wpE (defs₀ (F := F)) 𝒱₀ c none) Set.univ (k0_part6 (F := F) i a1 w1 a2 w2 a3 w3 a4 w4 a5 w5 a6 w6 a7 w7 a8 w8 a9 w9 a10 w10 a11 w11 a12 w12 a13 w13 a14 w14 a15 w15 v157 v232 >>= kk) Q := by
  rw [k0_part6_eq_skeleton]
  unfold k0_part6_skel
  iintro ⟨H7, H8, H15, Hk⟩
  iapply (wp_load_owns (Q := Q)) $$ H15; iintro H15
  iapply (wp_store_owns (Q := Q)) $$ H15; iintro H15
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply Hk $$ H7 H8 [H15]
  iexact H15

/-- And the seventh. -/
theorem part7_wp {α : Type} (c2 : Vec F S1x768x1024 .i8) (s2 : Vec F S1x6x2048 .bf16) (O : Vec F S64x2048 .f32)
    (v157 : FVec F S64x768 .bf16) (v271 : FVec F S64x256 .f32)
    (kk : FVec F S64x256 .f32 → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 768 (by decide)).overlay ((c64 1536 (by decide)).overlay O (k0_pay35 v271)) (k0_pay37 v157 (c2At c2 768 (by decide)) (s2At s2 768 (by decide)))) -∗ wp frame (wpE (defs₀ (F := F)) 𝒱₀ c none) Set.univ (kk (k0_pay38 v157 (c2At c2 768 (by decide)) (s2At s2 1792 (by decide)))) Q)) ⊢
      wp frame (wpE (defs₀ (F := F)) 𝒱₀ c none) Set.univ (k0_part7 (F := F) i a1 w1 a2 w2 a3 w3 a4 w4 a5 w5 a6 w6 a7 w7 a8 w8 a9 w9 a10 w10 a11 w11 a12 w12 a13 w13 a14 w14 a15 w15 v157 v271 >>= kk) Q := by
  rw [k0_part7_eq_skeleton]
  unfold k0_part7_skel
  iintro ⟨H7, H8, H15, Hk⟩
  iapply (wp_load_owns (Q := Q)) $$ H15; iintro H15
  iapply (wp_store_owns (Q := Q)) $$ H15; iintro H15
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply Hk $$ H7 H8 [H15]
  iexact H15

/-- The first part gathers the chunk's rows and reads the first third of the gate and up blocks. -/
theorem part1_wp {α : Type} (lst : Vec F S12288 .i32) (xs : Vec F S256x2048 .f32) (q : PosShare TreeShare)
    (hlst : ∀ j, (lst j).toNat < 2048) (v4 : BitVec 32) (hv : v4.toNat ≤ 256) (hw : k0_chk1 i v4)
    (t1 : Fin (k0_t1_loop v4).trips) (X : Vec F S64x2048 .f32) (c13 : Vec F S1x2048x768 .i8) (sg su : Vec F S1x16x768 .bf16)
    (kk : (Σ' (_ : BitVec 32) (_ : BitVec 32) (_ : FVec F S64x2048 .bf16) (_ : FVec F S2048x256 .bf16), FVec F S16x128x256 .bf16) →
      Prog (TpuEff nD τ sig (Elt F) Λ₀ .tc) α) (Q : α → sProp 𝕄) :
    iprop(owns c a2 q lst ∗ owns c a12 fullShare xs ∗ owns c a13 fullShare X ∗
      owns c a4 fullShare c13 ∗ owns c a5 fullShare sg ∗ owns c a6 fullShare su ∗
      (∀ w34 w36 X', ⌜Gathered lst xs ((i 0).val * 256 + 64 * t1.val) (min (v4.toNat - 64 * t1.val) 64) X'⌝ -∗
        owns c a2 q lst -∗ owns c a12 fullShare xs -∗ owns c a13 fullShare X' -∗
        owns c a4 fullShare c13 -∗ owns c a5 fullShare sg -∗ owns c a6 fullShare su -∗
        wp frame (wpE (defs₀ (F := F)) 𝒱₀ c none) Set.univ (kk ⟨w34, w36, tA X', k0_pay15 (c13At c13 0 (by decide)) (s13At sg 0 (by decide)),
          k0_pay16 (c13At c13 0 (by decide)) (s13At su 0 (by decide))⟩) Q)) ⊢
      wp frame (wpE (defs₀ (F := F)) 𝒱₀ c none) Set.univ (k0_part1 (F := F) i a1 w1 a2 w2 a3 w3 a4 w4 a5 w5 a6 w6 a7 w7 a8 w8 a9 w9 a10 w10 a11 w11 a12 w12 a13 w13 a14 w14 a15 w15 (BitVec.ofNat 32 (i 0).val) v4 hw 0#32 1#32 t1 >>= kk) Q := by
  rw [k0_part1_eq_skeleton]
  unfold k0_part1_skel
  iintro ⟨H2, H12, H13, H4, H5, H6, Hk⟩
  simp only [Prog.bind_assoc]
  iapply (gather_loop c i a1 w1 a2 w2 a3 w3 a4 w4 a5 w5 a6 w6 a7 w7 a8 w8 a9 w9 a10 w10 a11 w11 a12 w12 a13 w13 a14 w14 a15 w15 lst xs q hlst v4 hv hw t1 X)
  isplitl [H2]; · iexact H2
  isplitl [H12]; · iexact H12
  isplitl [H13]; · iexact H13
  iintro %acc %X' %hX H2 H12 H13
  rw [show Scf.Loop.for (k0_t3_loop v4 t1) (k0_t3_ok i v4 hw t1) acc (k0_t3_body (F := F) i a1 w1 a2 w2 a3 w3 a4 w4 a5 w5 a6 w6 a7 w7 a8 w8 a9 w9 a10 w10 a11 w11 a12 w12 a13 w13 a14 w14 a15 w15
    (BitVec.ofNat 32 (i 0).val) v4 hw 0#32 1#32 t1) = .ret acc from Scf.for_rem_eq _ _ _ _ _]
  iapply (wp_load_owns (Q := Q)) $$ H13; iintro H13
  iapply (wp_load_owns (Q := Q)) $$ H4; iintro H4
  iapply (wp_load_owns (Q := Q)) $$ H5; iintro H5
  iapply (wp_load_owns (Q := Q)) $$ H6; iintro H6
  have e := unit_whole_read ![0, 0] inb_S64x2048_S64x2048_0_0 X'
  rw [e]
  iapply Hk $$ %_ %_ %X' [] H2 H12 H13 H4 H5 H6
  ipureintro; exact hX

end Cert.KernelIdeal.Body
-- ==== Proof.Point.lean ====
/- One visit of the kernel's body at a grid point, as a rule over the contents of the buffers. -/
module

public import proofs.«01_k».proof.Proof.Parts

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Blk Cert.Mem

variable {F : FTy → Type} [FloatOps F]

local notation "𝕄" => MT nD τ sig Unit (Elt F) ℕ (UR sig nD τ) ℕ

variable (c : Dev nD) (i : grid0.Coords)
variable (a1 : Memref sig .tc .smem S48 .i32) (w1 : a1.IsWhole)
variable (a2 : Memref sig .tc .smem S12288 .i32) (w2 : a2.IsWhole)
variable (a3 : Memref sig .tc .vmem S256x2048 .bf16) (w3 : a3.IsWhole)
variable (a4 : Memref sig .tc .vmem S1x2048x768 .i8) (w4 : a4.IsWhole)
variable (a5 : Memref sig .tc .vmem S1x16x768 .bf16) (w5 : a5.IsWhole)
variable (a6 : Memref sig .tc .vmem S1x16x768 .bf16) (w6 : a6.IsWhole)
variable (a7 : Memref sig .tc .vmem S1x768x1024 .i8) (w7 : a7.IsWhole)
variable (a8 : Memref sig .tc .vmem S1x6x2048 .bf16) (w8 : a8.IsWhole)
variable (a9 : Memref sig .tc .smem S2048 .f32) (w9 : a9.IsWhole)
variable (a10 : Memref sig .tc .vmem S256x2048 .bf16) (w10 : a10.IsWhole)
variable (a11 : Memref sig .tc .vmem S2048x2048 .f32) (w11 : a11.IsWhole)
variable (a12 : Memref sig .tc .vmem S256x2048 .f32) (w12 : a12.IsWhole)
variable (a13 : Memref sig .tc .vmem S64x2048 .f32) (w13 : a13.IsWhole)
variable (a14 : Memref sig .tc .vmem S256x2048 .f32) (w14 : a14.IsWhole)
variable (a15 : Memref sig .tc .vmem S64x2048 .f32) (w15 : a15.IsWhole)

/-- One trip of the chunk loop keeps what the handling of one pair keeps, over the pairs of the chunk. -/
theorem trip_wp (lst : Vec F S12288 .i32) (wt : Vec F S2048 .f32) (xs : Vec F S256x2048 .f32) (q q9 : PosShare TreeShare)
    (hlst : ∀ j, (lst j).toNat < 2048) (v4 : BitVec 32) (hv : v4.toNat ≤ 256) (hw : k0_chk1 i v4)
    (t1 : Fin (k0_t1_loop v4).trips) (acc : BitVec 32) (X : Vec F S64x2048 .f32) (O : Vec F S64x2048 .f32)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt xs c13 sg su c2 s2 (i 0).val v4.toNat J)
    (E : Vec F S2048x2048 .f32) (Y : Vec F S256x2048 .f32) (h0 : J (64 * t1.val) E Y) (Q : BitVec 32 → sProp 𝕄) :
    iprop(owns c a2 q lst ∗ owns c a9 q9 wt ∗ owns c a12 fullShare xs ∗ owns c a13 fullShare X ∗ owns c a15 fullShare O ∗
      owns c a4 fullShare c13 ∗ owns c a5 fullShare sg ∗ owns c a6 fullShare su ∗ owns c a7 fullShare c2 ∗
      owns c a8 fullShare s2 ∗ owns c a11 fullShare E ∗ owns c a14 fullShare Y ∗
      (∀ X' O' E' Y', ⌜J (64 * t1.val + min (v4.toNat - 64 * t1.val) 64) E' Y'⌝ -∗
        owns c a2 q lst -∗ owns c a9 q9 wt -∗ owns c a12 fullShare xs -∗ owns c a13 fullShare X' -∗ owns c a15 fullShare O' -∗
        owns c a4 fullShare c13 -∗ owns c a5 fullShare sg -∗ owns c a6 fullShare su -∗ owns c a7 fullShare c2 -∗
        owns c a8 fullShare s2 -∗ owns c a11 fullShare E' -∗ owns c a14 fullShare Y' -∗ Q 0#32)) ⊢
      wp frame (wpE (defs₀ (F := F)) 𝒱₀ c none) Set.univ (k0_t1_body (F := F) i a1 w1 a2 w2 a3 w3 a4 w4 a5 w5 a6 w6 a7 w7 a8 w8 a9 w9 a10 w10 a11 w11 a12 w12 a13 w13 a14 w14 a15 w15 (BitVec.ofNat 32 (i 0).val) v4 hw t1 acc) Q := by
  unfold k0_t1_body
  iintro ⟨H2, H9, H12, H13, H15, H4, H5, H6, H7, H8, H11, H14, Hk⟩
  iapply (part1_wp c i a1 w1 a2 w2 a3 w3 a4 w4 a5 w5 a6 w6 a7 w7 a8 w8 a9 w9 a10 w10 a11 w11 a12 w12 a13 w13 a14 w14 a15 w15 lst xs q hlst v4 hv hw t1 X c13 sg su)
  isplitl [H2]; · iexact H2
  isplitl [H12]; · iexact H12
  isplitl [H13]; · iexact H13
  isplitl [H4]; · iexact H4
  isplitl [H5]; · iexact H5
  isplitl [H6]; · iexact H6
  iintro %w34 %w36 %X' %hX H2 H12 H13 H4 H5 H6
  iapply (part2_wp c i a1 w1 a2 w2 a3 w3 a4 w4 a5 w5 a6 w6 a7 w7 a8 w8 a9 w9 a10 w10 a11 w11 a12 w12 a13 w13 a14 w14 a15 w15 c13 sg su)
  isplitl [H4]; · iexact H4
  isplitl [H5]; · iexact H5
  isplitl [H6]; · iexact H6
  iintro H4 H5 H6
  iapply (part3_wp c i a1 w1 a2 w2 a3 w3 a4 w4 a5 w5 a6 w6 a7 w7 a8 w8 a9 w9 a10 w10 a11 w11 a12 w12 a13 w13 a14 w14 a15 w15 c13 sg su)
  isplitl [H4]; · iexact H4
  isplitl [H5]; · iexact H5
  isplitl [H6]; · iexact H6
  iintro H4 H5 H6
  iapply (part4_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (part5_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (part6_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (part7_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (wp_load_owns (Q := Q)) $$ H15; iintro H15
  iapply (wp_store_owns (Q := Q)) $$ H15; iintro H15
  have hb : (i 0).val < 48 := (i 0).isLt
  iapply (scatter_loop c i a1 w1 a2 w2 a3 w3 a4 w4 a5 w5 a6 w6 a7 w7 a8 w8 a9 w9 a10 w10 a11 w11 a12 w12 a13 w13 a14 w14 a15 w15 lst wt q q9 hlst v4 hv hw t1 (ogTile X' c13 sg su c2 s2 O) J
    (fun r hr hn hb hp E Y h => hJ (64 * t1.val) r hr hn hb hp X' O hX E Y h) E Y h0)
  isplitl [H2]; · iexact H2
  isplitl [H9]; · iexact H9
  isplitl [H15]; · iexact H15
  isplitl [H11]; · iexact H11
  isplitl [H14]; · iexact H14
  iintro %acc' %E' %Y' %hEY H2 H9 H15 H11 H14
  rw [show Scf.Loop.for (k0_t5_loop v4 t1) (k0_t5_ok i v4 hw t1) acc' (k0_t5_body (F := F) i a1 w1 a2 w2 a3 w3 a4 w4 a5 w5 a6 w6 a7 w7 a8 w8 a9 w9 a10 w10 a11 w11 a12 w12 a13 w13 a14 w14 a15 w15
    v4 hw t1) = .ret acc' from Scf.for_rem_eq _ _ _ _ _]
  dsimp only [Prog.bind, Prog.pure_eq_ret, bind]; sl_step
  iapply Hk $$ %X' %_ %E' %Y' [] H2 H9 H12 H13 H15 H4 H5 H6 H7 H8 H11 H14
  ipureintro; exact hEY

/-- The chunk loop keeps it over all the pairs of the slot. -/
theorem chunks_wp {α : Type} (lst : Vec F S12288 .i32) (wt : Vec F S2048 .f32) (xs : Vec F S256x2048 .f32) (q q9 : PosShare TreeShare)
    (hlst : ∀ j, (lst j).toNat < 2048) (v4 : BitVec 32) (hv : v4.toNat ≤ 256) (hw : k0_chk1 i v4)
    (X : Vec F S64x2048 .f32) (O : Vec F S64x2048 .f32)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt xs c13 sg su c2 s2 (i 0).val v4.toNat J)
    (E : Vec F S2048x2048 .f32) (Y : Vec F S256x2048 .f32) (h0 : J 0 E Y)
    (kk : BitVec 32 → Prog (TpuEff nD τ sig (Elt F) Λ₀ .tc) α) (Q : α → sProp 𝕄) :
    iprop(owns c a2 q lst ∗ owns c a9 q9 wt ∗ owns c a12 fullShare xs ∗ owns c a13 fullShare X ∗ owns c a15 fullShare O ∗
      owns c a4 fullShare c13 ∗ owns c a5 fullShare sg ∗ owns c a6 fullShare su ∗ owns c a7 fullShare c2 ∗
      owns c a8 fullShare s2 ∗ owns c a11 fullShare E ∗ owns c a14 fullShare Y ∗
      (∀ acc X' O' E' Y', ⌜J v4.toNat E' Y'⌝ -∗
        owns c a2 q lst -∗ owns c a9 q9 wt -∗ owns c a12 fullShare xs -∗ owns c a13 fullShare X' -∗ owns c a15 fullShare O' -∗
        owns c a4 fullShare c13 -∗ owns c a5 fullShare sg -∗ owns c a6 fullShare su -∗ owns c a7 fullShare c2 -∗
        owns c a8 fullShare s2 -∗ owns c a11 fullShare E' -∗ owns c a14 fullShare Y' -∗ wp frame (wpE (defs₀ (F := F)) 𝒱₀ c none) Set.univ (kk acc) Q)) ⊢
      wp frame (wpE (defs₀ (F := F)) 𝒱₀ c none) Set.univ (Scf.Loop.for (k0_t1_loop v4) (k0_t1_ok i v4 hw) 0#32
        (k0_t1_body (F := F) i a1 w1 a2 w2 a3 w3 a4 w4 a5 w5 a6 w6 a7 w7 a8 w8 a9 w9 a10 w10 a11 w11 a12 w12 a13 w13 a14 w14 a15 w15 (BitVec.ofNat 32 (i 0).val) v4 hw) >>= kk) Q := by
  iintro ⟨H2, H9, H12, H13, H15, H4, H5, H6, H7, H8, H11, H14, Hk⟩
  iapply (Scf.wp_for_bind frame (wpE (defs₀ (F := F)) 𝒱₀ c none) Set.univ _ _ _ (k0_t1_ok i v4 hw) _ _
      (fun k _ => iprop(∃ X' O' E' Y', ⌜J (min v4.toNat (64 * k)) E' Y'⌝ ∗
        owns c a2 q lst ∗ owns c a9 q9 wt ∗ owns c a12 fullShare xs ∗ owns c a13 fullShare X' ∗ owns c a15 fullShare O' ∗
        owns c a4 fullShare c13 ∗ owns c a5 fullShare sg ∗ owns c a6 fullShare su ∗ owns c a7 fullShare c2 ∗
        owns c a8 fullShare s2 ∗ owns c a11 fullShare E' ∗ owns c a14 fullShare Y')) ?trip)
      $$ [H2 H9 H12 H13 H15 H4 H5 H6 H7 H8 H11 H14]
  · intro k acc
    have ht := Words.t1_lt v4 hv k
    iintro ⟨%X', %O', %E', %Y', %hEY, H2, H9, H12, H13, H15, H4, H5, H6, H7, H8, H11, H14⟩
    rw [show min v4.toNat (64 * k.val) = 64 * k.val by omega] at hEY
    iapply (trip_wp c i a1 w1 a2 w2 a3 w3 a4 w4 a5 w5 a6 w6 a7 w7 a8 w8 a9 w9 a10 w10 a11 w11 a12 w12 a13 w13 a14 w14 a15 w15 lst wt xs q q9 hlst v4 hv hw k acc X' O' c13 sg su c2 s2 J hJ E' Y' hEY)
    isplitl [H2]; · iexact H2
    isplitl [H9]; · iexact H9
    isplitl [H12]; · iexact H12
    isplitl [H13]; · iexact H13
    isplitl [H15]; · iexact H15
    isplitl [H4]; · iexact H4
    isplitl [H5]; · iexact H5
    isplitl [H6]; · iexact H6
    isplitl [H7]; · iexact H7
    isplitl [H8]; · iexact H8
    isplitl [H11]; · iexact H11
    isplitl [H14]; · iexact H14
    iintro %X'' %O'' %E'' %Y'' %h'' H2 H9 H12 H13 H15 H4 H5 H6 H7 H8 H11 H14
    rw [show 64 * k.val + min (v4.toNat - 64 * k.val) 64 = min v4.toNat (64 * (k.val + 1)) by omega] at h''
    iexists X''; iexists O''; iexists E''; iexists Y''
    isplitr; · ipureintro; exact h''
    isplitl [H2]; · iexact H2
    isplitl [H9]; · iexact H9
    isplitl [H12]; · iexact H12
    isplitl [H13]; · iexact H13
    isplitl [H15]; · iexact H15
    isplitl [H4]; · iexact H4
    isplitl [H5]; · iexact H5
    isplitl [H6]; · iexact H6
    isplitl [H7]; · iexact H7
    isplitl [H8]; · iexact H8
    isplitl [H11]; · iexact H11
    iexact H14
  · iexists X; iexists O; iexists E; iexists Y
    isplitr; · ipureintro; rw [Nat.mul_zero, Nat.min_zero]; exact h0
    isplitl [H2]; · iexact H2
    isplitl [H9]; · iexact H9
    isplitl [H12]; · iexact H12
    isplitl [H13]; · iexact H13
    isplitl [H15]; · iexact H15
    isplitl [H4]; · iexact H4
    isplitl [H5]; · iexact H5
    isplitl [H6]; · iexact H6
    isplitl [H7]; · iexact H7
    isplitl [H8]; · iexact H8
    isplitl [H11]; · iexact H11
    iexact H14
  iintro %acc ⟨%X', %O', %E', %Y', %hEY, H2, H9, H12, H13, H15, H4, H5, H6, H7, H8, H11, H14⟩
  rw [(show Scf.trips (k0_t1_loop v4).lb (k0_t1_loop v4).ub (k0_t1_loop v4).st = _ from (Words.t1_facts v4 hv).2),
    show min v4.toNat (64 * ((v4.toNat + 63) / 64)) = v4.toNat by omega] at hEY
  iapply Hk $$ %acc %X' %O' %E' %Y' [] H2 H9 H12 H13 H15 H4 H5 H6 H7 H8 H11 H14
  ipureintro; exact hEY

/-- The word a scalar load of the counts reads. -/
theorem cnt_read (cnt : Vec F S48 .i32) (off : Fin 1 → Nat) (inb : ∀ a, off a + S1.size a ≤ S48.size a) (n : Nat)
    (hn : n < 48) (ho : off = ![n]) :
    cnt ((Rect.unit (s := S48) off S1.size inb).emb (Shape.Idx.first (s := S1) (numel1_S1.symm ▸ Nat.one_pos))) = cnt (ix1 ⟨n, hn⟩) := by
  subst ho
  congr 1
  funext a
  fin_cases a
  rfl

/-- What a visit does after its first branch. -/
theorem tail_wp (cnt : Vec F S48 .i32) (lst : Vec F S12288 .i32) (wt : Vec F S2048 .f32)
    (q1 q q9 : PosShare TreeShare) (hcnt : ∀ j, (cnt j).toNat ≤ 256) (hlst : ∀ j, (lst j).toNat < 2048)
    (xs : Vec F S256x2048 .f32)
    (X : Vec F S64x2048 .f32) (O : Vec F S64x2048 .f32) (yb : Vec F S256x2048 .bf16)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt xs c13 sg su c2 s2 (i 0).val (cnt (ix1 (i 0))).toNat J)
    (E : Vec F S2048x2048 .f32) (Y : Vec F S256x2048 .f32) (h0 : J 0 E Y) (z : BitVec 32 → BitVec 32)
    (hst : (a10.access (Rect.unit (s := S256x2048) ![0, 0] S256x2048.size inb_S256x2048_S256x2048_0_0)).Stores Finset.univ) (Q : PUnit → sProp 𝕄) :
    iprop(owns c a1 q1 cnt ∗ owns c a2 q lst ∗ owns c a4 fullShare c13 ∗ owns c a5 fullShare sg ∗
      owns c a6 fullShare su ∗ owns c a7 fullShare c2 ∗ owns c a8 fullShare s2 ∗ owns c a9 q9 wt ∗ owns c a10 fullShare yb ∗
      owns c a11 fullShare E ∗ owns c a12 fullShare xs ∗ owns c a13 fullShare X ∗ owns c a14 fullShare Y ∗ owns c a15 fullShare O ∗
      (∀ X' O' E' Y', ⌜J (cnt (ix1 (i 0))).toNat E' Y'⌝ -∗
        owns c a1 q1 cnt -∗ owns c a2 q lst -∗ owns c a4 fullShare c13 -∗ owns c a5 fullShare sg -∗
        owns c a6 fullShare su -∗ owns c a7 fullShare c2 -∗ owns c a8 fullShare s2 -∗ owns c a9 q9 wt -∗
        owns c a10 fullShare (if (i 0).val = 47 then k0_pay10 Y' else yb) -∗
        owns c a11 fullShare E' -∗ owns c a12 fullShare xs -∗
        owns c a13 fullShare X' -∗ owns c a14 fullShare Y' -∗ owns c a15 fullShare O' -∗ Q ⟨⟩)) ⊢
      wp frame (wpE (defs₀ (F := F)) 𝒱₀ c none) Set.univ (do
        let v4 : Elt F .i32 ← smemLoad a1 (Rect.unit (s := S48) (k0_off1 i) S1.size (k0_off1_inb i)) numel1_S1 rfl
        have k0_hw1 : k0_chk1 i v4 := (← Prog.lift (TpuEff.assume (k0_chk1 i v4) (k0_chk1.dec i v4))).down
        let v29 : BitVec 32 ← Scf.Loop.for (k0_t1_loop v4) (k0_t1_ok i v4 k0_hw1) 0#32 (k0_t1_body i a1 w1 a2 w2 a3 w3 a4 w4 a5 w5 a6 w6 a7 w7 a8 w8 a9 w9 a10 w10 a11 w11 a12 w12 a13 w13 a14 w14 a15 w15 (BitVec.ofNat 32 (i 0).val) v4 k0_hw1)
        let v30 : BitVec 32 ← Scf.Loop.for (k0_t6_loop v4) (k0_t6_ok i v4 k0_hw1) v29 (k0_t6_body i a1 w1 a2 w2 a3 w3 a4 w4 a5 w5 a6 w6 a7 w7 a8 w8 a9 w9 a10 w10 a11 w11 a12 w12 a13 w13 a14 w14 a15 w15 (BitVec.ofNat 32 (i 0).val) v4 k0_hw1 (z v4))
        if k0_h2 : k0_cond2 i = 1#1 then do
          let v34 : Vec F S256x2048 .f32 ← Prog.lift (.load a14 (Rect.unit (s := S256x2048) ![0, 0] S256x2048.size inb_S256x2048_S256x2048_0_0).toLoadRect (View.loadsAt_vmem h_S256x2048))
          let v36 : Vec F S256x2048 .bf16 ← Prog.lift (.load a10 (Rect.unit (s := S256x2048) ![0, 0] S256x2048.size inb_S256x2048_S256x2048_0_0).toLoadRect (View.loadsAt_vmem h_S256x2048))
          Prog.lift (.store a10 (Rect.unit (s := S256x2048) ![0, 0] S256x2048.size inb_S256x2048_S256x2048_0_0) (k0_pay10 v34) Finset.univ hst (.inl rfl))
          Pure.pure (⟨⟩ : PUnit)
        else do
          Pure.pure (⟨⟩ : PUnit)) Q := by
  have hc : cnt ((Rect.unit (s := S48) (k0_off1 i) S1.size (k0_off1_inb i)).emb (Shape.Idx.first (s := S1) (numel1_S1.symm ▸ Nat.one_pos))) = cnt (ix1 (i 0)) :=
    cnt_read cnt _ (k0_off1_inb i) (i 0).val (i 0).isLt (Words.off1_eq i)
  iintro ⟨H1, H2, H4, H5, H6, H7, H8, H9, H10, H11, H12, H13, H14, H15, Hk⟩
  iapply (wp_smem_owns (Q := Q) (h1 := numel1_S1) (hp := rfl)) $$ H1; iintro H1
  rw [hc]
  generalize hv4 : cnt (ix1 (i 0)) = v4
  rw [hv4] at hJ
  have hv : v4.toNat ≤ 256 := hv4 ▸ hcnt _
  have hw := Words.chk1 i v4 hv
  iapply (wp_assume (Q := Q) 𝒱₀ c none Set.univ hw)
  iapply (chunks_wp c i a1 w1 a2 w2 a3 w3 a4 w4 a5 w5 a6 w6 a7 w7 a8 w8 a9 w9 a10 w10 a11 w11 a12 w12 a13 w13 a14 w14 a15 w15 lst wt xs q q9 hlst v4 hv hw X O c13 sg su c2 s2 J hJ E Y h0)
  isplitl [H2]; · iexact H2
  isplitl [H9]; · iexact H9
  isplitl [H12]; · iexact H12
  isplitl [H13]; · iexact H13
  isplitl [H15]; · iexact H15
  isplitl [H4]; · iexact H4
  isplitl [H5]; · iexact H5
  isplitl [H6]; · iexact H6
  isplitl [H7]; · iexact H7
  isplitl [H8]; · iexact H8
  isplitl [H11]; · iexact H11
  isplitl [H14]; · iexact H14
  iintro %acc %X' %O' %E' %Y' %hEY H2 H9 H12 H13 H15 H4 H5 H6 H7 H8 H11 H14
  rw [show Scf.Loop.for (k0_t6_loop v4) (k0_t6_ok i v4 hw) acc (k0_t6_body (F := F) i a1 w1 a2 w2 a3 w3 a4 w4 a5 w5 a6 w6 a7 w7 a8 w8 a9 w9 a10 w10 a11 w11 a12 w12 a13 w13 a14 w14 a15 w15
    (BitVec.ofNat 32 (i 0).val) v4 hw (z v4)) = .ret acc from Scf.for_rem_eq _ _ _ _ _]
  by_cases h47 : (i 0).val = 47
  · simp only [Prog.bind_ret, bind, Prog.bind]
    rw [dif_pos ((Words.cond2_iff i).2 h47)]
    iapply (wp_load_owns (Q := Q)) $$ H14; iintro H14
    iapply (wp_load_owns (Q := Q)) $$ H10; iintro H10
    iapply (wp_store_owns (Q := Q)) $$ H10; iintro H10
    simp only [Prog.pure_eq_ret]
    dsimp only [Prog.bind]; sl_step
    iapply Hk $$ %X' %O' %E' %Y' [] H1 H2 H4 H5 H6 H7 H8 H9 [H10] H11 H12 H13 H14 H15
    · ipureintro; exact hEY
    · rw [unit_whole_overlay, if_pos h47, unit_whole_read _ _ Y']
      iexact H10
  · simp only [Prog.bind_ret, bind, Prog.bind]
    rw [dif_neg (fun h => h47 ((Words.cond2_iff i).1 h))]
    simp only [Prog.pure_eq_ret]
    sl_step
    iapply Hk $$ %X' %O' %E' %Y' [] H1 H2 H4 H5 H6 H7 H8 H9 [H10] H11 H12 H13 H14 H15
    · ipureintro; exact hEY
    · rw [if_neg h47]
      iexact H10

/-- One visit of the body. -/
theorem point_wp (cnt : Vec F S48 .i32) (lst : Vec F S12288 .i32) (wt : Vec F S2048 .f32) (xin : Vec F S256x2048 .bf16)
    (q1 q q9 q3 : PosShare TreeShare) (hcnt : ∀ j, (cnt j).toNat ≤ 256) (hlst : ∀ j, (lst j).toNat < 2048)
    (xs : Vec F S256x2048 .f32)
    (X : Vec F S64x2048 .f32) (O : Vec F S64x2048 .f32) (yb : Vec F S256x2048 .bf16)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt (if (i 0).val = 0 then k0_pay1 xin else xs) c13 sg su c2 s2 (i 0).val (cnt (ix1 (i 0))).toNat J)
    (E : Vec F S2048x2048 .f32) (Y : Vec F S256x2048 .f32)
    (h0 : J 0 (if (i 0).val = 0 then k0_pay3 else E) (if (i 0).val = 0 then k0_pay2 else Y)) (Q : PUnit → sProp 𝕄) :
    iprop(owns c a1 q1 cnt ∗ owns c a2 q lst ∗ owns c a3 fullShare xin ∗ owns c a4 fullShare c13 ∗ owns c a5 fullShare sg ∗
      owns c a6 fullShare su ∗ owns c a7 fullShare c2 ∗ owns c a8 fullShare s2 ∗ owns c a9 q9 wt ∗ owns c a10 fullShare yb ∗
      owns c a11 fullShare E ∗ owns c a12 fullShare xs ∗ owns c a13 fullShare X ∗ owns c a14 fullShare Y ∗ owns c a15 fullShare O ∗
      (∀ X' O' E' Y', ⌜J (cnt (ix1 (i 0))).toNat E' Y'⌝ -∗
        owns c a1 q1 cnt -∗ owns c a2 q lst -∗ owns c a3 fullShare xin -∗ owns c a4 fullShare c13 -∗ owns c a5 fullShare sg -∗
        owns c a6 fullShare su -∗ owns c a7 fullShare c2 -∗ owns c a8 fullShare s2 -∗ owns c a9 q9 wt -∗
        owns c a10 fullShare (if (i 0).val = 47 then k0_pay10 Y' else yb) -∗
        owns c a11 fullShare E' -∗ owns c a12 fullShare (if (i 0).val = 0 then k0_pay1 xin else xs) -∗
        owns c a13 fullShare X' -∗ owns c a14 fullShare Y' -∗ owns c a15 fullShare O' -∗ Q ⟨⟩)) ⊢
      wp frame (wpE (defs₀ (F := F)) 𝒱₀ c none) Set.univ (cc0_moe_decode (F := F) i a1 w1 a2 w2 a3 w3 a4 w4 a5 w5 a6 w6 a7 w7 a8 w8 a9 w9 a10 w10 a11 w11 a12 w12 a13 w13 a14 w14 a15 w15) Q := by
  rw [cc0_moe_decode_eq_skeleton]
  unfold cc0_moe_decode_skel
  dsimp only
  iintro ⟨H1, H2, H3, H4, H5, H6, H7, H8, H9, H10, H11, H12, H13, H14, H15, Hk⟩
  by_cases hz : (i 0).val = 0
  · rw [if_pos hz] at hJ h0
    rw [if_pos hz] at h0
    simp only [if_pos hz]
    rw [dif_pos ((Words.cond1_iff (i 0).val (i 0).isLt).2 hz)]
    iapply (wp_load_owns (Q := Q)) $$ H3; iintro H3
    iapply (wp_load_owns (Q := Q)) $$ H12; iintro H12
    iapply (wp_store_owns (Q := Q)) $$ H12; iintro H12
    iapply (wp_load_owns (Q := Q)) $$ H14; iintro H14
    iapply (wp_store_owns (Q := Q)) $$ H14; iintro H14
    iapply (wp_load_owns (Q := Q)) $$ H11; iintro H11
    iapply (wp_store_owns (Q := Q)) $$ H11; iintro H11
    rw [unit_whole_overlay, unit_whole_overlay, unit_whole_overlay, unit_whole_read _ _ xin]
    iapply (tail_wp c i a1 w1 a2 w2 a3 w3 a4 w4 a5 w5 a6 w6 a7 w7 a8 w8 a9 w9 a10 w10 a11 w11 a12 w12 a13 w13 a14 w14 a15 w15 cnt lst wt q1 q q9 hcnt hlst (k0_pay1 xin) X O yb c13 sg su c2 s2 J hJ k0_pay3 k0_pay2 h0)
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro %X' %O' %E' %Y' %hEY H1 H2 H4 H5 H6 H7 H8 H9 H10 H11 H12 H13 H14 H15
    iapply Hk $$ %X' %O' %E' %Y' [] H1 H2 H3 H4 H5 H6 H7 H8 H9 H10 H11 H12 H13 H14 H15
    ipureintro; exact hEY
  · rw [if_neg hz] at hJ h0
    rw [if_neg hz] at h0
    simp only [if_neg hz]
    rw [dif_neg (fun h => hz ((Words.cond1_iff (i 0).val (i 0).isLt).1 h))]
    iapply (tail_wp c i a1 w1 a2 w2 a3 w3 a4 w4 a5 w5 a6 w6 a7 w7 a8 w8 a9 w9 a10 w10 a11 w11 a12 w12 a13 w13 a14 w14 a15 w15 cnt lst wt q1 q q9 hcnt hlst xs X O yb c13 sg su c2 s2 J hJ E Y h0)
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro %X' %O' %E' %Y' %hEY H1 H2 H4 H5 H6 H7 H8 H9 H10 H11 H12 H13 H14 H15
    iapply Hk $$ %X' %O' %E' %Y' [] H1 H2 H3 H4 H5 H6 H7 H8 H9 H10 H11 H12 H13 H14 H15
    ipureintro; exact hEY

end Cert.KernelIdeal.Body
-- ==== Proof.Region.lean ====
/- The launch of the one pallas_call: what the region's data are, the body at every grid point, and what every run ends in. -/
module

public import proofs.«01_k».proof.Proof.Point
public import proofs.«01_k».proof.Proof.Gen.KernelIdeal.Launch
public import Idealize.ShloMosaic.Lib.Pipeline.Frame
public import Idealize.ShloMosaic.Lib.Pipeline.FrameBody
public import Idealize.ShloMosaic.Lib.Pipeline.ArrRel
public import Idealize.ShloMosaic.Lib.StableHlo.RunRead

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Blk Cert.Mem

variable {F : FTy → Type} [FloatOps F]

local notation "𝕄" => MT nD τ sig Unit (Elt F) ℕ (UR sig nD τ) ℕ

/-- Slot `s`'s block of the stacked gate and up codes, -/
def b1 (A : Vec F S48x2048x768 .i8) (s : Fin 48) : Vec F S1x2048x768 .i8 := fun j => A (ix3 s (j 1) (j 2))
/-- of a stack of their scales, -/
def b2 (A : Vec F S48x16x768 .bf16) (s : Fin 48) : Vec F S1x16x768 .bf16 := fun j => A (ix3 s (j 1) (j 2))
/-- of the stacked down codes, -/
def b4 (A : Vec F S48x768x1024 .i8) (s : Fin 48) : Vec F S1x768x1024 .i8 := fun j => A (ix3 s (j 1) (j 2))
/-- and of their scales. -/
def b5 (A : Vec F S48x6x2048 .bf16) (s : Fin 48) : Vec F S1x6x2048 .bf16 := fun j => A (ix3 s (j 1) (j 2))

/-- How many pairs slot `s` serves. -/
def nOf (cnt : Vec F S48 .i32) (s : Fin 48) : Nat := (cnt (ix1 s)).toNat

/-- The tables are in range, and `JE s n E` (of the result array) and `JY s n Y` (of the accumulator) hold before the first pair, are kept
    by the handling of every pair, and pass from one slot to the next. -/
structure Kept (cnt : Vec F S48 .i32) (lst : Vec F S12288 .i32) (x : Vec F S256x2048 .bf16) (A1 : Vec F S48x2048x768 .i8)
    (A2 A3 : Vec F S48x16x768 .bf16) (A4 : Vec F S48x768x1024 .i8) (A5 : Vec F S48x6x2048 .bf16) (wt : Vec F S2048 .f32)
    (JE : Nat → Nat → Vec F S2048x2048 .f32 → Prop) (JY : Nat → Nat → Vec F S256x2048 .f32 → Prop) : Prop where
  cnt_le : ∀ j, (cnt j).toNat ≤ 256
  lst_lt : ∀ j, (lst j).toNat < 2048
  e0 : JE 0 0 k0_pay3
  y0 : JY 0 0 k0_pay2
  step : ∀ s : Fin 48, StepOK lst wt (k0_pay1 x) (b1 A1 s) (b2 A2 s) (b2 A3 s) (b4 A4 s) (b5 A5 s) s.val (nOf cnt s)
    (fun n E Y => JE s.val n E ∧ JY s.val n Y)
  eS : ∀ s : Fin 48, s.val < 47 → ∀ E, JE s.val (nOf cnt s) E → JE (s.val + 1) 0 E
  yS : ∀ s : Fin 48, s.val < 47 → ∀ Y, JY s.val (nOf cnt s) Y → JY (s.val + 1) 0 Y

section Region

variable (V : (c : Dev nD) → (b : Ref sig .tc) → Buf (Elt F) ((c.tc : Thread nD τ).loc b))

/-- The tables the region is entered with. -/
def tabs : (pcfg0 (F := F)).Adm := ⟨fun k => V 0 (pre0.ref k), trivial⟩

/-- The same, for every call of the program. -/
abbrev tabsA : (p : Fin 1) → (pcfgs (F := F) p).Adm := fun _ => tabs V

/-- The region's configuration at those tables. -/
abbrev cfgV : Pipeline.Cfg sig Λ₀ := Pipeline.pin (pcfgs (F := F)) (tabsA V) 0

variable (JE : Nat → Nat → Vec F S2048x2048 .f32 → Prop) (JY : Nat → Nat → Vec F S256x2048 .f32 → Prop)

/-- The counts on device `c`, -/
abbrev cntV (c : Dev nD) : Vec F S48 .i32 := V c main_v37
/-- and its tokens. -/
abbrev xV (c : Dev nD) : Vec F S256x2048 .bf16 := V c main_v59

/-- What the body may leave in each staging buffer: an input as it was found; the accumulator narrowed, at the last point; and a
    result array that `JE` holds of. -/
def left (c : Dev nD) : (w : Fin (cfgV V).W) → Fin (cfgV V).N →
    (Y X : ((cfgV V).win w).block.Idx → Elt F ((cfgV V).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t _ X => t.val = 47 → ∃ Y' : Vec F S256x2048 .f32, JY 47 (nOf (cntV V c) 47) Y' ∧ X = k0_pay10 Y'
  | 8 => fun t _ X => ∀ s : Fin 48, s.val = t.val → JE s.val (nOf (cntV V c) s) X
  | ⟨_ + 9, h⟩ => absurd h (Nat.not_lt.2 (Nat.le_add_left _ _))

/-- The scratch buffers before point `t`: after the first point, the widened tokens and an accumulator that `JY` holds of. -/
def scr (c : Dev nD) (t : Nat) : sProp 𝕄 :=
  iprop(∃ (xs : Vec F S256x2048 .f32) (X : Vec F S64x2048 .f32) (Y : Vec F S256x2048 .f32) (O : Vec F S64x2048 .f32),
    ⌜(t ≠ 0 → xs = k0_pay1 (xV V c)) ∧ ∀ s : Fin 48, s.val + 1 = t → JY s.val (nOf (cntV V c) s) Y⌝ ∗
    owns c (Memref.whole cc0_scratch0) fullShare xs ∗ owns c (Memref.whole cc0_scratch1) fullShare X ∗
    owns c (Memref.whole cc0_scratch2) fullShare Y ∗ owns c (Memref.whole cc0_scratch3) fullShare O)

/-- The region's data. -/
def rdat (c : Dev nD) : Pipeline.RDat τ (Elt F) Unit ℕ (UR sig nD τ) ℕ (cfgV V) c where
  A w := V c (Pipeline.arrRef (cfgV V).spec w)
  after := left V JE JY c
  Φ t := iprop(scr V JY c t.val ∗ (∃ r, prngReg c r) ∗ Pipeline.ΦT pre0 (tabs V).1 c)
  q _ := fullShare
  owed _ := 0

/-- No window is cut. -/
theorem clipV (w : Fin (cfgV V).W) (i : (cfgV V).grid.Coords) (a : Fin ((cfgV V).win w).shape.rank) :
    ((cfgV V).win w).clip i a = none := rfl

/-- An uncut fetch puts the array's block in the buffer, at an index. -/
theorem fetched_at (c : Dev nD) (w : Fin (cfgV V).W) (t : Fin (cfgV V).N) (d) (j : ((cfgV V).win w).block.Idx) :
    (rdat V JE JY c).fetched w t d j
      = (((cfgV V).win w).blk t).view.read (Elt F) ((rdat V JE JY c).A w) (fun a => ⟨(j a).val, (j a).isLt⟩) := by
  have hm : ((cfgV V).win w).moved ((cfgV V).grid.coords t) j = true :=
    (((cfgV V).win w).moved_iff _ j).mpr fun a => (j a).isLt
  unfold Pipeline.RDat.fetched Pipeline.Window.fill
  rw [dif_pos hm]
  rfl

/-- What an input window's buffer holds at every point. -/
theorem finds_at (c : Dev nD) (w : Fin (cfgV V).W) (hw : ((cfgV V).win w).isOut = false)
    (hkeep : ∀ t Y X, (rdat V JE JY c).after w t Y X → X = Y) (t : Fin (cfgV V).N) (Y)
    (h : (rdat V JE JY c).Finds w t Y) (j : ((cfgV V).win w).block.Idx) :
    Y j = (((cfgV V).win w).blk t).view.read (Elt F) ((rdat V JE JY c).A w) (fun a => ⟨(j a).val, (j a).isLt⟩) := by
  obtain ⟨d, rfl⟩ := Pipeline.RDat.finds_in_eq_fetched (rdat V JE JY c) w hw (fun _ _ _ => rfl) hkeep t Y h
  exact fetched_at V JE JY c w t d j

/-- The grid's one coordinate is the point. -/
theorem coords_val : ∀ t : Fin grid0.N, (grid0.coords t 0).val = t.val := by decide +kernel

theorem finds0 (c : Dev nD) (t : Fin (cfgV V).N) (Y : Vec F S256x2048 .bf16) (h : (rdat V JE JY c).Finds 0 t Y) : Y = xV V c := by
  funext (j : S256x2048.Idx)
  refine (finds_at V JE JY c 0 rfl (fun _ _ _ h => h) t Y h j).trans ?_
  show V c main_v59 _ = V c main_v59 _
  congr 1
  funext a; apply Fin.ext
  fin_cases a
  · show 0 * 256 + 1 * (j 0).val = (j 0).val; omega
  · show 0 * 2048 + 1 * (j 1).val = (j 1).val; omega

theorem finds6 (c : Dev nD) (t : Fin (cfgV V).N) (Y : Vec F S2048 .f32) (h : (rdat V JE JY c).Finds 6 t Y) : Y = (V c main_v60 : Vec F S2048 .f32) := by
  funext (j : S2048.Idx)
  refine (finds_at V JE JY c 6 rfl (fun _ _ _ h => h) t Y h j).trans ?_
  show V c main_v60 _ = V c main_v60 _
  congr 1
  funext a; apply Fin.ext
  fin_cases a
  show 0 * 2048 + 1 * (j 0).val = (j 0).val; omega

theorem finds1 (c : Dev nD) (t : Fin (cfgV V).N) (Y : Vec F S1x2048x768 .i8) (h : (rdat V JE JY c).Finds 1 t Y) :
    Y = b1 (V c main_arg4) (grid0.coords t 0) := by
  funext (j : S1x2048x768.Idx)
  refine (finds_at V JE JY c 1 rfl (fun _ _ _ h => h) t Y h j).trans ?_
  show V c main_arg4 _ = V c main_arg4 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 2048 + 1 * (j 1).val = (j 1).val; omega
  · show 0 * 768 + 1 * (j 2).val = (j 2).val; omega

theorem finds2 (c : Dev nD) (t : Fin (cfgV V).N) (Y : Vec F S1x16x768 .bf16) (h : (rdat V JE JY c).Finds 2 t Y) :
    Y = b2 (V c main_arg5) (grid0.coords t 0) := by
  funext (j : S1x16x768.Idx)
  refine (finds_at V JE JY c 2 rfl (fun _ _ _ h => h) t Y h j).trans ?_
  show V c main_arg5 _ = V c main_arg5 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 16 + 1 * (j 1).val = (j 1).val; omega
  · show 0 * 768 + 1 * (j 2).val = (j 2).val; omega

theorem finds3 (c : Dev nD) (t : Fin (cfgV V).N) (Y : Vec F S1x16x768 .bf16) (h : (rdat V JE JY c).Finds 3 t Y) :
    Y = b2 (V c main_arg6) (grid0.coords t 0) := by
  funext (j : S1x16x768.Idx)
  refine (finds_at V JE JY c 3 rfl (fun _ _ _ h => h) t Y h j).trans ?_
  show V c main_arg6 _ = V c main_arg6 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 16 + 1 * (j 1).val = (j 1).val; omega
  · show 0 * 768 + 1 * (j 2).val = (j 2).val; omega

theorem finds4 (c : Dev nD) (t : Fin (cfgV V).N) (Y : Vec F S1x768x1024 .i8) (h : (rdat V JE JY c).Finds 4 t Y) :
    Y = b4 (V c main_arg7) (grid0.coords t 0) := by
  funext (j : S1x768x1024.Idx)
  refine (finds_at V JE JY c 4 rfl (fun _ _ _ h => h) t Y h j).trans ?_
  show V c main_arg7 _ = V c main_arg7 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 768 + 1 * (j 1).val = (j 1).val; omega
  · show 0 * 1024 + 1 * (j 2).val = (j 2).val; omega

theorem finds5 (c : Dev nD) (t : Fin (cfgV V).N) (Y : Vec F S1x6x2048 .bf16) (h : (rdat V JE JY c).Finds 5 t Y) :
    Y = b5 (V c main_arg8) (grid0.coords t 0) := by
  funext (j : S1x6x2048.Idx)
  refine (finds_at V JE JY c 5 rfl (fun _ _ _ h => h) t Y h j).trans ?_
  show V c main_arg8 _ = V c main_arg8 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 6 + 1 * (j 1).val = (j 1).val; omega
  · show 0 * 2048 + 1 * (j 2).val = (j 2).val; omega

/-- The result array's window is never fetched, -/
theorem fetch8 : ∀ t : Fin (cfgV V).N, ((cfgV V).win 8).fetch t = false := fun _ => rfl

/-- is written back at the last point alone, -/
theorem whole8 : ((cfgV V).win 8).WholeAt (⟨47, by decide⟩ : Fin grid0.N) := by
  have h : ∀ t : Fin grid0.N, Iff ((spec0 8).flushAt cc0_transform_8 t = true) (t.val = 47) := by decide +kernel
  refine ⟨(h ⟨47, by decide⟩).2 rfl, fun t ht => Fin.ext ((h t).1 ht), fun a => ?_⟩
  fin_cases a <;> exact ⟨rfl, rfl⟩

theorem whole7 : ((cfgV V).win 7).WholeAt (⟨47, by decide⟩ : Fin grid0.N) := by
  have h : ∀ t : Fin grid0.N, Iff ((spec0 7).flushAt cc0_transform_7 t = true) (t.val = 47) := by decide +kernel
  refine ⟨(h ⟨47, by decide⟩).2 rfl, fun t ht => Fin.ext ((h t).1 ht), fun a => ?_⟩
  fin_cases a <;> exact ⟨rfl, rfl⟩

/-- The accumulator and the result array at the point's start. -/
theorem finds8 (c : Dev nD) (t : Fin (cfgV V).N) (E : Vec F S2048x2048 .f32) (h : (rdat V JE JY c).Finds 8 t E)
    (s : Fin 48) (hs : s.val + 1 = t.val) : JE s.val (nOf (cntV V c) s) E := by
  have ht : t.val ≠ 0 := by omega
  have htl : t.val < 48 := t.isLt
  rcases ((rdat V JE JY c).finds_of_pos (fetch8 V t) ht E).mp h with hf | ⟨Y, _, hX⟩
  · have := congrArg Fin.val ((whole8 V).2.1 _ hf)
    have h47 : t.val - 1 = 47 := this
    omega
  · exact hX s (by show s.val = t.val - 1; omega)

/-- The two tables held. -/
theorem tabs_eq (c : Dev nD) (q : PosShare TreeShare) (v : pre0.Contents (Elt F)) :
    (Pipeline.prefHeld (Ix := Unit) (Name := ℕ) (U := UR sig nD τ) (Lvl := ℕ) pre0 c (fun _ => q) v : sProp 𝕄)
      = iprop(((c : Thread nD τ).loc main_v37 ↦{q} v 0) ∗ ((c : Thread nD τ).loc main_v58 ↦{q} v 1)) :=
  bigSep_univ_eq_bigSepL [(0 : Fin 2), (1 : Fin 2)] (by decide) (by decide) _

/-- The body table's row at the point. -/
theorem row (t : Fin (cfgV V).N) : defs₀ (F := F) .tc (cfgV V).body ((cfgV V).bodyArgs t ((cfgV V).slots t))
    = cc0_moe_decode (F := F) (grid0.coords t) (Memref.whole main_v37) (Memref.isWhole_whole _) (Memref.whole main_v58) (Memref.isWhole_whole _)
      (spec0_0.stage ((cfgV V).slots t 0)) (hstage0_0 (((cfgV V).slots t 0).cast nbuf0_0))
      (spec0_1.stage ((cfgV V).slots t 1)) (hstage0_1 (((cfgV V).slots t 1).cast nbuf0_1))
      (spec0_2.stage ((cfgV V).slots t 2)) (hstage0_2 (((cfgV V).slots t 2).cast nbuf0_2))
      (spec0_3.stage ((cfgV V).slots t 3)) (hstage0_3 (((cfgV V).slots t 3).cast nbuf0_3))
      (spec0_4.stage ((cfgV V).slots t 4)) (hstage0_4 (((cfgV V).slots t 4).cast nbuf0_4))
      (spec0_5.stage ((cfgV V).slots t 5)) (hstage0_5 (((cfgV V).slots t 5).cast nbuf0_5))
      (spec0_6.stage ((cfgV V).slots t 6)) (hstage0_6 (((cfgV V).slots t 6).cast nbuf0_6))
      (spec0_7.stage ((cfgV V).slots t 7)) (hstage0_7 (((cfgV V).slots t 7).cast nbuf0_7))
      (spec0_8.stage ((cfgV V).slots t 8)) (hstage0_8 (((cfgV V).slots t 8).cast nbuf0_8))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) := by
  unfold defs₀; rw [Defs.onTc_tc]

/-- What the region needs of the contents it is entered with. -/
abbrev KeptV (c : Dev nD) : Prop :=
  Kept (cntV V c) (V c main_v58) (xV V c) (V c main_arg4) (V c main_arg5) (V c main_arg6) (V c main_arg7) (V c main_arg8) (V c main_v60) JE JY

theorem body_obligation (c : Dev nD) (H : KeptV V JE JY c) :
    (rdat V JE JY c).BodyObligation (defs₀ (F := F)) 𝒱₀ () Set.univ := by
  intro t Y hY
  obtain rfl : c = 0 := Subsingleton.elim _ _
  have hct : (grid0.coords t 0).val = t.val := coords_val t
  have htl : t.val < 48 := t.isLt
  have e0 := finds0 V JE JY 0 t (Y 0) (hY 0)
  have e1 := finds1 V JE JY 0 t (Y 1) (hY 1)
  have e2 := finds2 V JE JY 0 t (Y 2) (hY 2)
  have e3 := finds3 V JE JY 0 t (Y 3) (hY 3)
  have e4 := finds4 V JE JY 0 t (Y 4) (hY 4)
  have e5 := finds5 V JE JY 0 t (Y 5) (hY 5)
  have e6 := finds6 V JE JY 0 t (Y 6) (hY 6)
  have e8 := finds8 V JE JY 0 t (Y 8) (hY 8)
  rw [bigSep_W0, bigSep_W0, row]
  show iprop((scr V JY 0 t.val ∗ (∃ r, prngReg 0 r) ∗ Pipeline.prefHeld (Ix := Unit) (Name := ℕ) (U := UR sig nD τ) (Lvl := ℕ) pre0 0 (fun _ => fullShare.right) (tabs V).1) ∗ _ ∗ _) ⊢ _
  rw [tabs_eq]
  iintro ⟨⟨Hs, Hg, HT1, HT2⟩, HO, H0, H1, H2, H3, H4, H5, H6, H7, H8⟩
  unfold scr
  icases Hs with ⟨%xs, %X, %Yc, %O, %hs, S0, S1, S2, S3⟩
  iapply (point_wp 0 (grid0.coords t) (Memref.whole main_v37) (Memref.isWhole_whole _) (Memref.whole main_v58) (Memref.isWhole_whole _)
      (spec0_0.stage ((cfgV V).slots t 0)) (hstage0_0 (((cfgV V).slots t 0).cast nbuf0_0))
      (spec0_1.stage ((cfgV V).slots t 1)) (hstage0_1 (((cfgV V).slots t 1).cast nbuf0_1))
      (spec0_2.stage ((cfgV V).slots t 2)) (hstage0_2 (((cfgV V).slots t 2).cast nbuf0_2))
      (spec0_3.stage ((cfgV V).slots t 3)) (hstage0_3 (((cfgV V).slots t 3).cast nbuf0_3))
      (spec0_4.stage ((cfgV V).slots t 4)) (hstage0_4 (((cfgV V).slots t 4).cast nbuf0_4))
      (spec0_5.stage ((cfgV V).slots t 5)) (hstage0_5 (((cfgV V).slots t 5).cast nbuf0_5))
      (spec0_6.stage ((cfgV V).slots t 6)) (hstage0_6 (((cfgV V).slots t 6).cast nbuf0_6))
      (spec0_7.stage ((cfgV V).slots t 7)) (hstage0_7 (((cfgV V).slots t 7).cast nbuf0_7))
      (spec0_8.stage ((cfgV V).slots t 8)) (hstage0_8 (((cfgV V).slots t 8).cast nbuf0_8))
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (cntV V 0) (V 0 main_v58) (V 0 main_v60) (xV V 0) fullShare.right fullShare.right fullShare fullShare
      H.cnt_le H.lst_lt xs X O (Y 7) (b1 (V 0 main_arg4) (grid0.coords t 0)) (b2 (V 0 main_arg5) (grid0.coords t 0))
      (b2 (V 0 main_arg6) (grid0.coords t 0)) (b4 (V 0 main_arg7) (grid0.coords t 0)) (b5 (V 0 main_arg8) (grid0.coords t 0))
      (fun n E Y => JE (grid0.coords t 0).val n E ∧ JY (grid0.coords t 0).val n Y) ?_ (Y 8) Yc ?_ _)
  rotate_left 2
  · isplitl [HT1]; · rw [owns_whole]; iexact HT1
    isplitl [HT2]; · rw [owns_whole]; iexact HT2
    isplitl [H0]; · rw [← e0]; iexact H0
    isplitl [H1]; · rw [← e1]; iexact H1
    isplitl [H2]; · rw [← e2]; iexact H2
    isplitl [H3]; · rw [← e3]; iexact H3
    isplitl [H4]; · rw [← e4]; iexact H4
    isplitl [H5]; · rw [← e5]; iexact H5
    isplitl [H6]; · rw [← e6]; iexact H6
    isplitl [H7]; · iexact H7
    isplitl [H8]; · iexact H8
    isplitl [S0]; · iexact S0
    isplitl [S1]; · iexact S1
    isplitl [S2]; · iexact S2
    isplitl [S3]; · iexact S3
    iintro %X' %O' %E' %Y' %hEY HT1 HT2 H0 H1 H2 H3 H4 H5 H6 H7 H8 S0 S1 S2 S3
    rw [← e0, ← e1, ← e2, ← e3, ← e4, ← e5, ← e6]
    rw [show (rdat V JE JY 0).Φ t.succ = iprop(scr V JY 0 (t.val + 1) ∗ (∃ r, prngReg 0 r) ∗ Pipeline.prefHeld (Ix := Unit) (Name := ℕ) (U := UR sig nD τ) (Lvl := ℕ) pre0 0 (fun _ => fullShare.right) (tabs V).1) from rfl, tabs_eq]
    isplitl [S0 S1 S2 S3 Hg HT1 HT2]
    · isplitl [S0 S1 S2 S3]
      · unfold scr
        iexists _, _, _, _
        isplitr
        swap
        · isplitl [S0]; · iexact S0
          isplitl [S1]; · iexact S1
          isplitl [S2]; · iexact S2
          iexact S3
        ipureintro
        refine ⟨fun _ => ?_, fun s hs' => ?_⟩
        · split
          · rw [e0]
          · next hz => exact hs.1 (hct ▸ hz)
        · obtain rfl : s = grid0.coords t 0 := Fin.ext (by rw [hct]; have h' : s.val + 1 = t.val + 1 := hs'; omega)
          exact hEY.2
      · isplitl [Hg]; · iexact Hg
        isplitl [HT1]
        · rw [owns_whole]; exact Entails.refl _
        · rw [owns_whole]; exact Entails.refl _
    isplitl [HO]; · iexact HO
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact rfl
    isplitl [H3]
    · iexists _; isplitr
      swap; · iexact H3
      ipureintro; exact rfl
    isplitl [H4]
    · iexists _; isplitr
      swap; · iexact H4
      ipureintro; exact rfl
    isplitl [H5]
    · iexists _; isplitr
      swap; · iexact H5
      ipureintro; exact rfl
    isplitl [H6]
    · iexists _; isplitr
      swap; · iexact H6
      ipureintro; exact rfl
    isplitl [H7]
    · iexists _; isplitr
      swap; · iexact H7
      ipureintro
      intro h47
      refine ⟨Y', ?_, if_pos (hct.trans h47)⟩
      have h := hEY.2
      have e : grid0.coords t 0 = (47 : Fin 48) := Fin.ext (hct.trans h47)
      rw [e] at h; exact h
    · iexists _; isplitr
      swap; · iexact H8
      ipureintro
      intro s hs'
      obtain rfl : s = grid0.coords t 0 := Fin.ext (hs'.trans hct.symm)
      exact hEY.1
  · have := H.step (grid0.coords t 0)
    split
    · exact this
    · next hz => rw [hs.1 (hct ▸ hz)]; exact this
  · rw [hct]
    by_cases hz : t.val = 0
    · exact ⟨Eq.mpr (congrArg (JE t.val 0) (if_pos hz)) (by rw [hz]; exact H.e0),
        Eq.mpr (congrArg (JY t.val 0) (if_pos hz)) (by rw [hz]; exact H.y0)⟩
    · have hp : ((⟨t.val - 1, by omega⟩ : Fin 48).val) + 1 = t.val := by show t.val - 1 + 1 = t.val; omega
      have hl : (⟨t.val - 1, by omega⟩ : Fin 48).val < 47 := by show t.val - 1 < 47; omega
      have hE := H.eS ⟨t.val - 1, by omega⟩ hl _ (e8 _ hp)
      have hYc := H.yS ⟨t.val - 1, by omega⟩ hl _ (hs.2 _ hp)
      rw [hp] at hE hYc
      exact ⟨Eq.mpr (congrArg (JE t.val 0) (if_neg hz)) hE, Eq.mpr (congrArg (JY t.val 0) (if_neg hz)) hYc⟩

/-- The class's invariant and the tables give the data's before the first point, -/
theorem inv_in (c : Dev nD) :
    iprop(Pipeline.ΦA (cfgV V).spec c ∗ Pipeline.ΦT pre0 (tabs V).1 c) ⊢ (rdat V JE JY c).Φ 0 := by
  show iprop(Pipeline.ΦA spec0 c ∗ _) ⊢ iprop(scr V JY c 0 ∗ (∃ r, prngReg c r) ∗ _)
  unfold Pipeline.ΦA scr
  rw [scopedRest0_eq]
  iintro ⟨⟨⟨⟨%f0, H0⟩, ⟨%f1, H1⟩, ⟨%f2, H2⟩, ⟨%f3, H3⟩⟩, Hg⟩, HT⟩
  isplitl [H0 H1 H2 H3]
  · iexists f0, f1, f2, f3
    isplitr
    · ipureintro; exact ⟨fun h => absurd rfl h, fun s h => absurd h (by omega)⟩
    isplitl [H0]; · rw [owns_whole]; iexact H0
    isplitl [H1]; · rw [owns_whole]; iexact H1
    isplitl [H2]; · rw [owns_whole]; iexact H2
    rw [owns_whole]; iexact H3
  isplitl [Hg]; · iexact Hg
  iexact HT

/-- and the data's after the last point gives the class's back. -/
theorem inv_out (c : Dev nD) : (rdat V JE JY c).Φ (Fin.last (cfgV V).N) ⊢ Pipeline.ΦA (cfgV V).spec c := by
  show iprop(scr V JY c (cfgV V).N ∗ (∃ r, prngReg c r) ∗ _) ⊢ Pipeline.ΦA spec0 c
  unfold Pipeline.ΦA scr
  rw [scopedRest0_eq]
  simp only [owns_whole]
  iintro ⟨⟨%xs, %X, %Y, %O, -, H0, H1, H2, H3⟩, Hg, -⟩
  isplitl [H0 H1 H2 H3]
  · isplitl [H0]; · iexists xs; iexact H0
    isplitl [H1]; · iexists X; iexact H1
    isplitl [H2]; · iexists Y; iexact H2
    iexists O; iexact H3
  iexact Hg

end Region

/-! ## The run of the program -/

/-- The host's stretches before the call. -/
abbrev opss : List (List (HloOp τ sig (Elt F))) := [hostOps0, hostOps0_1, hostOps0_2, hostOps0_3, hostOps0_4, hostOps0_5, hostOps0_6]

/-- None of them takes a buffer of its own. -/
theorem opss_fresh : (opss (F := F)).Forall fun ops => ops.Forall fun op => op.fresh = ∅ := by
  repeat' (first | exact rfl | apply And.intro)

variable (m : (ℓ : Loc nD τ sig) → Buf (Elt F) ℓ)

/-- What the region is entered with, the host's operations run from `m`. -/
def entry (c : Dev nD) (b : Ref sig .tc) : Buf (Elt F) ((c.tc : Thread nD τ).loc b) :=
  StableHlo.after (opss (F := F)).flatten (fun b => m (c, b)) b

variable (JE : Nat → Nat → Vec F S2048x2048 .f32 → Prop) (JY : Nat → Nat → Vec F S256x2048 .f32 → Prop)

/-- Every run from `m` ends in the region's post. -/
theorem run_post (g : Dev nD → PrngReg) (H : ∀ c, KeptV (entry m) JE JY c) :
    θ_run defs (onTc (τ := τ) (main (F := F))) (s₀ m g)
      (fun r => Pipeline.RDat.FramePost (cfgV (entry m)) (rdat (entry m) JE JY) (entry m) r ∧ r.2.sem = fun _ => 0) :=
  Pipeline.RDat.θ_run_frameP_track (pcfgs (F := F)) (tabsA (entry m)) 0 launch0 defs₀ 𝒱₀ (rdat (entry m) JE JY) m g main
    (hbody := fun c => body_obligation (entry m) JE JY c (H c))
    (hshare := fun c w => by
      unfold Pipeline.RDat.share; split <;> rfl)
    (howed := fun _ _ => rfl) (V := entry m)
    (hmain := Pipeline.hmainP_prefixes pcfgs 0 defs₀ 𝒱₀ m main opss
      ⟨hostOps0_sub, hostOps0_1_sub, hostOps0_2_sub, hostOps0_3_sub, hostOps0_4_sub, hostOps0_5_sub, hostOps0_6_sub⟩
      opss_fresh fun c => main_chain c)
    (hA := fun _ _ => rfl)
    (hpf := fun c k => by obtain rfl : c = 0 := Subsingleton.elim _ _; rfl)
    (hin := fun c => inv_in (entry m) JE JY c) (hout := fun c => inv_out (entry m) JE JY c)
    (Q' := _) (hQ' := fun _ h => h)

/-- What a run leaves: results that `JE` and `JY` hold of, the third result as the host computed it, the arguments as they were. -/
structure Final (r : PUnit × MemSt nD τ sig (Elt F)) (c : Dev nD) : Prop where
  outE : JE 47 (nOf (cntV (entry m) c) 47) (r.2.mem ((c.tc : Thread nD τ).loc main_v61_1))
  outY : ∃ Y, JY 47 (nOf (cntV (entry m) c) 47) Y ∧ r.2.mem ((c.tc : Thread nD τ).loc main_v61_0) = k0_pay10 Y
  out15 : r.2.mem ((c.tc : Thread nD τ).loc main_v15) = entry m c main_v15
  arg0 : r.2.mem ((c.tc : Thread nD τ).loc main_arg0) = m ((c.tc : Thread nD τ).loc main_arg0)
  arg1 : r.2.mem ((c.tc : Thread nD τ).loc main_arg1) = m ((c.tc : Thread nD τ).loc main_arg1)
  arg2 : r.2.mem ((c.tc : Thread nD τ).loc main_arg2) = m ((c.tc : Thread nD τ).loc main_arg2)
  arg3 : r.2.mem ((c.tc : Thread nD τ).loc main_arg3) = m ((c.tc : Thread nD τ).loc main_arg3)
  arg4 : r.2.mem ((c.tc : Thread nD τ).loc main_arg4) = m ((c.tc : Thread nD τ).loc main_arg4)
  arg5 : r.2.mem ((c.tc : Thread nD τ).loc main_arg5) = m ((c.tc : Thread nD τ).loc main_arg5)
  arg6 : r.2.mem ((c.tc : Thread nD τ).loc main_arg6) = m ((c.tc : Thread nD τ).loc main_arg6)
  arg7 : r.2.mem ((c.tc : Thread nD τ).loc main_arg7) = m ((c.tc : Thread nD τ).loc main_arg7)
  arg8 : r.2.mem ((c.tc : Thread nD τ).loc main_arg8) = m ((c.tc : Thread nD τ).loc main_arg8)

/-- An argument is entered with as it was at the start. -/
theorem entry_arg0 (c : Dev nD) : entry m c main_arg0 = m ((c.tc : Thread nD τ).loc main_arg0) := by
  unfold entry; after_reads_simp
theorem entry_arg1 (c : Dev nD) : entry m c main_arg1 = m ((c.tc : Thread nD τ).loc main_arg1) := by
  unfold entry; after_reads_simp
theorem entry_arg2 (c : Dev nD) : entry m c main_arg2 = m ((c.tc : Thread nD τ).loc main_arg2) := by
  unfold entry; after_reads_simp
theorem entry_arg3 (c : Dev nD) : entry m c main_arg3 = m ((c.tc : Thread nD τ).loc main_arg3) := by
  unfold entry; after_reads_simp
theorem entry_arg4 (c : Dev nD) : entry m c main_arg4 = m ((c.tc : Thread nD τ).loc main_arg4) := by
  unfold entry; after_reads_simp
theorem entry_arg5 (c : Dev nD) : entry m c main_arg5 = m ((c.tc : Thread nD τ).loc main_arg5) := by
  unfold entry; after_reads_simp
theorem entry_arg6 (c : Dev nD) : entry m c main_arg6 = m ((c.tc : Thread nD τ).loc main_arg6) := by
  unfold entry; after_reads_simp
theorem entry_arg7 (c : Dev nD) : entry m c main_arg7 = m ((c.tc : Thread nD τ).loc main_arg7) := by
  unfold entry; after_reads_simp
theorem entry_arg8 (c : Dev nD) : entry m c main_arg8 = m ((c.tc : Thread nD τ).loc main_arg8) := by
  unfold entry; after_reads_simp

/-- What the region's post says of the per-pair result, -/
theorem post_outE {r : PUnit × MemSt nD τ sig (Elt F)} (c : Dev nD)
    (h : Pipeline.RDat.FramePost (cfgV (entry m)) (rdat (entry m) JE JY) (entry m) r) :
    JE 47 (nOf (cntV (entry m) c) 47) (r.2.mem ((c.tc : Thread nD τ).loc main_v61_1)) := by
  obtain ⟨X, ⟨Y0, _, hX⟩, hG⟩ := Pipeline.RDat.ArrAt.emb_eq_of_wholeAt ((h c).1 8) (whole8 (entry m))
  have e : r.2.mem ((c.tc : Thread nD τ).loc main_v61_1) = X := funext fun j => hG j
  rw [e]
  exact hX 47 rfl

/-- of the output, -/
theorem post_outY {r : PUnit × MemSt nD τ sig (Elt F)} (c : Dev nD)
    (h : Pipeline.RDat.FramePost (cfgV (entry m)) (rdat (entry m) JE JY) (entry m) r) :
    ∃ Y, JY 47 (nOf (cntV (entry m) c) 47) Y ∧ r.2.mem ((c.tc : Thread nD τ).loc main_v61_0) = k0_pay10 Y := by
  obtain ⟨X, ⟨Y0, _, hX⟩, hG⟩ := Pipeline.RDat.ArrAt.emb_eq_of_wholeAt ((h c).1 7) (whole7 (entry m))
  have e : r.2.mem ((c.tc : Thread nD τ).loc main_v61_0) = X := funext fun j => hG j
  rw [e]
  exact hX rfl

/-- of a buffer that is no window's, -/
theorem post_rest {r : PUnit × MemSt nD τ sig (Elt F)} (c : Dev nD)
    (h : Pipeline.RDat.FramePost (cfgV (entry m)) (rdat (entry m) JE JY) (entry m) r) (b : Ref sig .tc) (hs : b.isScoped = false)
    (ha : ∀ w, (spec0 w).arr.view.ref ≠ b) : r.2.mem ((c.tc : Thread nD τ).loc b) = entry m c b :=
  (h c).2 b (Pipeline.mem_restRefs_of b hs ha)

/-- and of an input window's array. -/
theorem post_in {r : PUnit × MemSt nD τ sig (Elt F)} (c : Dev nD)
    (h : Pipeline.RDat.FramePost (cfgV (entry m)) (rdat (entry m) JE JY) (entry m) r) (w : Fin 9) (hw : (spec0 w).isOut = false) :
    r.2.mem ((spec0 w).arr.view.loc (c.tc : Thread nD τ)) = entry m c (Pipeline.arrRef spec0 w) :=
  h.arr_in c w hw

theorem final_of_post {r : PUnit × MemSt nD τ sig (Elt F)} (c : Dev nD)
    (h : Pipeline.RDat.FramePost (cfgV (entry m)) (rdat (entry m) JE JY) (entry m) r) : Final m JE JY r c where
  outE := post_outE m JE JY c h
  outY := post_outY m JE JY c h
  out15 := post_rest m JE JY c h main_v15 rfl (by decide)
  arg0 := (post_rest m JE JY c h main_arg0 rfl (by decide)).trans (entry_arg0 m c)
  arg1 := (post_rest m JE JY c h main_arg1 rfl (by decide)).trans (entry_arg1 m c)
  arg2 := (post_rest m JE JY c h main_arg2 rfl (by decide)).trans (entry_arg2 m c)
  arg3 := (post_rest m JE JY c h main_arg3 rfl (by decide)).trans (entry_arg3 m c)
  arg4 := (post_in m JE JY c h 1 rfl).trans (entry_arg4 m c)
  arg5 := (post_in m JE JY c h 2 rfl).trans (entry_arg5 m c)
  arg6 := (post_in m JE JY c h 3 rfl).trans (entry_arg6 m c)
  arg7 := (post_in m JE JY c h 4 rfl).trans (entry_arg7 m c)
  arg8 := (post_in m JE JY c h 5 rfl).trans (entry_arg8 m c)

/-- Every run from `m` ends so, with every counter at zero. -/
theorem run_final (g : Dev nD → PrngReg) (H : ∀ c, KeptV (entry m) JE JY c) :
    θ_run defs (onTc (τ := τ) (main (F := F))) (s₀ m g) (fun r => (∀ c, Final m JE JY r c) ∧ r.2.sem = fun _ => 0) :=
  (θ_run defs _ _).mono (fun r h => ⟨fun c => final_of_post m JE JY c h.1, h.2⟩) (run_post m JE JY g H)

end Cert.KernelIdeal.Body
-- ==== Proof.Tables.lean ====
/- What the host makes of the routing: the slot of every pair, how many pairs each slot serves, and the list of each slot's pairs. -/
module

public import proofs.«01_k».proof.Proof.Region
public import proofs.«01_k».proof.Defs
public import Idealize.ShloMosaic.Lib.Routing.OpsOne
public import Idealize.ShloMosaic.Lib.Routing.OpsOrder
public import Idealize.ShloMosaic.Lib.StableHlo.Predicate

@[expose] public section

set_option maxRecDepth 16384

noncomputable section

namespace Cert.KernelIdeal.Body

open Idealize.ShloMosaic Idealize.ShloMosaic.TcCoe
open Cert.KernelIdeal Cert.KernelIdeal.Gen Cert.KernelIdeal.Blk Cert.Mem

variable {F : FTy → Type} [FloatOps F]

/-- The slot of each of a token's experts: the map at the expert's id (a negative id counts from the map's end). -/
def slotOf (ids : IVec S256x1x8 32) (map : IVec S128 32) : IVec S256x8 32 :=
  Host.gather gather_S128_S256x8x1_S256x8_n_0_n_n_0_2_1 map (broadcastInDim S256x8x1 ![0, 1] bcast_S256x8_S256x8x1_0_1
    (select (cmpi .slt (shapeCast S256x8 ids shapeCasts_S256x1x8_S256x8) (broadcastInDim S256x8 ![] bcast_S_S256x8 (constantI S_ 32 0#32)))
      (addi (shapeCast S256x8 ids shapeCasts_S256x1x8_S256x8) (broadcastInDim S256x8 ![] bcast_S_S256x8 (constantI S_ 32 128#32)))
      (shapeCast S256x8 ids shapeCasts_S256x1x8_S256x8)))

/-- The same, one after the other: pair `8 t + k` is token `t`'s `k`-th expert. -/
def sfOf (ids : IVec S256x1x8 32) (map : IVec S128 32) : IVec S2048 32 := shapeCast S2048 (slotOf ids map) shapeCasts_S256x8_S2048

/-- Whether slot `s` serves pair `p`. -/
def hotOf (sf : IVec S2048 32) : IVec S48x2048 1 :=
  cmpi .eq (broadcastInDim S48x2048 ![0, 1] bcast_S1x2048_S48x2048_0_1 (broadcastInDim S1x2048 ![1] bcast_S2048_S1x2048_1 sf))
    (broadcastInDim S48x2048 ![0, 1] bcast_S48x1_S48x2048_0_1 (broadcastInDim S48x1 ![0] bcast_S48_S48x1_0 (iotaInDim S48 32 0)))

/-- How many pairs each slot serves. -/
def cntOf (sf : IVec S2048 32) : IVec S48 32 :=
  Host.reduce IntOp.addi (extui 32 (hotOf sf) natLt_1_32) (constantI S_ 32 0#32) reducesTo_S48x2048_S48_d1 h_S_

/-- How many of the pairs up to `p` slot `s` serves. -/
def cumOf (sf : IVec S2048 32) : IVec S48x2048 32 :=
  Host.reduceWindow IntOp.addi ![1, 2048] ![1, 1] ![0, 2047] ![0, 0] (extui 32 (hotOf sf) natLt_1_32) (constantI S_ 32 0#32)
    reduceWindows_S48x2048_S48x2048_w1s1p0_0_w2048s1p2047_0 h_S_

/-- Where pair `p` goes in the list if slot `s` serves it, else past its end. -/
def dstOf (sf : IVec S2048 32) : IVec S48x2048 32 :=
  select (hotOf sf)
    (addi (broadcastInDim S48x2048 ![0, 1] bcast_S48x1_S48x2048_0_1
        (muli (broadcastInDim S48x1 ![0] bcast_S48_S48x1_0 (iotaInDim S48 32 0)) (broadcastInDim S48x1 ![] bcast_S_S48x1 (constantI S_ 32 256#32))))
      (subi (cumOf sf) (broadcastInDim S48x2048 ![] bcast_S_S48x2048 (constantI S_ 32 1#32))))
    (broadcastInDim S48x2048 ![] bcast_S_S48x2048 (constantI S_ 32 12288#32))

/-- The same, one row after the other. -/
def dstF (sf : IVec S2048 32) : IVec S98304 32 := shapeCast S98304 (dstOf sf) shapeCasts_S48x2048_S98304

/-- The scatter's index words. -/
def ixOf (sf : IVec S2048 32) : IVec S98304x1 32 :=
  broadcastInDim S98304x1 ![0] bcast_S98304_S98304x1_0
    (select (cmpi .slt (dstF sf) (broadcastInDim S98304 ![] bcast_S_S98304 (constantI S_ 32 0#32)))
      (addi (dstF sf) (broadcastInDim S98304 ![] bcast_S_S98304 (constantI S_ 32 12289#32))) (dstF sf))

/-- The scatter's updates: the pairs, once per slot. -/
def pairF : IVec S98304 32 :=
  shapeCast S98304 (broadcastInDim S48x2048 ![0, 1] bcast_S1x2048_S48x2048_0_1 (broadcastInDim S1x2048 ![1] bcast_S2048_S1x2048_1 (iotaInDim S2048 32 0)))
    shapeCasts_S48x2048_S98304

/-- The list with one place more for the pairs of no slot. -/
def lst0 (sf : IVec S2048 32) : IVec S12289 32 :=
  Host.scatter scatter_S12289_S98304x1_S98304_n_0_0_1 IntOp.maxsi (broadcastInDim S12289 ![] bcast_S_S12289 (constantI S_ 32 0#32)) (ixOf sf) pairF

/-- The list: 256 places a slot. -/
def lstOf (sf : IVec S2048 32) : IVec S12288 32 := extractStridedSlice S12288 ![0] (lst0 sf) slices_S12289_S12288_0

variable (m : (ℓ : Loc nD τ sig) → Buf (Elt F) ℓ)

/-- The pairs' slots of a memory. -/
def sfM (c : Dev nD) : IVec S2048 32 := sfOf (m ((c.tc : Thread nD τ).loc main_arg1)) (m ((c.tc : Thread nD τ).loc main_arg3))

attribute [local irreducible] Host.scatter Host.reduceWindow Host.reduce Host.gather

theorem entry_cnt (c : Dev nD) : entry m c main_v37 = cntOf (sfM m c) := by
  unfold entry; after_reads_simp; rfl

theorem entry_lst (c : Dev nD) : entry m c main_v58 = lstOf (sfM m c) := by
  unfold entry; after_reads_simp; rfl

/-- Every entry of the list is a pair. -/
theorem lst_lt (sf : IVec S2048 32) (j : S12288.Idx) : (lstOf sf j).toNat < 2048 := by
  unfold lstOf lst0
  unfold extractStridedSlice
  refine Routing.scatter_forall _ _ (fun v : BitVec 32 => v.toNat < 2048) ?_ _ _ _ ?_ ?_ _
  · intro a b ha hb
    show (IntOp.maxsi a b).toNat < 2048
    unfold IntOp.maxsi
    split
    · exact ha
    · exact hb
  · intro i
    show (0#32 : BitVec 32).toNat < 2048
    decide
  · intro i
    show (BitVec.ofNat 32 _).toNat < 2048
    rw [BitVec.toNat_ofNat]
    refine lt_of_le_of_lt (Nat.mod_le _ _) ?_
    exact Fin.isLt (n := 2048) _

/-- The pair `p` is slot `s`'s. -/
def Hits (sf : IVec S2048 32) (s p : Nat) : Prop := ∃ h : p < 2048, sf (ix1 ⟨p, h⟩) = BitVec.ofNat 32 s

instance (sf : IVec S2048 32) (s p : Nat) : Decidable (Hits sf s p) := by unfold Hits; infer_instance

theorem hits_iff (sf : IVec S2048 32) (s : Nat) (p : Fin 2048) : Iff (Hits sf s p.val) (sf (ix1 p) = BitVec.ofNat 32 s) :=
  ⟨fun h => h.2, fun h => ⟨p.isLt, h⟩⟩

theorem hotOf_at (sf : IVec S2048 32) (s : Fin 48) (p : Fin 2048) : Iff (hotOf sf (ix2 s p) = 1#1) (Hits sf s.val p.val) := by
  rw [hits_iff]
  change Iff (IntOp.cmpi .eq (broadcastInDim S48x2048 ![0, 1] bcast_S1x2048_S48x2048_0_1 (broadcastInDim S1x2048 ![1] bcast_S2048_S1x2048_1 sf) (ix2 s p))
    (broadcastInDim S48x2048 ![0, 1] bcast_S48x1_S48x2048_0_1 (broadcastInDim S48x1 ![0] bcast_S48_S48x1_0 (iotaInDim S48 32 0)) (ix2 s p)) = 1#1) _
  rw [StableHlo.Predicate.cmpi_eq_iff]
  rw [show broadcastInDim S48x2048 ![0, 1] bcast_S1x2048_S48x2048_0_1 (broadcastInDim S1x2048 ![1] bcast_S2048_S1x2048_1 sf) (ix2 s p) = sf (ix1 p) from
      Routing.bcCols _ _ sf s p,
    show broadcastInDim S48x2048 ![0, 1] bcast_S48x1_S48x2048_0_1 (broadcastInDim S48x1 ![0] bcast_S48_S48x1_0 (iotaInDim S48 32 0)) (ix2 s p)
      = BitVec.ofNat 32 s.val from Routing.bcRows _ _ (iotaInDim S48 32 0) s p]

/-- Slot `s`'s count is the number of its pairs. -/
theorem cntOf_at (sf : IVec S2048 32) (s : Fin 48) : cntOf sf (ix1 s) = BitVec.ofNat 32 (Nat.count (Hits sf s.val) 2048) :=
  Routing.reduce_count (by norm_num) (hotOf sf) natLt_1_32 reducesTo_S48x2048_S48_d1 h_S_ s (Hits sf s.val) (hotOf_at sf s)

theorem count_le (sf : IVec S2048 32) (s : Nat) : Nat.count (Hits sf s) 2048 ≤ 2048 := Nat.count_le _

theorem cntOf_toNat (sf : IVec S2048 32) (s : Fin 48) : (cntOf sf (ix1 s)).toNat = Nat.count (Hits sf s.val) 2048 := by
  rw [cntOf_at, BitVec.toNat_ofNat]
  exact Nat.mod_eq_of_lt (lt_of_le_of_lt (count_le sf s.val) (by norm_num))

theorem cntOf_toInt (sf : IVec S2048 32) (s : Fin 48) : (cntOf sf (ix1 s)).toInt = Nat.count (Hits sf s.val) 2048 := by
  rw [cntOf_at]
  exact StableHlo.Predicate.toInt_ofNat_small _ (lt_of_le_of_lt (count_le sf s.val) (by norm_num))

theorem and_one (a b : BitVec 1) (h : IntOp.andi a b = 1#1) : a = 1#1 ∧ b = 1#1 := by
  revert a b; decide

/-- What the precondition says: every pair's slot is below 48 (read signed), and no slot serves more than 256 pairs. -/
theorem pre_read [Cert.Pre_slots_fit.Facts] (a0 : FVec F S256x1x2048 .bf16) (a1 : IVec S256x1x8 32) (a2 : FVec F S256x1x8 .f32) (a3 : IVec S128 32)
    (a4 : IVec S48x2048x768 8) (a5 a6 : FVec F S48x16x768 .bf16) (a7 : IVec S48x768x1024 8) (a8 : FVec F S48x6x2048 .bf16)
    (h : Cert.Pre_slots_fit.fn (F := F) a0 a1 a2 a3 a4 a5 a6 a7 a8 = fun _ => 1#1) :
    (∀ p : Fin 2048, (sfOf a1 a3 (ix1 p)).toInt < 48) ∧ ∀ s : Fin 48, (cntOf (sfOf a1 a3) (ix1 s)).toNat ≤ 256 := by
  have e : ∀ (s : Fin 48) (p : Fin 2048), (sfOf a1 a3 (ix1 p)).toInt < 48 ∧ (cntOf (sfOf a1 a3) (ix1 s)).toInt ≤ 256 := by
    intro s p
    have e := congrFun h (ix2 s p)
    unfold Cert.Pre_slots_fit.fn Cert.Pre_slots_fit.fn_part1 at e
    obtain ⟨e1, e2⟩ := and_one _ _ e
    rw [broadcastInDim_apply _ _ _ _ (ix2 (0 : Fin 1) p) (by intro a; match a with | ⟨0, _⟩ => rfl | ⟨1, _⟩ => rfl)] at e1
    rw [broadcastInDim_apply _ _ _ _ (ix2 s (0 : Fin 1)) (by intro a; match a with | ⟨0, _⟩ => rfl | ⟨1, _⟩ => rfl)] at e2
    have e1' := (WordCmp.ofBool_decide_eq_one_iff _).1 ((WordCmp.cmpi_slt_eq _ _).symm.trans e1)
    have e2' := (WordCmp.ofBool_decide_eq_one_iff _).1 ((WordCmp.cmpi_sle_eq _ _).symm.trans e2)
    rw [broadcastInDim_apply _ _ _ _ (ix1 p) (by intro a; match a with | ⟨0, _⟩ => rfl)] at e1'
    rw [broadcastInDim_apply _ _ _ _ (ix1 s) (by intro a; match a with | ⟨0, _⟩ => rfl)] at e2'
    exact ⟨e1', e2'⟩
  exact ⟨fun p => (e 0 p).1, fun s => by
    have := (e s 0).2
    rw [cntOf_toInt] at this
    rw [cntOf_toNat]
    exact_mod_cast this⟩

end Cert.KernelIdeal.Body
-- ==== Proof.Frame.lean ====
/- The frame: wherever the precondition holds, every run ends, the arguments are as they were and every counter is zero. -/
module

public import proofs.«01_k».proof.Proof.Tables
public import proofs.«01_k».proof.Proof.Gen.Pre_slots_fit

@[expose] public section

set_option maxRecDepth 16384

noncomputable section

namespace Cert.KernelIdeal.Body

open Idealize.ShloMosaic Idealize.ShloMosaic.TcCoe
open Cert.KernelIdeal Cert.KernelIdeal.Gen Cert.KernelIdeal.Blk Cert.Mem

variable {F : FTy → Type} [FloatOps F]
variable (m : (ℓ : Loc nD τ sig) → Buf (Elt F) ℓ)

/-- The precondition of a memory. -/
def PreM [Cert.Pre_slots_fit.Facts] (c : Dev nD) : Prop :=
  Cert.Pre_slots_fit.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) = fun _ => 1#1

theorem cnt_le [Cert.Pre_slots_fit.Facts] (c : Dev nD) (h : PreM m c) (j : S48.Idx) : (cntV (entry m) c j).toNat ≤ 256 := by
  unfold cntV
  rw [entry_cnt]
  have e := (pre_read _ _ _ _ _ _ _ _ _ h).2 (j 0)
  rw [eq_ix1 j]
  exact e

/-- The tables are in range, whatever is said of the results: nothing. -/
theorem kept_frame [Cert.Pre_slots_fit.Facts] (c : Dev nD) (h : PreM m c) : KeptV (entry m) (fun _ _ _ => True) (fun _ _ _ => True) c where
  cnt_le := cnt_le m c h
  lst_lt := fun j => by
    rw [entry_lst]
    exact lst_lt _ j
  e0 := trivial
  y0 := trivial
  step := fun s b r hr hn hb hp X O hX E Y _ => ⟨trivial, trivial⟩
  eS := fun _ _ _ _ => trivial
  yS := fun _ _ _ _ => trivial

theorem run_frame [Cert.Pre_slots_fit.Facts] (g : Dev nD → PrngReg) (h : ∀ c, PreM m c) :
    θ_run defs (onTc (τ := τ) (main (F := F))) (s₀ m g) (fun r => (∀ c, Final m (fun _ _ _ => True) (fun _ _ _ => True) r c) ∧ r.2.sem = fun _ => 0) :=
  run_final m _ _ g fun c => kept_frame m c (h c)

end Cert.KernelIdeal.Body
-- ==== Proof.Bits.Words.lean ====
/- The integer words of the kernel: how many trips its counted loops make, at which rows it reads and writes, and the
   side conditions it assumes. Everything is stated at a count word `v4` of at most 256. -/
module

public import proofs.«01_k».proof.Defs
public import Idealize.ShloMosaic.Lib.Tactic
public import Idealize.ShloMosaic.Lib.LoopRemainder

@[expose] public section

set_option maxRecDepth 16384

namespace Cert.Kernel

open Idealize.ShloMosaic

namespace Words

/-- Every word of at most 256 is the word of a number below 257. -/
theorem word_cases {P : BitVec 32 → Prop} (h : ∀ n : Fin 257, P (BitVec.ofNat 32 n.val)) (v : BitVec 32)
    (hv : v.toNat ≤ 256) : P v := by
  have := h ⟨v.toNat, by omega⟩
  simpa using this

/-- The chunk loop makes one trip for each 64 rows, the last one perhaps short. -/
theorem t1_facts (v4 : BitVec 32) (hv : v4.toNat ≤ 256) :
    (k0_t1_loop v4).OK ∧ (k0_t1_loop v4).trips = (v4.toNat + 63) / 64 := by
  revert hv
  refine fun hv => word_cases (P := fun v => (k0_t1_loop v).OK ∧ (k0_t1_loop v).trips = (v.toNat + 63) / 64) ?_ v4 hv
  decide +kernel

/-- The gather loop of chunk `t1` makes one trip for each of its rows. -/
theorem t2_facts (v4 : BitVec 32) (hv : v4.toNat ≤ 256) (t1 : Fin (k0_t1_loop v4).trips) :
    (k0_t2_loop v4 t1).OK ∧ (k0_t2_loop v4 t1).trips = min (v4.toNat - 64 * t1.val) 64 := by
  refine word_cases (P := fun v => ∀ t1 : Fin (k0_t1_loop v).trips,
    (k0_t2_loop v t1).OK ∧ (k0_t2_loop v t1).trips = min (v.toNat - 64 * t1.val) 64) ?_ v4 hv t1
  decide +kernel

/-- So does its scatter loop. -/
theorem t4_facts (v4 : BitVec 32) (hv : v4.toNat ≤ 256) (t1 : Fin (k0_t1_loop v4).trips) :
    (k0_t4_loop v4 t1).OK ∧ (k0_t4_loop v4 t1).trips = min (v4.toNat - 64 * t1.val) 64 := t2_facts v4 hv t1

theorem t1_lt (v4 : BitVec 32) (hv : v4.toNat ≤ 256) (t1 : Fin (k0_t1_loop v4).trips) : 64 * t1.val < v4.toNat := by
  have h := t1.isLt
  have e := (t1_facts v4 hv).2
  omega

theorem t2_lt (v4 : BitVec 32) (hv : v4.toNat ≤ 256) (t1 : Fin (k0_t1_loop v4).trips)
    (t2 : Fin (k0_t2_loop v4 t1).trips) : 64 * t1.val + t2.val < v4.toNat ∧ t2.val < 64 := by
  have h := t2.isLt
  have e := (t2_facts v4 hv t1).2
  have := t1_lt v4 hv t1
  omega

theorem t4_lt (v4 : BitVec 32) (hv : v4.toNat ≤ 256) (t1 : Fin (k0_t1_loop v4).trips)
    (t4 : Fin (k0_t4_loop v4 t1).trips) : 64 * t1.val + t4.val < v4.toNat ∧ t4.val < 64 := t2_lt v4 hv t1 t4

theorem iv01 (k : Nat) : Scf.iv (0#32) (1#32) k = BitVec.ofNat 32 k := by
  simp [Scf.iv]

/-- The word of `256 * s + 64 * a + b`. -/
theorem addr (s a b : Nat) (hs : s < 48) (ha : 64 * a + b < 256) :
    (Scalar.indexCast (Scalar.addi (Scalar.addi (Scalar.muli (BitVec.ofNat 32 s) 256#32)
      (Scalar.muli (Scf.iv 0#32 1#32 a) 64#32)) (Scf.iv 0#32 1#32 b))).toNat = s * 256 + (64 * a + b) := by
  rw [iv01, iv01]
  simp only [Scalar.indexCast, Scalar.addi, Scalar.muli, IntOp.addi, IntOp.muli]
  simp only [BitVec.toNat_add, BitVec.toNat_mul, BitVec.toNat_ofNat]
  omega

theorem off1_eq (i : grid0.Coords) : k0_off1 i = ![(i 0).val] := by
  have h : (i 0).val < 48 := (i 0).isLt
  unfold k0_off1
  simp only [Scalar.indexCast, BitVec.toNat_ofNat]
  congr 1
  omega

theorem off2_eq (i : grid0.Coords) (v4 : BitVec 32) (hv : v4.toNat ≤ 256) (t1 : Fin (k0_t1_loop v4).trips)
    (t2 : Fin (k0_t2_loop v4 t1).trips) : k0_off2 i v4 t1 t2 = ![(i 0).val * 256 + (64 * t1.val + t2.val)] := by
  have h : (i 0).val < 48 := (i 0).isLt
  have := t2_lt v4 hv t1 t2
  unfold k0_off2
  exact congrArg (fun x => ![x]) (addr _ _ _ h (by omega))

theorem off8_eq (i : grid0.Coords) (v4 : BitVec 32) (hv : v4.toNat ≤ 256) (t1 : Fin (k0_t1_loop v4).trips)
    (t4 : Fin (k0_t4_loop v4 t1).trips) : k0_off8 i v4 t1 t4 = ![(i 0).val * 256 + (64 * t1.val + t4.val)] :=
  off2_eq i v4 hv t1 t4

theorem off4_eq (v4 : BitVec 32) (hv : v4.toNat ≤ 256) (t1 : Fin (k0_t1_loop v4).trips)
    (t2 : Fin (k0_t2_loop v4 t1).trips) : k0_off4 v4 t1 t2 = ![t2.val, 0] := by
  have := t2_lt v4 hv t1 t2
  unfold k0_off4
  simp only [iv01, Scalar.indexCast, BitVec.toNat_ofNat]
  congr 1
  omega

theorem off9_eq (v4 : BitVec 32) (hv : v4.toNat ≤ 256) (t1 : Fin (k0_t1_loop v4).trips)
    (t4 : Fin (k0_t4_loop v4 t1).trips) : k0_off9 v4 t1 t4 = ![t4.val, 0] := off4_eq v4 hv t1 t4

/-- The token of a pair: a shift right by three is a division by eight. -/
theorem shift3 (v : BitVec 32) (hv : v.toNat < 2048) :
    (Scalar.indexCast (Scalar.shrsi v 3#32)).toNat = v.toNat / 8 := by
  have h : ∀ n : Fin 2048, (Scalar.indexCast (Scalar.shrsi (BitVec.ofNat 32 n.val) 3#32)).toNat = n.val / 8 := by
    decide +kernel
  have := h ⟨v.toNat, hv⟩
  simpa using this

theorem off3_eq (v : BitVec 32) (hv : v.toNat < 2048) : k0_off3 v = ![v.toNat / 8, 0] :=
  congrArg (fun x => ![x, 0]) (shift3 v hv)

theorem off11_eq (v : BitVec 32) (hv : v.toNat < 2048) : k0_off11 v = ![v.toNat / 8, 0] := off3_eq v hv

theorem off10_eq (v : BitVec 32) : k0_off10 v = ![v.toNat, 0] := rfl

theorem off12_eq (v : BitVec 32) : k0_off12 v = ![v.toNat] := rfl

theorem chk2 (v : BitVec 32) (hv : v.toNat < 2048) : k0_chk2 v := by
  unfold k0_chk2
  rw [off3_eq v hv]
  intro a
  fin_cases a
  · show v.toNat / 8 + 1 ≤ 256
    omega
  · exact le_refl 2048

theorem chk4 (v : BitVec 32) (hv : v.toNat < 2048) : k0_chk4 v := by
  unfold k0_chk4
  rw [off11_eq v hv, off10_eq, off12_eq]
  refine ⟨?_, ?_, ?_⟩
  · intro a
    fin_cases a
    · show v.toNat + 1 ≤ 2048
      omega
    · exact le_refl 2048
  · intro a
    fin_cases a
    · show v.toNat / 8 + 1 ≤ 256
      omega
    · exact le_refl 2048
  · intro a
    fin_cases a
    show v.toNat + 1 ≤ 2048
    omega

theorem no_t3 (v4 : BitVec 32) (t1 : Fin (k0_t1_loop v4).trips) (k : Fin (k0_t3_loop v4 t1).trips) : False :=
  Scf.rem_no_trip _ _ k

theorem no_t5 (v4 : BitVec 32) (t1 : Fin (k0_t1_loop v4).trips) (k : Fin (k0_t5_loop v4 t1).trips) : False :=
  Scf.rem_no_trip _ _ k

theorem no_t6 (v4 : BitVec 32) (k : Fin (k0_t6_loop v4).trips) : False :=
  Scf.rem_no_trip _ _ k

/-- The body's first side condition holds at every count of at most 256. -/
theorem chk1 (i : grid0.Coords) (v4 : BitVec 32) (hv : v4.toNat ≤ 256) : k0_chk1 i v4 := by
  have h : (i 0).val < 48 := (i 0).isLt
  unfold k0_chk1
  refine ⟨(t1_facts v4 hv).1, fun t1 => (t2_facts v4 hv t1).1, fun t1 t2 => ?_, fun t1 t2 => ?_,
    fun t1 => Scf.rem_ok _ _, fun t1 k => (no_t3 v4 t1 k).elim, fun t1 k => (no_t3 v4 t1 k).elim,
    fun t1 => (t4_facts v4 hv t1).1, fun t1 t2 => ?_, fun t1 t2 => ?_,
    fun t1 => Scf.rem_ok _ _, fun t1 k => (no_t5 v4 t1 k).elim, fun t1 k => (no_t5 v4 t1 k).elim,
    Scf.rem_ok _ _,
    fun k => (no_t6 v4 k).elim, fun k => (no_t6 v4 k).elim, fun k => (no_t6 v4 k).elim, fun k => (no_t6 v4 k).elim,
    fun k => (no_t6 v4 k).elim, fun k => (no_t6 v4 k).elim, fun k => (no_t6 v4 k).elim, fun k => (no_t6 v4 k).elim,
    fun k => (no_t6 v4 k).elim, fun k => (no_t6 v4 k).elim, fun k => (no_t6 v4 k).elim, fun k => (no_t6 v4 k).elim⟩
  · rw [off2_eq i v4 hv]
    have := t2_lt v4 hv t1 t2
    intro a
    fin_cases a
    show (i 0).val * 256 + (64 * t1.val + t2.val) + 1 ≤ 12288
    omega
  · rw [off4_eq v4 hv]
    have := t2_lt v4 hv t1 t2
    intro a
    fin_cases a
    · show t2.val + 1 ≤ 64
      omega
    · exact le_refl 2048
  · rw [off8_eq i v4 hv]
    have := t4_lt v4 hv t1 t2
    intro a
    fin_cases a
    show (i 0).val * 256 + (64 * t1.val + t2.val) + 1 ≤ 12288
    omega
  · rw [off9_eq v4 hv]
    have := t4_lt v4 hv t1 t2
    intro a
    fin_cases a
    · show t2.val + 1 ≤ 64
      omega
    · exact le_refl 2048

/-- The first branch is taken at the first point only, -/
theorem cond1_iff (n : Nat) (hn : n < 48) :
    (Scalar.cmpi .ne (Scalar.extui (Scalar.cmpi .eq (BitVec.ofNat 32 n) 0#32) : BitVec 32) 0#32 = 1#1) ↔ (n = 0) := by
  have : ∀ n : Fin 48, (Scalar.cmpi .ne (Scalar.extui (Scalar.cmpi .eq (BitVec.ofNat 32 n.val) 0#32) : BitVec 32) 0#32 = 1#1) ↔ (n.val = 0) := by
    decide +kernel
  exact this ⟨n, hn⟩

/-- and the last at the last point only. -/
theorem cond2_iff (i : grid0.Coords) : (k0_cond2 i = 1#1) ↔ ((i 0).val = 47) := by
  have : ∀ n : Fin 48, (Scalar.cmpi .ne (Scalar.extui (Scalar.cmpi .eq (BitVec.ofNat 32 n.val) 47#32) : BitVec 32) 0#32 = 1#1) ↔ (n.val = 47) := by
    decide +kernel
  exact this (i 0)

end Words

end Cert.Kernel
-- ==== Proof.Bits.Block.lean ====
/- What one visit of a slot computes, as functions of the contents of the buffers: the rows of the tables, the result tile
   of a chunk of 64 rows, and the two updates made for one row of it. At any float type. -/
module

public import proofs.«01_k».proof.Proof.Gen.Kernel.Skeleton
public import proofs.«01_k».proof.Proof.Bits.Words
public import proofs.«01_k».proof.Proof.Mem
public import Idealize.ShloMosaic.Lib.Pointwise.Index

@[expose] public section

set_option maxRecDepth 16384

noncomputable section

namespace Cert.Kernel.Blk

open Idealize.ShloMosaic Cert.Kernel.Gen

variable {F : FTy → Type} [FloatOps F]

/-- Row `r` of a tile of 64 rows. -/
abbrev r64 (r : Nat) (h : r < 64) : Rect S64x2048 :=
  Rect.unit (s := S64x2048) ![r, 0] S1x2048.size (by
    intro a; fin_cases a
    · show r + 1 ≤ 64; omega
    · exact le_refl 2048)

/-- Row `r` of an array of 256 rows. -/
abbrev r256 (r : Nat) (h : r < 256) : Rect S256x2048 :=
  Rect.unit (s := S256x2048) ![r, 0] S1x2048.size (by
    intro a; fin_cases a
    · show r + 1 ≤ 256; omega
    · exact le_refl 2048)

/-- Row `r` of an array of 2048 rows. -/
abbrev r2048 (r : Nat) (h : r < 2048) : Rect S2048x2048 :=
  Rect.unit (s := S2048x2048) ![r, 0] S1x2048.size (by
    intro a; fin_cases a
    · show r + 1 ≤ 2048; omega
    · exact le_refl 2048)

/-- Columns `o … o + 255` of a tile of 64 rows. -/
abbrev c64 (o : Nat) (h : o + 256 ≤ 2048) : Rect S64x2048 :=
  Rect.unit (s := S64x2048) ![0, o] S64x256.size (by
    intro a; fin_cases a
    · exact le_refl 64
    · exact h)

/-- Columns `o … o + 255` of a block of gate and up codes, -/
abbrev c13At (X : Vec F S1x2048x768 .i8) (o : Nat) (h : o + 256 ≤ 768) : Vec F S1x2048x256 .i8 := fun j =>
  X ((Rect.unit (s := S1x2048x768) ![0, 0, o] S1x2048x256.size (by
    intro a; fin_cases a
    · exact le_refl 1
    · exact le_refl 2048
    · exact h)).emb j)

/-- of its scales, -/
abbrev s13At (X : Vec F S1x16x768 .bf16) (o : Nat) (h : o + 256 ≤ 768) : Vec F S1x16x256 .bf16 := fun j =>
  X ((Rect.unit (s := S1x16x768) ![0, 0, o] S1x16x256.size (by
    intro a; fin_cases a
    · exact le_refl 1
    · exact le_refl 16
    · exact h)).emb j)

/-- of a block of down codes, -/
abbrev c2At (X : Vec F S1x768x1024 .i8) (o : Nat) (h : o + 256 ≤ 1024) : Vec F S1x768x256 .i8 := fun j =>
  X ((Rect.unit (s := S1x768x1024) ![0, 0, o] S1x768x256.size (by
    intro a; fin_cases a
    · exact le_refl 1
    · exact le_refl 768
    · exact h)).emb j)

/-- and of its scales. -/
abbrev s2At (X : Vec F S1x6x2048 .bf16) (o : Nat) (h : o + 256 ≤ 2048) : Vec F S1x6x256 .bf16 := fun j =>
  X ((Rect.unit (s := S1x6x2048) ![0, 0, o] S1x6x256.size (by
    intro a; fin_cases a
    · exact le_refl 1
    · exact le_refl 6
    · exact h)).emb j)

section Tile

variable (X : Vec F S64x2048 .f32) (c13 : Vec F S1x2048x768 .i8) (sg su : Vec F S1x16x768 .bf16)
  (c2 : Vec F S1x768x1024 .i8) (s2 : Vec F S1x6x2048 .bf16)

/-- The gathered rows in the narrower format. -/
def tA : FVec F S64x2048 .bf16 := k0_pay13 X

/-- The first 256 columns of the hidden layer, -/
def h0 : FVec F S64x256 .bf16 :=
  k0_pay17 (tA X) (k0_pay15 (c13At c13 0 (by decide)) (s13At sg 0 (by decide)))
    (k0_pay16 (c13At c13 0 (by decide)) (s13At su 0 (by decide)))

/-- the next 256, -/
def h1 : FVec F S64x256 .bf16 :=
  k0_pay21 (tA X) (k0_pay19 (c13At c13 256 (by decide)) (s13At su 256 (by decide)))
    (k0_pay20 (tA X) (c13At c13 256 (by decide)) (s13At sg 256 (by decide))) (constant S64x256 .f32 0x00000000#32)

/-- and the last 256, not yet narrowed. -/
def h2 : FVec F S64x256 .f32 :=
  k0_pay22 (tA X) (c13At c13 512 (by decide)) (s13At sg 512 (by decide)) (s13At su 512 (by decide))

/-- The hidden layer of the 64 rows. -/
def hid : FVec F S64x768 .bf16 := k0_pay23 (h0 X c13 sg su) (h1 X c13 sg su) (h2 X c13 sg su)

/-- What the eight stores of a chunk leave in the result tile, over what stood there. -/
def ogTile (O : Vec F S64x2048 .f32) : Vec F S64x2048 .f32 :=
  (c64 1792 (by decide)).overlay
    ((c64 768 (by decide)).overlay
      ((c64 1536 (by decide)).overlay
        ((c64 512 (by decide)).overlay
          ((c64 1280 (by decide)).overlay
            ((c64 256 (by decide)).overlay
              ((c64 1024 (by decide)).overlay
                ((c64 0 (by decide)).overlay O
                  (k0_pay25 (h0 X c13 sg su) (h1 X c13 sg su) (h2 X c13 sg su) (c2At c2 0 (by decide)) (s2At s2 0 (by decide))))
                (k0_pay27 (k0_pay26 (h0 X c13 sg su) (h1 X c13 sg su) (h2 X c13 sg su) (c2At c2 0 (by decide))
                  (s2At s2 1024 (by decide)))))
              (k0_pay29 (hid X c13 sg su) (c2At c2 256 (by decide)) (s2At s2 256 (by decide))))
            (k0_pay31 (k0_pay30 (hid X c13 sg su) (c2At c2 256 (by decide)) (s2At s2 1280 (by decide)))))
          (k0_pay33 (hid X c13 sg su) (c2At c2 512 (by decide)) (s2At s2 512 (by decide))))
        (k0_pay35 (k0_pay34 (hid X c13 sg su) (c2At c2 512 (by decide)) (s2At s2 1536 (by decide)))))
      (k0_pay37 (hid X c13 sg su) (c2At c2 768 (by decide)) (s2At s2 768 (by decide))))
    (k0_pay4 (k0_pay38 (hid X c13 sg su) (c2At c2 768 (by decide)) (s2At s2 1792 (by decide))))

end Tile

/-- The pair recorded at place `n` of the list. -/
def pairAt (lst : Vec F S12288 .i32) (n : Nat) (h : n < 12288) : BitVec 32 := lst (ix1 ⟨n, h⟩)

/-- The per-pair result array after row `r` of the tile `O` is written at pair `p`. -/
def putE (O : Vec F S64x2048 .f32) (r : Nat) (hr : r < 64) (p : Nat) (hp : p < 2048) (E : Vec F S2048x2048 .f32) :
    Vec F S2048x2048 .f32 := (r2048 p hp).overlay E (fun j => O ((r64 r hr).emb j))

/-- The accumulator after row `r` of the tile `O`, times the pair's weight, is added at the pair's token. -/
def putY (wt : Vec F S2048 .f32) (O : Vec F S64x2048 .f32) (r : Nat) (hr : r < 64) (p : Nat) (hp : p < 2048)
    (Y : Vec F S256x2048 .f32) : Vec F S256x2048 .f32 :=
  (r256 (p / 8) (by omega)).overlay Y
    (k0_pay5 (fun j => O ((r64 r hr).emb j)) (fun j => Y ((r256 (p / 8) (by omega)).emb j)) (wt (ix1 ⟨p, hp⟩)))

/-- Rows `0 … n - 1` of the gathered tile are the rows of the tokens of the pairs recorded from place `b` on. -/
def Gathered (lst : Vec F S12288 .i32) (xs : Vec F S256x2048 .f32) (b n : Nat) (X : Vec F S64x2048 .f32) : Prop :=
  ∀ r (hr : r < n) (hr' : r < 64) (hb : b + r < 12288) (hp : (pairAt lst (b + r) hb).toNat < 2048),
    (fun j => X ((r64 r hr').emb j)) = fun j => xs ((r256 ((pairAt lst (b + r) hb).toNat / 8) (by omega)).emb j)

/-- `J c E Y` is kept by the handling of one pair of slot `s`, from `c` pairs handled to `c + 1`; `n` is the slot's count. -/
def StepOK (lst : Vec F S12288 .i32) (wt : Vec F S2048 .f32) (xs : Vec F S256x2048 .f32)
    (c13 : Vec F S1x2048x768 .i8) (sg su : Vec F S1x16x768 .bf16) (c2 : Vec F S1x768x1024 .i8) (s2 : Vec F S1x6x2048 .bf16)
    (s n : Nat) (J : Nat → Vec F S2048x2048 .f32 → Vec F S256x2048 .f32 → Prop) : Prop :=
  ∀ (b r : Nat) (hr : r < 64) (hn : b + r < n) (hb : s * 256 + (b + r) < 12288)
    (hp : (pairAt lst (s * 256 + (b + r)) hb).toNat < 2048) (X O : Vec F S64x2048 .f32),
    Gathered lst xs (s * 256 + b) (min (n - b) 64) X → ∀ E Y, J (b + r) E Y →
      J (b + r + 1) (putE (ogTile X c13 sg su c2 s2 O) r hr _ hp E) (putY wt (ogTile X c13 sg su c2 s2 O) r hr _ hp Y)

end Cert.Kernel.Blk
-- ==== Proof.Bits.Loops.lean ====
/- The two inner loops of a chunk, as rules over the contents of the buffers: the loop that gathers the rows of the chunk's
   tokens, and the loop that hands its result rows out. -/
module

public import proofs.«01_k».proof.Proof.Bits.Block
public import Idealize.ShloMosaic.Lib.Pipeline.Value
public import proofs.«01_k».proof.Proof.Gen.Kernel.Launch

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Blk Cert.Mem

variable {F : FTy → Type} [FloatOps F]

local notation "𝕄" => MT nD τ sig Unit (Elt F) ℕ (UR sig nD τ) ℕ

/-- No loop of the program is justified by a variant: every count is bounded. -/
abbrev 𝒱₀ : Variants := Variants.none

variable (c : Dev nD) (i : grid0.Coords)
variable (a1 : Memref sig .tc .smem S48 .i32) (w1 : a1.IsWhole)
variable (a2 : Memref sig .tc .smem S12288 .i32) (w2 : a2.IsWhole)
variable (a3 : Memref sig .tc .vmem S256x2048 .bf16) (w3 : a3.IsWhole)
variable (a4 : Memref sig .tc .vmem S1x2048x768 .i8) (w4 : a4.IsWhole)
variable (a5 : Memref sig .tc .vmem S1x16x768 .bf16) (w5 : a5.IsWhole)
variable (a6 : Memref sig .tc .vmem S1x16x768 .bf16) (w6 : a6.IsWhole)
variable (a7 : Memref sig .tc .vmem S1x768x1024 .i8) (w7 : a7.IsWhole)
variable (a8 : Memref sig .tc .vmem S1x6x2048 .bf16) (w8 : a8.IsWhole)
variable (a9 : Memref sig .tc .smem S2048 .f32) (w9 : a9.IsWhole)
variable (a10 : Memref sig .tc .vmem S256x2048 .bf16) (w10 : a10.IsWhole)
variable (a11 : Memref sig .tc .vmem S2048x2048 .f32) (w11 : a11.IsWhole)
variable (a12 : Memref sig .tc .vmem S256x2048 .f32) (w12 : a12.IsWhole)
variable (a13 : Memref sig .tc .vmem S64x2048 .f32) (w13 : a13.IsWhole)
variable (a14 : Memref sig .tc .vmem S256x2048 .f32) (w14 : a14.IsWhole)
variable (a15 : Memref sig .tc .vmem S64x2048 .f32) (w15 : a15.IsWhole)

/-- The word a scalar load at place `n` of the list reads. -/
theorem lst_read (lst : Vec F S12288 .i32) (off : Fin 1 → Nat) (inb : ∀ a, off a + S1.size a ≤ S12288.size a) (n : Nat)
    (hn : n < 12288) (ho : off = ![n]) :
    lst ((Rect.unit (s := S12288) off S1.size inb).emb (Shape.Idx.first (s := S1) (numel1_S1.symm ▸ Nat.one_pos))) = pairAt lst n hn := by
  subst ho
  unfold pairAt
  congr 1
  funext a
  fin_cases a
  rfl

theorem pairAt_congr (lst : Vec F S12288 .i32) {m n : Nat} (e : m = n) (hm : m < 12288) (hn : n < 12288) :
    pairAt lst m hm = pairAt lst n hn := by subst e; rfl

/-- A gathered tile with one more row stored has one more gathered row. -/
theorem gathered_succ (lst : Vec F S12288 .i32) (xs : Vec F S256x2048 .f32) (b n : Nat) (hn : n < 64) (hb : b + n < 12288)
    {X : Vec F S64x2048 .f32} (hX : Gathered lst xs b n X) (p : BitVec 32) (hpb : p = pairAt lst (b + n) hb)
    (hp : p.toNat < 2048) {off3 off4 : Fin 2 → Nat} (e3 : off3 = ![p.toNat / 8, 0]) (e4 : off4 = ![n, 0])
    (i3 : ∀ a, off3 a + S1x2048.size a ≤ S256x2048.size a) (i4 : ∀ a, off4 a + S1x2048.size a ≤ S64x2048.size a) :
    Gathered lst xs b (n + 1) ((Rect.unit (s := S64x2048) off4 S1x2048.size i4).overlay X
      (k0_pay11 fun j => xs ((Rect.unit (s := S256x2048) off3 S1x2048.size i3).emb j))) := by
  subst e3 e4 hpb
  intro r hr hr' hb' hp'
  by_cases h : r = n
  · subst h
    funext j
    have : ∀ (w : Vec F S1x2048 .f32), (r64 r hr').overlay X w ((r64 r hr').emb j) = w j := fun w => Rect.overlay_emb _ _ _ _
    refine (this _).trans ?_
    unfold k0_pay11
    rw [shapeCast_self]
  · rw [← hX r (by omega) hr' hb' hp']
    funext j
    refine Rect.overlay_of_not_mem _ _ _ ?_
    intro hm
    obtain ⟨k, hk⟩ := LoadRect.exists_idx_of_mem _ hm
    have h0 := congrArg (fun x : S64x2048.Idx => (x 0).val) hk
    have k0 : (k 0).val = 0 := by have := (k 0).isLt; exact Nat.lt_one_iff.mp this
    have j0 : (j 0).val = 0 := by have := (j 0).isLt; exact Nat.lt_one_iff.mp this
    simp only [Rect.emb_apply] at h0
    have : n + 1 * (k 0).val = r + 1 * (j 0).val := h0
    omega

/-- One trip of the gathering loop puts one more row in place. -/
theorem gather_trip (lst : Vec F S12288 .i32) (xs : Vec F S256x2048 .f32) (q : PosShare TreeShare)
    (hlst : ∀ j, (lst j).toNat < 2048) (v4 : BitVec 32) (hv : v4.toNat ≤ 256) (hw : k0_chk1 i v4)
    (t1 : Fin (k0_t1_loop v4).trips) (t2 : Fin (k0_t2_loop v4 t1).trips) (acc : BitVec 32) (X : Vec F S64x2048 .f32)
    (hX : Gathered lst xs ((i 0).val * 256 + 64 * t1.val) t2.val X) (Q : BitVec 32 → sProp 𝕄) :
    iprop(owns c a2 q lst ∗ owns c a12 fullShare xs ∗ owns c a13 fullShare X ∗
      (∀ X', ⌜Gathered lst xs ((i 0).val * 256 + 64 * t1.val) (t2.val + 1) X'⌝ -∗
        owns c a2 q lst -∗ owns c a12 fullShare xs -∗ owns c a13 fullShare X' -∗ Q 0#32)) ⊢
      wp frame (wpE (defs₀ (F := F)) 𝒱₀ c none) Set.univ (k0_t2_body (F := F) i a1 w1 a2 w2 a3 w3 a4 w4 a5 w5 a6 w6 a7 w7 a8 w8 a9 w9 a10 w10 a11 w11 a12 w12 a13 w13 a14 w14 a15 w15 (BitVec.ofNat 32 (i 0).val) v4 hw 0#32 1#32 t1 t2 acc) Q := by
  have hi : (i 0).val < 48 := (i 0).isLt
  have ht := Words.t2_lt v4 hv t1 t2
  unfold k0_t2_body
  iintro ⟨H2, H12, H13, Hk⟩
  iapply (wp_smem_owns (Q := Q)) $$ H2; iintro H2
  rw [lst_read lst _ _ ((i 0).val * 256 + (64 * t1.val + t2.val)) (by omega) (Words.off2_eq i v4 hv t1 t2)]
  simp only [Prog.pure_eq_ret]
  have hp := hlst (ix1 ⟨(i 0).val * 256 + (64 * t1.val + t2.val), by omega⟩)
  have hpe : lst (ix1 ⟨(i 0).val * 256 + (64 * t1.val + t2.val), by omega⟩) =
    pairAt lst ((i 0).val * 256 + (64 * t1.val + t2.val)) (by omega) := rfl
  rw [hpe] at hp
  have hc : k0_chk2 (pairAt lst ((i 0).val * 256 + (64 * t1.val + t2.val)) (by omega)) := Words.chk2 _ hp
  iapply (wp_assume (Q := Q) 𝒱₀ c none Set.univ hc)
  iapply (wp_load_owns (Q := Q)) $$ H12; iintro H12
  iapply (wp_load_owns (Q := Q)) $$ H13; iintro H13
  iapply (wp_store_owns (Q := Q)) $$ H13; iintro H13
  dsimp only [Prog.bind]; sl_step
  iapply Hk $$ [] H2 H12 H13
  ipureintro
  exact gathered_succ lst xs _ _ ht.2 (by omega) hX _ (pairAt_congr lst (by omega) _ _) hp (Words.off3_eq _ hp) (Words.off4_eq v4 hv t1 t2) _ _

/-- The gathering loop leaves the chunk's rows in place. -/
theorem gather_loop {α : Type} (lst : Vec F S12288 .i32) (xs : Vec F S256x2048 .f32) (q : PosShare TreeShare)
    (hlst : ∀ j, (lst j).toNat < 2048) (v4 : BitVec 32) (hv : v4.toNat ≤ 256) (hw : k0_chk1 i v4)
    (t1 : Fin (k0_t1_loop v4).trips) (X : Vec F S64x2048 .f32)
    (kk : BitVec 32 → Prog (TpuEff nD τ sig (Elt F) Λ₀ .tc) α) (Q : α → sProp 𝕄) :
    iprop(owns c a2 q lst ∗ owns c a12 fullShare xs ∗ owns c a13 fullShare X ∗
      (∀ acc X', ⌜Gathered lst xs ((i 0).val * 256 + 64 * t1.val) (min (v4.toNat - 64 * t1.val) 64) X'⌝ -∗
        owns c a2 q lst -∗ owns c a12 fullShare xs -∗ owns c a13 fullShare X' -∗ wp frame (wpE (defs₀ (F := F)) 𝒱₀ c none) Set.univ (kk acc) Q)) ⊢
      wp frame (wpE (defs₀ (F := F)) 𝒱₀ c none) Set.univ (Scf.Loop.for (k0_t2_loop v4 t1) (k0_t2_ok i v4 hw t1) 0#32
        (k0_t2_body (F := F) i a1 w1 a2 w2 a3 w3 a4 w4 a5 w5 a6 w6 a7 w7 a8 w8 a9 w9 a10 w10 a11 w11 a12 w12 a13 w13 a14 w14 a15 w15 (BitVec.ofNat 32 (i 0).val) v4 hw 0#32 1#32 t1) >>= kk) Q := by
  iintro ⟨H2, H12, H13, Hk⟩
  iapply (Scf.wp_for_bind frame (wpE (defs₀ (F := F)) 𝒱₀ c none) Set.univ _ _ _ (k0_t2_ok i v4 hw t1) _ _
      (fun k _ => iprop(∃ X', ⌜Gathered lst xs ((i 0).val * 256 + 64 * t1.val) k X'⌝ ∗
        owns c a2 q lst ∗ owns c a12 fullShare xs ∗ owns c a13 fullShare X')) ?trip) $$ [H2 H12 H13]
  · intro k acc
    iintro ⟨%X', %hX, H2, H12, H13⟩
    iapply (gather_trip c i a1 w1 a2 w2 a3 w3 a4 w4 a5 w5 a6 w6 a7 w7 a8 w8 a9 w9 a10 w10 a11 w11 a12 w12 a13 w13 a14 w14 a15 w15 lst xs q hlst v4 hv hw t1 k acc X' hX)
    isplitl [H2]; · iexact H2
    isplitl [H12]; · iexact H12
    isplitl [H13]; · iexact H13
    iintro %X'' %hX'' H2 H12 H13
    iexists X''
    isplitr; · ipureintro; exact hX''
    isplitl [H2]; · iexact H2
    isplitl [H12]; · iexact H12
    iexact H13
  · iexists X
    isplitr; · ipureintro; intro r hr; exact absurd hr (Nat.not_lt_zero _)
    isplitl [H2]; · iexact H2
    isplitl [H12]; · iexact H12
    iexact H13
  iintro %acc ⟨%X', %hX, H2, H12, H13⟩
  rw [(show Scf.trips (k0_t2_loop v4 t1).lb (k0_t2_loop v4 t1).ub (k0_t2_loop v4 t1).st = _ from (Words.t2_facts v4 hv t1).2)] at hX
  iapply Hk $$ %acc %X' [] H2 H12 H13
  ipureintro; exact hX

/-- The word a scalar load at place `n` of the weights reads. -/
theorem wt_read (wt : Vec F S2048 .f32) (off : Fin 1 → Nat) (inb : ∀ a, off a + S1.size a ≤ S2048.size a) (n : Nat)
    (hn : n < 2048) (ho : off = ![n]) :
    wt ((Rect.unit (s := S2048) off S1.size inb).emb (Shape.Idx.first (s := S1) (numel1_S1.symm ▸ Nat.one_pos))) = wt (ix1 ⟨n, hn⟩) := by
  subst ho
  congr 1
  funext a
  fin_cases a
  rfl

theorem putE_eq (O : Vec F S64x2048 .f32) (E : Vec F S2048x2048 .f32) (r p : Nat) (hr : r < 64) (hp : p < 2048)
    {off9 off10 : Fin 2 → Nat} (e9 : off9 = ![r, 0]) (e10 : off10 = ![p, 0])
    (i9 : ∀ a, off9 a + S1x2048.size a ≤ S64x2048.size a) (i10 : ∀ a, off10 a + S1x2048.size a ≤ S2048x2048.size a) :
    (Rect.unit (s := S2048x2048) off10 S1x2048.size i10).overlay E
      (fun j => O ((Rect.unit (s := S64x2048) off9 S1x2048.size i9).emb j)) = putE O r hr p hp E := by
  subst e9 e10; rfl

theorem putY_eq (wt : Vec F S2048 .f32) (O : Vec F S64x2048 .f32) (Y : Vec F S256x2048 .f32) (r p : Nat) (hr : r < 64)
    (hp : p < 2048) {off9 off11 : Fin 2 → Nat} {off12 : Fin 1 → Nat} (e9 : off9 = ![r, 0]) (e11 : off11 = ![p / 8, 0])
    (e12 : off12 = ![p]) (i9 : ∀ a, off9 a + S1x2048.size a ≤ S64x2048.size a)
    (i11 : ∀ a, off11 a + S1x2048.size a ≤ S256x2048.size a) (i12 : ∀ a, off12 a + S1.size a ≤ S2048.size a) :
    (Rect.unit (s := S256x2048) off11 S1x2048.size i11).overlay Y
      (k0_pay5 (fun j => O ((Rect.unit (s := S64x2048) off9 S1x2048.size i9).emb j))
        (fun j => Y ((Rect.unit (s := S256x2048) off11 S1x2048.size i11).emb j))
        (wt ((Rect.unit (s := S2048) off12 S1.size i12).emb (Shape.Idx.first (s := S1) (numel1_S1.symm ▸ Nat.one_pos))))) =
      putY wt O r hr p hp Y := by
  rw [wt_read wt _ _ p hp e12]
  subst e9 e11; rfl

/-- One trip of the scattering loop hands one result row out. -/
theorem scatter_trip (lst : Vec F S12288 .i32) (wt : Vec F S2048 .f32) (q q9 : PosShare TreeShare)
    (hlst : ∀ j, (lst j).toNat < 2048) (v4 : BitVec 32) (hv : v4.toNat ≤ 256) (hw : k0_chk1 i v4)
    (t1 : Fin (k0_t1_loop v4).trips) (t4 : Fin (k0_t4_loop v4 t1).trips) (acc : BitVec 32) (O : Vec F S64x2048 .f32)
    (E : Vec F S2048x2048 .f32) (Y : Vec F S256x2048 .f32) (hb : (i 0).val * 256 + (64 * t1.val + t4.val) < 12288)
    (hr : t4.val < 64) (hp : (pairAt lst ((i 0).val * 256 + (64 * t1.val + t4.val)) hb).toNat < 2048)
    (Q : BitVec 32 → sProp 𝕄) :
    iprop(owns c a2 q lst ∗ owns c a9 q9 wt ∗ owns c a15 fullShare O ∗ owns c a11 fullShare E ∗ owns c a14 fullShare Y ∗
      (owns c a2 q lst -∗ owns c a9 q9 wt -∗ owns c a15 fullShare O -∗
        owns c a11 fullShare (putE O t4.val hr _ hp E) -∗ owns c a14 fullShare (putY wt O t4.val hr _ hp Y) -∗ Q 0#32)) ⊢
      wp frame (wpE (defs₀ (F := F)) 𝒱₀ c none) Set.univ (k0_t4_body (F := F) i a1 w1 a2 w2 a3 w3 a4 w4 a5 w5 a6 w6 a7 w7 a8 w8 a9 w9 a10 w10 a11 w11 a12 w12 a13 w13 a14 w14 a15 w15 v4 hw t1 t4 acc) Q := by
  have hi : (i 0).val < 48 := (i 0).isLt
  have ht := Words.t4_lt v4 hv t1 t4
  unfold k0_t4_body
  iintro ⟨H2, H9, H15, H11, H14, Hk⟩
  iapply (wp_smem_owns (Q := Q)) $$ H2; iintro H2
  rw [lst_read lst _ _ ((i 0).val * 256 + (64 * t1.val + t4.val)) (by omega) (Words.off8_eq i v4 hv t1 t4)]
  simp only [Prog.pure_eq_ret]
  have hc : k0_chk4 (pairAt lst ((i 0).val * 256 + (64 * t1.val + t4.val)) (by omega)) := Words.chk4 _ hp
  iapply (wp_assume (Q := Q) 𝒱₀ c none Set.univ hc)
  iapply (wp_load_owns (Q := Q)) $$ H15; iintro H15
  iapply (wp_load_owns (Q := Q)) $$ H11; iintro H11
  iapply (wp_store_owns (Q := Q)) $$ H11; iintro H11
  iapply (wp_load_owns (Q := Q)) $$ H14; iintro H14
  iapply (wp_smem_owns (h1 := numel1_S1) (hp := rfl) (Q := Q)) $$ H9; iintro H9
  iapply (wp_load_owns (Q := Q)) $$ H14; iintro H14
  iapply (wp_store_owns (Q := Q)) $$ H14; iintro H14
  dsimp only [Prog.bind]; sl_step
  iapply Hk $$ H2 H9 H15 [H11] [H14]
  · rw [← putE_eq O E t4.val _ hr hp (Words.off9_eq v4 hv t1 t4) (Words.off10_eq _) (k0_off9_inb i v4 hw t1 t4)
      (k0_off10_inb _ hc)]
    iexact H11
  · rw [← putY_eq wt O Y t4.val _ hr hp (Words.off9_eq v4 hv t1 t4) (Words.off11_eq _ hp) (Words.off12_eq _)
      (k0_off9_inb i v4 hw t1 t4) (k0_off11_inb _ hc) (k0_off12_inb _ hc)]
    iexact H14

/-- The scattering loop hands the chunk's result rows out, whatever property of the two results each row keeps. -/
theorem scatter_loop {α : Type} (lst : Vec F S12288 .i32) (wt : Vec F S2048 .f32) (q q9 : PosShare TreeShare)
    (hlst : ∀ j, (lst j).toNat < 2048) (v4 : BitVec 32) (hv : v4.toNat ≤ 256) (hw : k0_chk1 i v4)
    (t1 : Fin (k0_t1_loop v4).trips) (O : Vec F S64x2048 .f32)
    (J : Nat → Vec F S2048x2048 .f32 → Vec F S256x2048 .f32 → Prop)
    (hJ : ∀ (r : Nat) (hr : r < 64) (hn : 64 * t1.val + r < v4.toNat) (hb : (i 0).val * 256 + (64 * t1.val + r) < 12288)
      (hp : (pairAt lst ((i 0).val * 256 + (64 * t1.val + r)) hb).toNat < 2048) E Y, J (64 * t1.val + r) E Y →
        J (64 * t1.val + r + 1) (putE O r hr _ hp E) (putY wt O r hr _ hp Y))
    (E : Vec F S2048x2048 .f32) (Y : Vec F S256x2048 .f32) (h0 : J (64 * t1.val) E Y)
    (kk : BitVec 32 → Prog (TpuEff nD τ sig (Elt F) Λ₀ .tc) α) (Q : α → sProp 𝕄) :
    iprop(owns c a2 q lst ∗ owns c a9 q9 wt ∗ owns c a15 fullShare O ∗ owns c a11 fullShare E ∗ owns c a14 fullShare Y ∗
      (∀ acc E' Y', ⌜J (64 * t1.val + min (v4.toNat - 64 * t1.val) 64) E' Y'⌝ -∗
        owns c a2 q lst -∗ owns c a9 q9 wt -∗ owns c a15 fullShare O -∗
        owns c a11 fullShare E' -∗ owns c a14 fullShare Y' -∗ wp frame (wpE (defs₀ (F := F)) 𝒱₀ c none) Set.univ (kk acc) Q)) ⊢
      wp frame (wpE (defs₀ (F := F)) 𝒱₀ c none) Set.univ (Scf.Loop.for (k0_t4_loop v4 t1) (k0_t4_ok i v4 hw t1) 0#32
        (k0_t4_body (F := F) i a1 w1 a2 w2 a3 w3 a4 w4 a5 w5 a6 w6 a7 w7 a8 w8 a9 w9 a10 w10 a11 w11 a12 w12 a13 w13 a14 w14 a15 w15 v4 hw t1) >>= kk) Q := by
  have hi : (i 0).val < 48 := (i 0).isLt
  iintro ⟨H2, H9, H15, H11, H14, Hk⟩
  iapply (Scf.wp_for_bind frame (wpE (defs₀ (F := F)) 𝒱₀ c none) Set.univ _ _ _ (k0_t4_ok i v4 hw t1) _ _
      (fun k _ => iprop(∃ E' Y', ⌜J (64 * t1.val + k) E' Y'⌝ ∗
        owns c a2 q lst ∗ owns c a9 q9 wt ∗ owns c a15 fullShare O ∗ owns c a11 fullShare E' ∗ owns c a14 fullShare Y')) ?trip)
      $$ [H2 H9 H15 H11 H14]
  · intro k acc
    have ht := Words.t4_lt v4 hv t1 k
    iintro ⟨%E', %Y', %hEY, H2, H9, H15, H11, H14⟩
    iapply (scatter_trip c i a1 w1 a2 w2 a3 w3 a4 w4 a5 w5 a6 w6 a7 w7 a8 w8 a9 w9 a10 w10 a11 w11 a12 w12 a13 w13 a14 w14 a15 w15 lst wt q q9 hlst v4 hv hw t1 k acc O E' Y' (by omega) ht.2 (hlst _))
    isplitl [H2]; · iexact H2
    isplitl [H9]; · iexact H9
    isplitl [H15]; · iexact H15
    isplitl [H11]; · iexact H11
    isplitl [H14]; · iexact H14
    iintro H2 H9 H15 H11 H14
    iexists _; iexists _
    isplitr; · ipureintro; exact hJ k.val ht.2 ht.1 (by omega) (hlst _) E' Y' hEY
    isplitl [H2]; · iexact H2
    isplitl [H9]; · iexact H9
    isplitl [H15]; · iexact H15
    isplitl [H11]; · iexact H11
    iexact H14
  · iexists E; iexists Y
    isplitr; · ipureintro; exact h0
    isplitl [H2]; · iexact H2
    isplitl [H9]; · iexact H9
    isplitl [H15]; · iexact H15
    isplitl [H11]; · iexact H11
    iexact H14
  iintro %acc ⟨%E', %Y', %hEY, H2, H9, H15, H11, H14⟩
  rw [(show Scf.trips (k0_t4_loop v4 t1).lb (k0_t4_loop v4 t1).ub (k0_t4_loop v4 t1).st = _ from (Words.t4_facts v4 hv t1).2)] at hEY
  iapply Hk $$ %acc %E' %Y' [] H2 H9 H15 H11 H14
  ipureintro; exact hEY

end Cert.Kernel.Body
-- ==== Proof.Bits.Parts.lean ====
/- The parts of a chunk's trip, and the whole trip, as rules over the contents of the buffers. -/
module

public import proofs.«01_k».proof.Proof.Bits.Loops

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Blk Cert.Mem

variable {F : FTy → Type} [FloatOps F]

local notation "𝕄" => MT nD τ sig Unit (Elt F) ℕ (UR sig nD τ) ℕ

variable (c : Dev nD) (i : grid0.Coords)
variable (a1 : Memref sig .tc .smem S48 .i32) (w1 : a1.IsWhole)
variable (a2 : Memref sig .tc .smem S12288 .i32) (w2 : a2.IsWhole)
variable (a3 : Memref sig .tc .vmem S256x2048 .bf16) (w3 : a3.IsWhole)
variable (a4 : Memref sig .tc .vmem S1x2048x768 .i8) (w4 : a4.IsWhole)
variable (a5 : Memref sig .tc .vmem S1x16x768 .bf16) (w5 : a5.IsWhole)
variable (a6 : Memref sig .tc .vmem S1x16x768 .bf16) (w6 : a6.IsWhole)
variable (a7 : Memref sig .tc .vmem S1x768x1024 .i8) (w7 : a7.IsWhole)
variable (a8 : Memref sig .tc .vmem S1x6x2048 .bf16) (w8 : a8.IsWhole)
variable (a9 : Memref sig .tc .smem S2048 .f32) (w9 : a9.IsWhole)
variable (a10 : Memref sig .tc .vmem S256x2048 .bf16) (w10 : a10.IsWhole)
variable (a11 : Memref sig .tc .vmem S2048x2048 .f32) (w11 : a11.IsWhole)
variable (a12 : Memref sig .tc .vmem S256x2048 .f32) (w12 : a12.IsWhole)
variable (a13 : Memref sig .tc .vmem S64x2048 .f32) (w13 : a13.IsWhole)
variable (a14 : Memref sig .tc .vmem S256x2048 .f32) (w14 : a14.IsWhole)
variable (a15 : Memref sig .tc .vmem S64x2048 .f32) (w15 : a15.IsWhole)

/-- The second part reads the second third of the gate and up blocks. -/
theorem part2_wp {α : Type} (c13 : Vec F S1x2048x768 .i8) (sg : Vec F S1x16x768 .bf16) (su : Vec F S1x16x768 .bf16)
    (v45 : FVec F S64x2048 .bf16) (v65 : FVec F S2048x256 .bf16) (v71 : FVec F S16x128x256 .bf16)
    (kk : (Σ' (_ : FVec F S64x256 .bf16) (_ : FVec F S2048x256 .bf16) (_ : FVec F S64x256 .f32), FVec F S64x256 .f32) → Prog (TpuEff nD τ sig (Elt F) Λ₀ .tc) α) (Q : α → sProp 𝕄) :
    iprop(owns c a4 fullShare c13 ∗ owns c a5 fullShare sg ∗ owns c a6 fullShare su ∗
      (owns c a4 fullShare c13 -∗ owns c a5 fullShare sg -∗ owns c a6 fullShare su -∗ wp frame (wpE (defs₀ (F := F)) 𝒱₀ c none) Set.univ (kk ⟨k0_pay17 v45 v65 v71, k0_pay19 (c13At c13 256 (by decide)) (s13At su 256 (by decide)), k0_pay20 v45 (c13At c13 256 (by decide)) (s13At sg 256 (by decide)), constant S64x256 .f32 0x00000000#32⟩) Q)) ⊢
      wp frame (wpE (defs₀ (F := F)) 𝒱₀ c none) Set.univ (k0_part2 (F := F) i a1 w1 a2 w2 a3 w3 a4 w4 a5 w5 a6 w6 a7 w7 a8 w8 a9 w9 a10 w10 a11 w11 a12 w12 a13 w13 a14 w14 a15 w15 v45 v65 v71 >>= kk) Q := by
  rw [k0_part2_eq_skeleton]
  unfold k0_part2_skel
  iintro ⟨H4, H5, H6, Hk⟩
  iapply (wp_load_owns (Q := Q)) $$ H4; iintro H4
  iapply (wp_load_owns (Q := Q)) $$ H5; iintro H5
  iapply (wp_load_owns (Q := Q)) $$ H6; iintro H6
  iapply Hk $$ H4 H5 H6

/-- The third part reads their last third. -/
theorem part3_wp {α : Type} (c13 : Vec F S1x2048x768 .i8) (sg : Vec F S1x16x768 .bf16) (su : Vec F S1x16x768 .bf16)
    (v45 : FVec F S64x2048 .bf16) (v109 : FVec F S2048x256 .bf16) (v112 : FVec F S64x256 .f32) (cst : FVec F S64x256 .f32)
    (kk : (Σ' (_ : FVec F S64x256 .bf16), FVec F S64x256 .f32) → Prog (TpuEff nD τ sig (Elt F) Λ₀ .tc) α) (Q : α → sProp 𝕄) :
    iprop(owns c a4 fullShare c13 ∗ owns c a5 fullShare sg ∗ owns c a6 fullShare su ∗
      (owns c a4 fullShare c13 -∗ owns c a5 fullShare sg -∗ owns c a6 fullShare su -∗ wp frame (wpE (defs₀ (F := F)) 𝒱₀ c none) Set.univ (kk ⟨k0_pay21 v45 v109 v112 cst, k0_pay22 v45 (c13At c13 512 (by decide)) (s13At sg 512 (by decide)) (s13At su 512 (by decide))⟩) Q)) ⊢
      wp frame (wpE (defs₀ (F := F)) 𝒱₀ c none) Set.univ (k0_part3 (F := F) i a1 w1 a2 w2 a3 w3 a4 w4 a5 w5 a6 w6 a7 w7 a8 w8 a9 w9 a10 w10 a11 w11 a12 w12 a13 w13 a14 w14 a15 w15 v45 v109 v112 cst >>= kk) Q := by
  rw [k0_part3_eq_skeleton]
  unfold k0_part3_skel
  iintro ⟨H4, H5, H6, Hk⟩
  iapply (wp_load_owns (Q := Q)) $$ H4; iintro H4
  iapply (wp_load_owns (Q := Q)) $$ H5; iintro H5
  iapply (wp_load_owns (Q := Q)) $$ H6; iintro H6
  iapply Hk $$ H4 H5 H6

/-- The fourth part assembles the hidden layer and stores the first columns of the result tile. -/
theorem part4_wp {α : Type} (c2 : Vec F S1x768x1024 .i8) (s2 : Vec F S1x6x2048 .bf16) (O : Vec F S64x2048 .f32)
    (v82 : FVec F S64x256 .bf16) (v119 : FVec F S64x256 .bf16) (v155 : FVec F S64x256 .f32)
    (kk : (Σ' (_ : FVec F S64x768 .bf16) (_ : FVec F S64x256 .f32), Vec F S64x256 .f32) → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 0 (by decide)).overlay O (k0_pay25 v82 v119 v155 (c2At c2 0 (by decide)) (s2At s2 0 (by decide)))) -∗ wp frame (wpE (defs₀ (F := F)) 𝒱₀ c none) Set.univ (kk ⟨k0_pay23 v82 v119 v155, k0_pay26 v82 v119 v155 (c2At c2 0 (by decide)) (s2At s2 1024 (by decide)), fun j => ((c64 0 (by decide)).overlay O (k0_pay25 v82 v119 v155 (c2At c2 0 (by decide)) (s2At s2 0 (by decide)))) ((c64 1024 (by decide)).emb j)⟩) Q)) ⊢
      wp frame (wpE (defs₀ (F := F)) 𝒱₀ c none) Set.univ (k0_part4 (F := F) i a1 w1 a2 w2 a3 w3 a4 w4 a5 w5 a6 w6 a7 w7 a8 w8 a9 w9 a10 w10 a11 w11 a12 w12 a13 w13 a14 w14 a15 w15 v82 v119 v155 >>= kk) Q := by
  rw [k0_part4_eq_skeleton]
  unfold k0_part4_skel
  iintro ⟨H7, H8, H15, Hk⟩
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply (wp_load_owns (Q := Q)) $$ H15; iintro H15
  iapply Hk $$ H7 H8 [H15]
  iexact H15

/-- The fifth part stores two more groups of columns. -/
theorem part5_wp {α : Type} (c2 : Vec F S1x768x1024 .i8) (s2 : Vec F S1x6x2048 .bf16) (O : Vec F S64x2048 .f32)
    (v157 : FVec F S64x768 .bf16) (v193 : FVec F S64x256 .f32) (v194 : Vec F S64x256 .f32)
    (kk : FVec F S64x256 .f32 → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 256 (by decide)).overlay ((c64 1024 (by decide)).overlay O (k0_pay27 v193)) (k0_pay29 v157 (c2At c2 256 (by decide)) (s2At s2 256 (by decide)))) -∗ wp frame (wpE (defs₀ (F := F)) 𝒱₀ c none) Set.univ (kk (k0_pay30 v157 (c2At c2 256 (by decide)) (s2At s2 1280 (by decide)))) Q)) ⊢
      wp frame (wpE (defs₀ (F := F)) 𝒱₀ c none) Set.univ (k0_part5 (F := F) i a1 w1 a2 w2 a3 w3 a4 w4 a5 w5 a6 w6 a7 w7 a8 w8 a9 w9 a10 w10 a11 w11 a12 w12 a13 w13 a14 w14 a15 w15 v157 v193 v194 >>= kk) Q := by
  rw [k0_part5_eq_skeleton]
  unfold k0_part5_skel
  iintro ⟨H7, H8, H15, Hk⟩
  iapply (wp_store_owns (Q := Q)) $$ H15; iintro H15
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply Hk $$ H7 H8 [H15]
  iexact H15

/-- So does the sixth. -/
theorem part6_wp {α : Type} (c2 : Vec F S1x768x1024 .i8) (s2 : Vec F S1x6x2048 .bf16) (O : Vec F S64x2048 .f32)
    (v157 : FVec F S64x768 .bf16) (v232 : FVec F S64x256 .f32)
    (kk : FVec F S64x256 .f32 → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 512 (by decide)).overlay ((c64 1280 (by decide)).overlay O (k0_pay31 v232)) (k0_pay33 v157 (c2At c2 512 (by decide)) (s2At s2 512 (by decide)))) -∗ wp frame (wpE (defs₀ (F := F)) 𝒱₀ c none) Set.univ (kk (k0_pay34 v157 (c2At c2 512 (by decide)) (s2At s2 1536 (by decide)))) Q)) ⊢
      wp frame (wpE (defs₀ (F := F)) 𝒱₀ c none) Set.univ (k0_part6 (F := F) i a1 w1 a2 w2 a3 w3 a4 w4 a5 w5 a6 w6 a7 w7 a8 w8 a9 w9 a10 w10 a11 w11 a12 w12 a13 w13 a14 w14 a15 w15 v157 v232 >>= kk) Q := by
  rw [k0_part6_eq_skeleton]
  unfold k0_part6_skel
  iintro ⟨H7, H8, H15, Hk⟩
  iapply (wp_load_owns (Q := Q)) $$ H15; iintro H15
  iapply (wp_store_owns (Q := Q)) $$ H15; iintro H15
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply Hk $$ H7 H8 [H15]
  iexact H15

/-- And the seventh. -/
theorem part7_wp {α : Type} (c2 : Vec F S1x768x1024 .i8) (s2 : Vec F S1x6x2048 .bf16) (O : Vec F S64x2048 .f32)
    (v157 : FVec F S64x768 .bf16) (v271 : FVec F S64x256 .f32)
    (kk : FVec F S64x256 .f32 → Prog (TpuEff nD τ sig (Elt F) Λ₀ .tc) α) (Q : α → sProp 𝕄) :
    iprop(owns c a7 fullShare c2 ∗ owns c a8 fullShare s2 ∗ owns c a15 fullShare O ∗
      (owns c a7 fullShare c2 -∗ owns c a8 fullShare s2 -∗ owns c a15 fullShare ((c64 768 (by decide)).overlay ((c64 1536 (by decide)).overlay O (k0_pay35 v271)) (k0_pay37 v157 (c2At c2 768 (by decide)) (s2At s2 768 (by decide)))) -∗ wp frame (wpE (defs₀ (F := F)) 𝒱₀ c none) Set.univ (kk (k0_pay38 v157 (c2At c2 768 (by decide)) (s2At s2 1792 (by decide)))) Q)) ⊢
      wp frame (wpE (defs₀ (F := F)) 𝒱₀ c none) Set.univ (k0_part7 (F := F) i a1 w1 a2 w2 a3 w3 a4 w4 a5 w5 a6 w6 a7 w7 a8 w8 a9 w9 a10 w10 a11 w11 a12 w12 a13 w13 a14 w14 a15 w15 v157 v271 >>= kk) Q := by
  rw [k0_part7_eq_skeleton]
  unfold k0_part7_skel
  iintro ⟨H7, H8, H15, Hk⟩
  iapply (wp_load_owns (Q := Q)) $$ H15; iintro H15
  iapply (wp_store_owns (Q := Q)) $$ H15; iintro H15
  iapply (wp_load_owns (Q := Q)) $$ H7; iintro H7
  iapply (wp_load_owns (Q := Q)) $$ H8; iintro H8
  iapply (wp_load_owns (Q := Q)) $$ H8; iintro H8
  iapply (wp_load_owns (Q := Q)) $$ H15; iintro H15
  iapply (wp_store_owns (Q := Q)) $$ H15; iintro H15
  iapply Hk $$ H7 H8 [H15]
  iexact H15

/-- The first part gathers the chunk's rows and reads the first third of the gate and up blocks. -/
theorem part1_wp {α : Type} (lst : Vec F S12288 .i32) (xs : Vec F S256x2048 .f32) (q : PosShare TreeShare)
    (hlst : ∀ j, (lst j).toNat < 2048) (v4 : BitVec 32) (hv : v4.toNat ≤ 256) (hw : k0_chk1 i v4)
    (t1 : Fin (k0_t1_loop v4).trips) (X : Vec F S64x2048 .f32) (c13 : Vec F S1x2048x768 .i8) (sg su : Vec F S1x16x768 .bf16)
    (kk : (Σ' (_ : BitVec 32) (_ : BitVec 32) (_ : FVec F S64x2048 .bf16) (_ : FVec F S2048x256 .bf16), FVec F S16x128x256 .bf16) →
      Prog (TpuEff nD τ sig (Elt F) Λ₀ .tc) α) (Q : α → sProp 𝕄) :
    iprop(owns c a2 q lst ∗ owns c a12 fullShare xs ∗ owns c a13 fullShare X ∗
      owns c a4 fullShare c13 ∗ owns c a5 fullShare sg ∗ owns c a6 fullShare su ∗
      (∀ w34 w36 X', ⌜Gathered lst xs ((i 0).val * 256 + 64 * t1.val) (min (v4.toNat - 64 * t1.val) 64) X'⌝ -∗
        owns c a2 q lst -∗ owns c a12 fullShare xs -∗ owns c a13 fullShare X' -∗
        owns c a4 fullShare c13 -∗ owns c a5 fullShare sg -∗ owns c a6 fullShare su -∗
        wp frame (wpE (defs₀ (F := F)) 𝒱₀ c none) Set.univ (kk ⟨w34, w36, tA X', k0_pay15 (c13At c13 0 (by decide)) (s13At sg 0 (by decide)),
          k0_pay16 (c13At c13 0 (by decide)) (s13At su 0 (by decide))⟩) Q)) ⊢
      wp frame (wpE (defs₀ (F := F)) 𝒱₀ c none) Set.univ (k0_part1 (F := F) i a1 w1 a2 w2 a3 w3 a4 w4 a5 w5 a6 w6 a7 w7 a8 w8 a9 w9 a10 w10 a11 w11 a12 w12 a13 w13 a14 w14 a15 w15 (BitVec.ofNat 32 (i 0).val) v4 hw 0#32 1#32 t1 >>= kk) Q := by
  rw [k0_part1_eq_skeleton]
  unfold k0_part1_skel
  iintro ⟨H2, H12, H13, H4, H5, H6, Hk⟩
  simp only [Prog.bind_assoc]
  iapply (gather_loop c i a1 w1 a2 w2 a3 w3 a4 w4 a5 w5 a6 w6 a7 w7 a8 w8 a9 w9 a10 w10 a11 w11 a12 w12 a13 w13 a14 w14 a15 w15 lst xs q hlst v4 hv hw t1 X)
  isplitl [H2]; · iexact H2
  isplitl [H12]; · iexact H12
  isplitl [H13]; · iexact H13
  iintro %acc %X' %hX H2 H12 H13
  rw [show Scf.Loop.for (k0_t3_loop v4 t1) (k0_t3_ok i v4 hw t1) acc (k0_t3_body (F := F) i a1 w1 a2 w2 a3 w3 a4 w4 a5 w5 a6 w6 a7 w7 a8 w8 a9 w9 a10 w10 a11 w11 a12 w12 a13 w13 a14 w14 a15 w15
    (BitVec.ofNat 32 (i 0).val) v4 hw 0#32 1#32 t1) = .ret acc from Scf.for_rem_eq _ _ _ _ _]
  iapply (wp_load_owns (Q := Q)) $$ H13; iintro H13
  iapply (wp_load_owns (Q := Q)) $$ H4; iintro H4
  iapply (wp_load_owns (Q := Q)) $$ H5; iintro H5
  iapply (wp_load_owns (Q := Q)) $$ H6; iintro H6
  have e := unit_whole_read ![0, 0] inb_S64x2048_S64x2048_0_0 X'
  rw [e]
  iapply Hk $$ %_ %_ %X' [] H2 H12 H13 H4 H5 H6
  ipureintro; exact hX

end Cert.Kernel.Body
-- ==== Proof.Bits.Point.lean ====
/- One visit of the kernel's body at a grid point, as a rule over the contents of the buffers. -/
module

public import proofs.«01_k».proof.Proof.Bits.Parts

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Blk Cert.Mem

variable {F : FTy → Type} [FloatOps F]

local notation "𝕄" => MT nD τ sig Unit (Elt F) ℕ (UR sig nD τ) ℕ

variable (c : Dev nD) (i : grid0.Coords)
variable (a1 : Memref sig .tc .smem S48 .i32) (w1 : a1.IsWhole)
variable (a2 : Memref sig .tc .smem S12288 .i32) (w2 : a2.IsWhole)
variable (a3 : Memref sig .tc .vmem S256x2048 .bf16) (w3 : a3.IsWhole)
variable (a4 : Memref sig .tc .vmem S1x2048x768 .i8) (w4 : a4.IsWhole)
variable (a5 : Memref sig .tc .vmem S1x16x768 .bf16) (w5 : a5.IsWhole)
variable (a6 : Memref sig .tc .vmem S1x16x768 .bf16) (w6 : a6.IsWhole)
variable (a7 : Memref sig .tc .vmem S1x768x1024 .i8) (w7 : a7.IsWhole)
variable (a8 : Memref sig .tc .vmem S1x6x2048 .bf16) (w8 : a8.IsWhole)
variable (a9 : Memref sig .tc .smem S2048 .f32) (w9 : a9.IsWhole)
variable (a10 : Memref sig .tc .vmem S256x2048 .bf16) (w10 : a10.IsWhole)
variable (a11 : Memref sig .tc .vmem S2048x2048 .f32) (w11 : a11.IsWhole)
variable (a12 : Memref sig .tc .vmem S256x2048 .f32) (w12 : a12.IsWhole)
variable (a13 : Memref sig .tc .vmem S64x2048 .f32) (w13 : a13.IsWhole)
variable (a14 : Memref sig .tc .vmem S256x2048 .f32) (w14 : a14.IsWhole)
variable (a15 : Memref sig .tc .vmem S64x2048 .f32) (w15 : a15.IsWhole)

/-- One trip of the chunk loop keeps what the handling of one pair keeps, over the pairs of the chunk. -/
theorem trip_wp (lst : Vec F S12288 .i32) (wt : Vec F S2048 .f32) (xs : Vec F S256x2048 .f32) (q q9 : PosShare TreeShare)
    (hlst : ∀ j, (lst j).toNat < 2048) (v4 : BitVec 32) (hv : v4.toNat ≤ 256) (hw : k0_chk1 i v4)
    (t1 : Fin (k0_t1_loop v4).trips) (acc : BitVec 32) (X : Vec F S64x2048 .f32) (O : Vec F S64x2048 .f32)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt xs c13 sg su c2 s2 (i 0).val v4.toNat J)
    (E : Vec F S2048x2048 .f32) (Y : Vec F S256x2048 .f32) (h0 : J (64 * t1.val) E Y) (Q : BitVec 32 → sProp 𝕄) :
    iprop(owns c a2 q lst ∗ owns c a9 q9 wt ∗ owns c a12 fullShare xs ∗ owns c a13 fullShare X ∗ owns c a15 fullShare O ∗
      owns c a4 fullShare c13 ∗ owns c a5 fullShare sg ∗ owns c a6 fullShare su ∗ owns c a7 fullShare c2 ∗
      owns c a8 fullShare s2 ∗ owns c a11 fullShare E ∗ owns c a14 fullShare Y ∗
      (∀ X' O' E' Y', ⌜J (64 * t1.val + min (v4.toNat - 64 * t1.val) 64) E' Y'⌝ -∗
        owns c a2 q lst -∗ owns c a9 q9 wt -∗ owns c a12 fullShare xs -∗ owns c a13 fullShare X' -∗ owns c a15 fullShare O' -∗
        owns c a4 fullShare c13 -∗ owns c a5 fullShare sg -∗ owns c a6 fullShare su -∗ owns c a7 fullShare c2 -∗
        owns c a8 fullShare s2 -∗ owns c a11 fullShare E' -∗ owns c a14 fullShare Y' -∗ Q 0#32)) ⊢
      wp frame (wpE (defs₀ (F := F)) 𝒱₀ c none) Set.univ (k0_t1_body (F := F) i a1 w1 a2 w2 a3 w3 a4 w4 a5 w5 a6 w6 a7 w7 a8 w8 a9 w9 a10 w10 a11 w11 a12 w12 a13 w13 a14 w14 a15 w15 (BitVec.ofNat 32 (i 0).val) v4 hw t1 acc) Q := by
  unfold k0_t1_body
  iintro ⟨H2, H9, H12, H13, H15, H4, H5, H6, H7, H8, H11, H14, Hk⟩
  iapply (part1_wp c i a1 w1 a2 w2 a3 w3 a4 w4 a5 w5 a6 w6 a7 w7 a8 w8 a9 w9 a10 w10 a11 w11 a12 w12 a13 w13 a14 w14 a15 w15 lst xs q hlst v4 hv hw t1 X c13 sg su)
  isplitl [H2]; · iexact H2
  isplitl [H12]; · iexact H12
  isplitl [H13]; · iexact H13
  isplitl [H4]; · iexact H4
  isplitl [H5]; · iexact H5
  isplitl [H6]; · iexact H6
  iintro %w34 %w36 %X' %hX H2 H12 H13 H4 H5 H6
  iapply (part2_wp c i a1 w1 a2 w2 a3 w3 a4 w4 a5 w5 a6 w6 a7 w7 a8 w8 a9 w9 a10 w10 a11 w11 a12 w12 a13 w13 a14 w14 a15 w15 c13 sg su)
  isplitl [H4]; · iexact H4
  isplitl [H5]; · iexact H5
  isplitl [H6]; · iexact H6
  iintro H4 H5 H6
  iapply (part3_wp c i a1 w1 a2 w2 a3 w3 a4 w4 a5 w5 a6 w6 a7 w7 a8 w8 a9 w9 a10 w10 a11 w11 a12 w12 a13 w13 a14 w14 a15 w15 c13 sg su)
  isplitl [H4]; · iexact H4
  isplitl [H5]; · iexact H5
  isplitl [H6]; · iexact H6
  iintro H4 H5 H6
  iapply (part4_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (part5_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (part6_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (part7_wp c i a1 w1 a2 w2 a3 w3 a4 w4 a5 w5 a6 w6 a7 w7 a8 w8 a9 w9 a10 w10 a11 w11 a12 w12 a13 w13 a14 w14 a15 w15 c2 s2)
  isplitl [H7]; · iexact H7
  isplitl [H8]; · iexact H8
  isplitl [H15]; · iexact H15
  iintro H7 H8 H15
  iapply (wp_load_owns (Q := Q)) $$ H15; iintro H15
  iapply (wp_store_owns (Q := Q)) $$ H15; iintro H15
  have hb : (i 0).val < 48 := (i 0).isLt
  iapply (scatter_loop c i a1 w1 a2 w2 a3 w3 a4 w4 a5 w5 a6 w6 a7 w7 a8 w8 a9 w9 a10 w10 a11 w11 a12 w12 a13 w13 a14 w14 a15 w15 lst wt q q9 hlst v4 hv hw t1 (ogTile X' c13 sg su c2 s2 O) J
    (fun r hr hn hb hp E Y h => hJ (64 * t1.val) r hr hn hb hp X' O hX E Y h) E Y h0)
  isplitl [H2]; · iexact H2
  isplitl [H9]; · iexact H9
  isplitl [H15]; · iexact H15
  isplitl [H11]; · iexact H11
  isplitl [H14]; · iexact H14
  iintro %acc' %E' %Y' %hEY H2 H9 H15 H11 H14
  rw [show Scf.Loop.for (k0_t5_loop v4 t1) (k0_t5_ok i v4 hw t1) acc' (k0_t5_body (F := F) i a1 w1 a2 w2 a3 w3 a4 w4 a5 w5 a6 w6 a7 w7 a8 w8 a9 w9 a10 w10 a11 w11 a12 w12 a13 w13 a14 w14 a15 w15
    v4 hw t1) = .ret acc' from Scf.for_rem_eq _ _ _ _ _]
  dsimp only [Prog.bind, Prog.pure_eq_ret, bind]; sl_step
  iapply Hk $$ %X' %_ %E' %Y' [] H2 H9 H12 H13 H15 H4 H5 H6 H7 H8 H11 H14
  ipureintro; exact hEY

/-- The chunk loop keeps it over all the pairs of the slot. -/
theorem chunks_wp {α : Type} (lst : Vec F S12288 .i32) (wt : Vec F S2048 .f32) (xs : Vec F S256x2048 .f32) (q q9 : PosShare TreeShare)
    (hlst : ∀ j, (lst j).toNat < 2048) (v4 : BitVec 32) (hv : v4.toNat ≤ 256) (hw : k0_chk1 i v4)
    (X : Vec F S64x2048 .f32) (O : Vec F S64x2048 .f32)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt xs c13 sg su c2 s2 (i 0).val v4.toNat J)
    (E : Vec F S2048x2048 .f32) (Y : Vec F S256x2048 .f32) (h0 : J 0 E Y)
    (kk : BitVec 32 → Prog (TpuEff nD τ sig (Elt F) Λ₀ .tc) α) (Q : α → sProp 𝕄) :
    iprop(owns c a2 q lst ∗ owns c a9 q9 wt ∗ owns c a12 fullShare xs ∗ owns c a13 fullShare X ∗ owns c a15 fullShare O ∗
      owns c a4 fullShare c13 ∗ owns c a5 fullShare sg ∗ owns c a6 fullShare su ∗ owns c a7 fullShare c2 ∗
      owns c a8 fullShare s2 ∗ owns c a11 fullShare E ∗ owns c a14 fullShare Y ∗
      (∀ acc X' O' E' Y', ⌜J v4.toNat E' Y'⌝ -∗
        owns c a2 q lst -∗ owns c a9 q9 wt -∗ owns c a12 fullShare xs -∗ owns c a13 fullShare X' -∗ owns c a15 fullShare O' -∗
        owns c a4 fullShare c13 -∗ owns c a5 fullShare sg -∗ owns c a6 fullShare su -∗ owns c a7 fullShare c2 -∗
        owns c a8 fullShare s2 -∗ owns c a11 fullShare E' -∗ owns c a14 fullShare Y' -∗ wp frame (wpE (defs₀ (F := F)) 𝒱₀ c none) Set.univ (kk acc) Q)) ⊢
      wp frame (wpE (defs₀ (F := F)) 𝒱₀ c none) Set.univ (Scf.Loop.for (k0_t1_loop v4) (k0_t1_ok i v4 hw) 0#32
        (k0_t1_body (F := F) i a1 w1 a2 w2 a3 w3 a4 w4 a5 w5 a6 w6 a7 w7 a8 w8 a9 w9 a10 w10 a11 w11 a12 w12 a13 w13 a14 w14 a15 w15 (BitVec.ofNat 32 (i 0).val) v4 hw) >>= kk) Q := by
  iintro ⟨H2, H9, H12, H13, H15, H4, H5, H6, H7, H8, H11, H14, Hk⟩
  iapply (Scf.wp_for_bind frame (wpE (defs₀ (F := F)) 𝒱₀ c none) Set.univ _ _ _ (k0_t1_ok i v4 hw) _ _
      (fun k _ => iprop(∃ X' O' E' Y', ⌜J (min v4.toNat (64 * k)) E' Y'⌝ ∗
        owns c a2 q lst ∗ owns c a9 q9 wt ∗ owns c a12 fullShare xs ∗ owns c a13 fullShare X' ∗ owns c a15 fullShare O' ∗
        owns c a4 fullShare c13 ∗ owns c a5 fullShare sg ∗ owns c a6 fullShare su ∗ owns c a7 fullShare c2 ∗
        owns c a8 fullShare s2 ∗ owns c a11 fullShare E' ∗ owns c a14 fullShare Y')) ?trip)
      $$ [H2 H9 H12 H13 H15 H4 H5 H6 H7 H8 H11 H14]
  · intro k acc
    have ht := Words.t1_lt v4 hv k
    iintro ⟨%X', %O', %E', %Y', %hEY, H2, H9, H12, H13, H15, H4, H5, H6, H7, H8, H11, H14⟩
    rw [show min v4.toNat (64 * k.val) = 64 * k.val by omega] at hEY
    iapply (trip_wp c i a1 w1 a2 w2 a3 w3 a4 w4 a5 w5 a6 w6 a7 w7 a8 w8 a9 w9 a10 w10 a11 w11 a12 w12 a13 w13 a14 w14 a15 w15 lst wt xs q q9 hlst v4 hv hw k acc X' O' c13 sg su c2 s2 J hJ E' Y' hEY)
    isplitl [H2]; · iexact H2
    isplitl [H9]; · iexact H9
    isplitl [H12]; · iexact H12
    isplitl [H13]; · iexact H13
    isplitl [H15]; · iexact H15
    isplitl [H4]; · iexact H4
    isplitl [H5]; · iexact H5
    isplitl [H6]; · iexact H6
    isplitl [H7]; · iexact H7
    isplitl [H8]; · iexact H8
    isplitl [H11]; · iexact H11
    isplitl [H14]; · iexact H14
    iintro %X'' %O'' %E'' %Y'' %h'' H2 H9 H12 H13 H15 H4 H5 H6 H7 H8 H11 H14
    rw [show 64 * k.val + min (v4.toNat - 64 * k.val) 64 = min v4.toNat (64 * (k.val + 1)) by omega] at h''
    iexists X''; iexists O''; iexists E''; iexists Y''
    isplitr; · ipureintro; exact h''
    isplitl [H2]; · iexact H2
    isplitl [H9]; · iexact H9
    isplitl [H12]; · iexact H12
    isplitl [H13]; · iexact H13
    isplitl [H15]; · iexact H15
    isplitl [H4]; · iexact H4
    isplitl [H5]; · iexact H5
    isplitl [H6]; · iexact H6
    isplitl [H7]; · iexact H7
    isplitl [H8]; · iexact H8
    isplitl [H11]; · iexact H11
    iexact H14
  · iexists X; iexists O; iexists E; iexists Y
    isplitr; · ipureintro; rw [Nat.mul_zero, Nat.min_zero]; exact h0
    isplitl [H2]; · iexact H2
    isplitl [H9]; · iexact H9
    isplitl [H12]; · iexact H12
    isplitl [H13]; · iexact H13
    isplitl [H15]; · iexact H15
    isplitl [H4]; · iexact H4
    isplitl [H5]; · iexact H5
    isplitl [H6]; · iexact H6
    isplitl [H7]; · iexact H7
    isplitl [H8]; · iexact H8
    isplitl [H11]; · iexact H11
    iexact H14
  iintro %acc ⟨%X', %O', %E', %Y', %hEY, H2, H9, H12, H13, H15, H4, H5, H6, H7, H8, H11, H14⟩
  rw [(show Scf.trips (k0_t1_loop v4).lb (k0_t1_loop v4).ub (k0_t1_loop v4).st = _ from (Words.t1_facts v4 hv).2),
    show min v4.toNat (64 * ((v4.toNat + 63) / 64)) = v4.toNat by omega] at hEY
  iapply Hk $$ %acc %X' %O' %E' %Y' [] H2 H9 H12 H13 H15 H4 H5 H6 H7 H8 H11 H14
  ipureintro; exact hEY

/-- The word a scalar load of the counts reads. -/
theorem cnt_read (cnt : Vec F S48 .i32) (off : Fin 1 → Nat) (inb : ∀ a, off a + S1.size a ≤ S48.size a) (n : Nat)
    (hn : n < 48) (ho : off = ![n]) :
    cnt ((Rect.unit (s := S48) off S1.size inb).emb (Shape.Idx.first (s := S1) (numel1_S1.symm ▸ Nat.one_pos))) = cnt (ix1 ⟨n, hn⟩) := by
  subst ho
  congr 1
  funext a
  fin_cases a
  rfl

/-- What a visit does after its first branch. -/
theorem tail_wp (cnt : Vec F S48 .i32) (lst : Vec F S12288 .i32) (wt : Vec F S2048 .f32)
    (q1 q q9 : PosShare TreeShare) (hcnt : ∀ j, (cnt j).toNat ≤ 256) (hlst : ∀ j, (lst j).toNat < 2048)
    (xs : Vec F S256x2048 .f32)
    (X : Vec F S64x2048 .f32) (O : Vec F S64x2048 .f32) (yb : Vec F S256x2048 .bf16)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt xs c13 sg su c2 s2 (i 0).val (cnt (ix1 (i 0))).toNat J)
    (E : Vec F S2048x2048 .f32) (Y : Vec F S256x2048 .f32) (h0 : J 0 E Y) (z : BitVec 32 → BitVec 32)
    (hst : (a10.access (Rect.unit (s := S256x2048) ![0, 0] S256x2048.size inb_S256x2048_S256x2048_0_0)).Stores Finset.univ) (Q : PUnit → sProp 𝕄) :
    iprop(owns c a1 q1 cnt ∗ owns c a2 q lst ∗ owns c a4 fullShare c13 ∗ owns c a5 fullShare sg ∗
      owns c a6 fullShare su ∗ owns c a7 fullShare c2 ∗ owns c a8 fullShare s2 ∗ owns c a9 q9 wt ∗ owns c a10 fullShare yb ∗
      owns c a11 fullShare E ∗ owns c a12 fullShare xs ∗ owns c a13 fullShare X ∗ owns c a14 fullShare Y ∗ owns c a15 fullShare O ∗
      (∀ X' O' E' Y', ⌜J (cnt (ix1 (i 0))).toNat E' Y'⌝ -∗
        owns c a1 q1 cnt -∗ owns c a2 q lst -∗ owns c a4 fullShare c13 -∗ owns c a5 fullShare sg -∗
        owns c a6 fullShare su -∗ owns c a7 fullShare c2 -∗ owns c a8 fullShare s2 -∗ owns c a9 q9 wt -∗
        owns c a10 fullShare (if (i 0).val = 47 then k0_pay10 Y' else yb) -∗
        owns c a11 fullShare E' -∗ owns c a12 fullShare xs -∗
        owns c a13 fullShare X' -∗ owns c a14 fullShare Y' -∗ owns c a15 fullShare O' -∗ Q ⟨⟩)) ⊢
      wp frame (wpE (defs₀ (F := F)) 𝒱₀ c none) Set.univ (do
        let v4 : Elt F .i32 ← smemLoad a1 (Rect.unit (s := S48) (k0_off1 i) S1.size (k0_off1_inb i)) numel1_S1 rfl
        have k0_hw1 : k0_chk1 i v4 := (← Prog.lift (TpuEff.assume (k0_chk1 i v4) (k0_chk1.dec i v4))).down
        let v29 : BitVec 32 ← Scf.Loop.for (k0_t1_loop v4) (k0_t1_ok i v4 k0_hw1) 0#32 (k0_t1_body i a1 w1 a2 w2 a3 w3 a4 w4 a5 w5 a6 w6 a7 w7 a8 w8 a9 w9 a10 w10 a11 w11 a12 w12 a13 w13 a14 w14 a15 w15 (BitVec.ofNat 32 (i 0).val) v4 k0_hw1)
        let v30 : BitVec 32 ← Scf.Loop.for (k0_t6_loop v4) (k0_t6_ok i v4 k0_hw1) v29 (k0_t6_body i a1 w1 a2 w2 a3 w3 a4 w4 a5 w5 a6 w6 a7 w7 a8 w8 a9 w9 a10 w10 a11 w11 a12 w12 a13 w13 a14 w14 a15 w15 (BitVec.ofNat 32 (i 0).val) v4 k0_hw1 (z v4))
        if k0_h2 : k0_cond2 i = 1#1 then do
          let v34 : Vec F S256x2048 .f32 ← Prog.lift (.load a14 (Rect.unit (s := S256x2048) ![0, 0] S256x2048.size inb_S256x2048_S256x2048_0_0).toLoadRect (View.loadsAt_vmem h_S256x2048))
          let v36 : Vec F S256x2048 .bf16 ← Prog.lift (.load a10 (Rect.unit (s := S256x2048) ![0, 0] S256x2048.size inb_S256x2048_S256x2048_0_0).toLoadRect (View.loadsAt_vmem h_S256x2048))
          Prog.lift (.store a10 (Rect.unit (s := S256x2048) ![0, 0] S256x2048.size inb_S256x2048_S256x2048_0_0) (k0_pay10 v34) Finset.univ hst (.inl rfl))
          Pure.pure (⟨⟩ : PUnit)
        else do
          Pure.pure (⟨⟩ : PUnit)) Q := by
  have hc : cnt ((Rect.unit (s := S48) (k0_off1 i) S1.size (k0_off1_inb i)).emb (Shape.Idx.first (s := S1) (numel1_S1.symm ▸ Nat.one_pos))) = cnt (ix1 (i 0)) :=
    cnt_read cnt _ (k0_off1_inb i) (i 0).val (i 0).isLt (Words.off1_eq i)
  iintro ⟨H1, H2, H4, H5, H6, H7, H8, H9, H10, H11, H12, H13, H14, H15, Hk⟩
  iapply (wp_smem_owns (Q := Q) (h1 := numel1_S1) (hp := rfl)) $$ H1; iintro H1
  rw [hc]
  generalize hv4 : cnt (ix1 (i 0)) = v4
  rw [hv4] at hJ
  have hv : v4.toNat ≤ 256 := hv4 ▸ hcnt _
  have hw := Words.chk1 i v4 hv
  iapply (wp_assume (Q := Q) 𝒱₀ c none Set.univ hw)
  iapply (chunks_wp c i a1 w1 a2 w2 a3 w3 a4 w4 a5 w5 a6 w6 a7 w7 a8 w8 a9 w9 a10 w10 a11 w11 a12 w12 a13 w13 a14 w14 a15 w15 lst wt xs q q9 hlst v4 hv hw X O c13 sg su c2 s2 J hJ E Y h0)
  isplitl [H2]; · iexact H2
  isplitl [H9]; · iexact H9
  isplitl [H12]; · iexact H12
  isplitl [H13]; · iexact H13
  isplitl [H15]; · iexact H15
  isplitl [H4]; · iexact H4
  isplitl [H5]; · iexact H5
  isplitl [H6]; · iexact H6
  isplitl [H7]; · iexact H7
  isplitl [H8]; · iexact H8
  isplitl [H11]; · iexact H11
  isplitl [H14]; · iexact H14
  iintro %acc %X' %O' %E' %Y' %hEY H2 H9 H12 H13 H15 H4 H5 H6 H7 H8 H11 H14
  rw [show Scf.Loop.for (k0_t6_loop v4) (k0_t6_ok i v4 hw) acc (k0_t6_body (F := F) i a1 w1 a2 w2 a3 w3 a4 w4 a5 w5 a6 w6 a7 w7 a8 w8 a9 w9 a10 w10 a11 w11 a12 w12 a13 w13 a14 w14 a15 w15
    (BitVec.ofNat 32 (i 0).val) v4 hw (z v4)) = .ret acc from Scf.for_rem_eq _ _ _ _ _]
  by_cases h47 : (i 0).val = 47
  · simp only [Prog.bind_ret, bind, Prog.bind]
    rw [dif_pos ((Words.cond2_iff i).2 h47)]
    iapply (wp_load_owns (Q := Q)) $$ H14; iintro H14
    iapply (wp_load_owns (Q := Q)) $$ H10; iintro H10
    iapply (wp_store_owns (Q := Q)) $$ H10; iintro H10
    simp only [Prog.pure_eq_ret]
    dsimp only [Prog.bind]; sl_step
    iapply Hk $$ %X' %O' %E' %Y' [] H1 H2 H4 H5 H6 H7 H8 H9 [H10] H11 H12 H13 H14 H15
    · ipureintro; exact hEY
    · rw [unit_whole_overlay, if_pos h47, unit_whole_read _ _ Y']
      iexact H10
  · simp only [Prog.bind_ret, bind, Prog.bind]
    rw [dif_neg (fun h => h47 ((Words.cond2_iff i).1 h))]
    simp only [Prog.pure_eq_ret]
    sl_step
    iapply Hk $$ %X' %O' %E' %Y' [] H1 H2 H4 H5 H6 H7 H8 H9 [H10] H11 H12 H13 H14 H15
    · ipureintro; exact hEY
    · rw [if_neg h47]
      iexact H10

/-- One visit of the body. -/
theorem point_wp (cnt : Vec F S48 .i32) (lst : Vec F S12288 .i32) (wt : Vec F S2048 .f32) (xin : Vec F S256x2048 .bf16)
    (q1 q q9 q3 : PosShare TreeShare) (hcnt : ∀ j, (cnt j).toNat ≤ 256) (hlst : ∀ j, (lst j).toNat < 2048)
    (xs : Vec F S256x2048 .f32)
    (X : Vec F S64x2048 .f32) (O : Vec F S64x2048 .f32) (yb : Vec F S256x2048 .bf16)
    (c13 : Vec F S1x2048x768 .i8) (sg su : Vec F S1x16x768 .bf16) (c2 : Vec F S1x768x1024 .i8) (s2 : Vec F S1x6x2048 .bf16)
    (J : Nat → Vec F S2048x2048 .f32 → Vec F S256x2048 .f32 → Prop)
    (hJ : StepOK lst wt (if (i 0).val = 0 then k0_pay1 xin else xs) c13 sg su c2 s2 (i 0).val (cnt (ix1 (i 0))).toNat J)
    (E : Vec F S2048x2048 .f32) (Y : Vec F S256x2048 .f32)
    (h0 : J 0 (if (i 0).val = 0 then k0_pay3 else E) (if (i 0).val = 0 then k0_pay2 else Y)) (Q : PUnit → sProp 𝕄) :
    iprop(owns c a1 q1 cnt ∗ owns c a2 q lst ∗ owns c a3 fullShare xin ∗ owns c a4 fullShare c13 ∗ owns c a5 fullShare sg ∗
      owns c a6 fullShare su ∗ owns c a7 fullShare c2 ∗ owns c a8 fullShare s2 ∗ owns c a9 q9 wt ∗ owns c a10 fullShare yb ∗
      owns c a11 fullShare E ∗ owns c a12 fullShare xs ∗ owns c a13 fullShare X ∗ owns c a14 fullShare Y ∗ owns c a15 fullShare O ∗
      (∀ X' O' E' Y', ⌜J (cnt (ix1 (i 0))).toNat E' Y'⌝ -∗
        owns c a1 q1 cnt -∗ owns c a2 q lst -∗ owns c a3 fullShare xin -∗ owns c a4 fullShare c13 -∗ owns c a5 fullShare sg -∗
        owns c a6 fullShare su -∗ owns c a7 fullShare c2 -∗ owns c a8 fullShare s2 -∗ owns c a9 q9 wt -∗
        owns c a10 fullShare (if (i 0).val = 47 then k0_pay10 Y' else yb) -∗
        owns c a11 fullShare E' -∗ owns c a12 fullShare (if (i 0).val = 0 then k0_pay1 xin else xs) -∗
        owns c a13 fullShare X' -∗ owns c a14 fullShare Y' -∗ owns c a15 fullShare O' -∗ Q ⟨⟩)) ⊢
      wp frame (wpE (defs₀ (F := F)) 𝒱₀ c none) Set.univ (cc0_moe_decode (F := F) i a1 w1 a2 w2 a3 w3 a4 w4 a5 w5 a6 w6 a7 w7 a8 w8 a9 w9 a10 w10 a11 w11 a12 w12 a13 w13 a14 w14 a15 w15) Q := by
  rw [cc0_moe_decode_eq_skeleton]
  unfold cc0_moe_decode_skel
  dsimp only
  iintro ⟨H1, H2, H3, H4, H5, H6, H7, H8, H9, H10, H11, H12, H13, H14, H15, Hk⟩
  by_cases hz : (i 0).val = 0
  · rw [if_pos hz] at hJ h0
    rw [if_pos hz] at h0
    simp only [if_pos hz]
    rw [dif_pos ((Words.cond1_iff (i 0).val (i 0).isLt).2 hz)]
    iapply (wp_load_owns (Q := Q)) $$ H3; iintro H3
    iapply (wp_load_owns (Q := Q)) $$ H12; iintro H12
    iapply (wp_store_owns (Q := Q)) $$ H12; iintro H12
    iapply (wp_load_owns (Q := Q)) $$ H14; iintro H14
    iapply (wp_store_owns (Q := Q)) $$ H14; iintro H14
    iapply (wp_load_owns (Q := Q)) $$ H11; iintro H11
    iapply (wp_store_owns (Q := Q)) $$ H11; iintro H11
    rw [unit_whole_overlay, unit_whole_overlay, unit_whole_overlay, unit_whole_read _ _ xin]
    iapply (tail_wp c i a1 w1 a2 w2 a3 w3 a4 w4 a5 w5 a6 w6 a7 w7 a8 w8 a9 w9 a10 w10 a11 w11 a12 w12 a13 w13 a14 w14 a15 w15 cnt lst wt q1 q q9 hcnt hlst (k0_pay1 xin) X O yb c13 sg su c2 s2 J hJ k0_pay3 k0_pay2 h0)
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro %X' %O' %E' %Y' %hEY H1 H2 H4 H5 H6 H7 H8 H9 H10 H11 H12 H13 H14 H15
    iapply Hk $$ %X' %O' %E' %Y' [] H1 H2 H3 H4 H5 H6 H7 H8 H9 H10 H11 H12 H13 H14 H15
    ipureintro; exact hEY
  · rw [if_neg hz] at hJ h0
    rw [if_neg hz] at h0
    simp only [if_neg hz]
    rw [dif_neg (fun h => hz ((Words.cond1_iff (i 0).val (i 0).isLt).1 h))]
    iapply (tail_wp c i a1 w1 a2 w2 a3 w3 a4 w4 a5 w5 a6 w6 a7 w7 a8 w8 a9 w9 a10 w10 a11 w11 a12 w12 a13 w13 a14 w14 a15 w15 cnt lst wt q1 q q9 hcnt hlst xs X O yb c13 sg su c2 s2 J hJ E Y h0)
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iintro %X' %O' %E' %Y' %hEY H1 H2 H4 H5 H6 H7 H8 H9 H10 H11 H12 H13 H14 H15
    iapply Hk $$ %X' %O' %E' %Y' [] H1 H2 H3 H4 H5 H6 H7 H8 H9 H10 H11 H12 H13 H14 H15
    ipureintro; exact hEY

end Cert.Kernel.Body
-- ==== Proof.Bits.Region.lean ====
/- The launch of the one pallas_call: what the region's data are, the body at every grid point, and what every run ends in. -/
module

public import proofs.«01_k».proof.Proof.Bits.Point
public import proofs.«01_k».proof.Proof.Gen.Kernel.Launch
public import Idealize.ShloMosaic.Lib.Pipeline.Frame
public import Idealize.ShloMosaic.Lib.Pipeline.FrameBody
public import Idealize.ShloMosaic.Lib.Pipeline.ArrRel
public import Idealize.ShloMosaic.Lib.StableHlo.RunRead

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Blk Cert.Mem

variable {F : FTy → Type} [FloatOps F]

local notation "𝕄" => MT nD τ sig Unit (Elt F) ℕ (UR sig nD τ) ℕ

/-- Slot `s`'s block of the stacked gate and up codes, -/
def b1 (A : Vec F S48x2048x768 .i8) (s : Fin 48) : Vec F S1x2048x768 .i8 := fun j => A (ix3 s (j 1) (j 2))
/-- of a stack of their scales, -/
def b2 (A : Vec F S48x16x768 .bf16) (s : Fin 48) : Vec F S1x16x768 .bf16 := fun j => A (ix3 s (j 1) (j 2))
/-- of the stacked down codes, -/
def b4 (A : Vec F S48x768x1024 .i8) (s : Fin 48) : Vec F S1x768x1024 .i8 := fun j => A (ix3 s (j 1) (j 2))
/-- and of their scales. -/
def b5 (A : Vec F S48x6x2048 .bf16) (s : Fin 48) : Vec F S1x6x2048 .bf16 := fun j => A (ix3 s (j 1) (j 2))

/-- How many pairs slot `s` serves. -/
def nOf (cnt : Vec F S48 .i32) (s : Fin 48) : Nat := (cnt (ix1 s)).toNat

/-- The tables are in range, and `JE s n E` (of the result array) and `JY s n Y` (of the accumulator) hold before the first pair, are kept
    by the handling of every pair, and pass from one slot to the next. -/
structure Kept (cnt : Vec F S48 .i32) (lst : Vec F S12288 .i32) (x : Vec F S256x2048 .bf16) (A1 : Vec F S48x2048x768 .i8)
    (A2 A3 : Vec F S48x16x768 .bf16) (A4 : Vec F S48x768x1024 .i8) (A5 : Vec F S48x6x2048 .bf16) (wt : Vec F S2048 .f32)
    (JE : Nat → Nat → Vec F S2048x2048 .f32 → Prop) (JY : Nat → Nat → Vec F S256x2048 .f32 → Prop) : Prop where
  cnt_le : ∀ j, (cnt j).toNat ≤ 256
  lst_lt : ∀ j, (lst j).toNat < 2048
  e0 : JE 0 0 k0_pay3
  y0 : JY 0 0 k0_pay2
  step : ∀ s : Fin 48, StepOK lst wt (k0_pay1 x) (b1 A1 s) (b2 A2 s) (b2 A3 s) (b4 A4 s) (b5 A5 s) s.val (nOf cnt s)
    (fun n E Y => JE s.val n E ∧ JY s.val n Y)
  eS : ∀ s : Fin 48, s.val < 47 → ∀ E, JE s.val (nOf cnt s) E → JE (s.val + 1) 0 E
  yS : ∀ s : Fin 48, s.val < 47 → ∀ Y, JY s.val (nOf cnt s) Y → JY (s.val + 1) 0 Y

section Region

variable (V : (c : Dev nD) → (b : Ref sig .tc) → Buf (Elt F) ((c.tc : Thread nD τ).loc b))

/-- The tables the region is entered with. -/
def tabs : (pcfg0 (F := F)).Adm := ⟨fun k => V 0 (pre0.ref k), trivial⟩

/-- The same, for every call of the program. -/
abbrev tabsA : (p : Fin 1) → (pcfgs (F := F) p).Adm := fun _ => tabs V

/-- The region's configuration at those tables. -/
abbrev cfgV : Pipeline.Cfg sig Λ₀ := Pipeline.pin (pcfgs (F := F)) (tabsA V) 0

variable (JE : Nat → Nat → Vec F S2048x2048 .f32 → Prop) (JY : Nat → Nat → Vec F S256x2048 .f32 → Prop)

/-- The counts on device `c`, -/
abbrev cntV (c : Dev nD) : Vec F S48 .i32 := V c main_v37
/-- and its tokens. -/
abbrev xV (c : Dev nD) : Vec F S256x2048 .bf16 := V c main_v59

/-- What the body may leave in each staging buffer: an input as it was found; the accumulator narrowed, at the last point; and a
    result array that `JE` holds of. -/
def left (c : Dev nD) : (w : Fin (cfgV V).W) → Fin (cfgV V).N →
    (Y X : ((cfgV V).win w).block.Idx → Elt F ((cfgV V).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t _ X => t.val = 47 → ∃ Y' : Vec F S256x2048 .f32, JY 47 (nOf (cntV V c) 47) Y' ∧ X = k0_pay10 Y'
  | 8 => fun t _ X => ∀ s : Fin 48, s.val = t.val → JE s.val (nOf (cntV V c) s) X
  | ⟨_ + 9, h⟩ => absurd h (Nat.not_lt.2 (Nat.le_add_left _ _))

/-- The scratch buffers before point `t`: after the first point, the widened tokens and an accumulator that `JY` holds of. -/
def scr (c : Dev nD) (t : Nat) : sProp 𝕄 :=
  iprop(∃ (xs : Vec F S256x2048 .f32) (X : Vec F S64x2048 .f32) (Y : Vec F S256x2048 .f32) (O : Vec F S64x2048 .f32),
    ⌜(t ≠ 0 → xs = k0_pay1 (xV V c)) ∧ ∀ s : Fin 48, s.val + 1 = t → JY s.val (nOf (cntV V c) s) Y⌝ ∗
    owns c (Memref.whole cc0_scratch0) fullShare xs ∗ owns c (Memref.whole cc0_scratch1) fullShare X ∗
    owns c (Memref.whole cc0_scratch2) fullShare Y ∗ owns c (Memref.whole cc0_scratch3) fullShare O)

/-- The region's data. -/
def rdat (c : Dev nD) : Pipeline.RDat τ (Elt F) Unit ℕ (UR sig nD τ) ℕ (cfgV V) c where
  A w := V c (Pipeline.arrRef (cfgV V).spec w)
  after := left V JE JY c
  Φ t := iprop(scr V JY c t.val ∗ (∃ r, prngReg c r) ∗ Pipeline.ΦT pre0 (tabs V).1 c)
  q _ := fullShare
  owed _ := 0

/-- No window is cut. -/
theorem clipV (w : Fin (cfgV V).W) (i : (cfgV V).grid.Coords) (a : Fin ((cfgV V).win w).shape.rank) :
    ((cfgV V).win w).clip i a = none := rfl

/-- An uncut fetch puts the array's block in the buffer, at an index. -/
theorem fetched_at (c : Dev nD) (w : Fin (cfgV V).W) (t : Fin (cfgV V).N) (d) (j : ((cfgV V).win w).block.Idx) :
    (rdat V JE JY c).fetched w t d j
      = (((cfgV V).win w).blk t).view.read (Elt F) ((rdat V JE JY c).A w) (fun a => ⟨(j a).val, (j a).isLt⟩) := by
  have hm : ((cfgV V).win w).moved ((cfgV V).grid.coords t) j = true :=
    (((cfgV V).win w).moved_iff _ j).mpr fun a => (j a).isLt
  unfold Pipeline.RDat.fetched Pipeline.Window.fill
  rw [dif_pos hm]
  rfl

/-- What an input window's buffer holds at every point. -/
theorem finds_at (c : Dev nD) (w : Fin (cfgV V).W) (hw : ((cfgV V).win w).isOut = false)
    (hkeep : ∀ t Y X, (rdat V JE JY c).after w t Y X → X = Y) (t : Fin (cfgV V).N) (Y)
    (h : (rdat V JE JY c).Finds w t Y) (j : ((cfgV V).win w).block.Idx) :
    Y j = (((cfgV V).win w).blk t).view.read (Elt F) ((rdat V JE JY c).A w) (fun a => ⟨(j a).val, (j a).isLt⟩) := by
  obtain ⟨d, rfl⟩ := Pipeline.RDat.finds_in_eq_fetched (rdat V JE JY c) w hw (fun _ _ _ => rfl) hkeep t Y h
  exact fetched_at V JE JY c w t d j

/-- The grid's one coordinate is the point. -/
theorem coords_val : ∀ t : Fin grid0.N, (grid0.coords t 0).val = t.val := by decide +kernel

theorem finds0 (c : Dev nD) (t : Fin (cfgV V).N) (Y : Vec F S256x2048 .bf16) (h : (rdat V JE JY c).Finds 0 t Y) : Y = xV V c := by
  funext (j : S256x2048.Idx)
  refine (finds_at V JE JY c 0 rfl (fun _ _ _ h => h) t Y h j).trans ?_
  show V c main_v59 _ = V c main_v59 _
  congr 1
  funext a; apply Fin.ext
  fin_cases a
  · show 0 * 256 + 1 * (j 0).val = (j 0).val; omega
  · show 0 * 2048 + 1 * (j 1).val = (j 1).val; omega

theorem finds6 (c : Dev nD) (t : Fin (cfgV V).N) (Y : Vec F S2048 .f32) (h : (rdat V JE JY c).Finds 6 t Y) : Y = (V c main_v60 : Vec F S2048 .f32) := by
  funext (j : S2048.Idx)
  refine (finds_at V JE JY c 6 rfl (fun _ _ _ h => h) t Y h j).trans ?_
  show V c main_v60 _ = V c main_v60 _
  congr 1
  funext a; apply Fin.ext
  fin_cases a
  show 0 * 2048 + 1 * (j 0).val = (j 0).val; omega

theorem finds1 (c : Dev nD) (t : Fin (cfgV V).N) (Y : Vec F S1x2048x768 .i8) (h : (rdat V JE JY c).Finds 1 t Y) :
    Y = b1 (V c main_arg4) (grid0.coords t 0) := by
  funext (j : S1x2048x768.Idx)
  refine (finds_at V JE JY c 1 rfl (fun _ _ _ h => h) t Y h j).trans ?_
  show V c main_arg4 _ = V c main_arg4 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 2048 + 1 * (j 1).val = (j 1).val; omega
  · show 0 * 768 + 1 * (j 2).val = (j 2).val; omega

theorem finds2 (c : Dev nD) (t : Fin (cfgV V).N) (Y : Vec F S1x16x768 .bf16) (h : (rdat V JE JY c).Finds 2 t Y) :
    Y = b2 (V c main_arg5) (grid0.coords t 0) := by
  funext (j : S1x16x768.Idx)
  refine (finds_at V JE JY c 2 rfl (fun _ _ _ h => h) t Y h j).trans ?_
  show V c main_arg5 _ = V c main_arg5 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 16 + 1 * (j 1).val = (j 1).val; omega
  · show 0 * 768 + 1 * (j 2).val = (j 2).val; omega

theorem finds3 (c : Dev nD) (t : Fin (cfgV V).N) (Y : Vec F S1x16x768 .bf16) (h : (rdat V JE JY c).Finds 3 t Y) :
    Y = b2 (V c main_arg6) (grid0.coords t 0) := by
  funext (j : S1x16x768.Idx)
  refine (finds_at V JE JY c 3 rfl (fun _ _ _ h => h) t Y h j).trans ?_
  show V c main_arg6 _ = V c main_arg6 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 16 + 1 * (j 1).val = (j 1).val; omega
  · show 0 * 768 + 1 * (j 2).val = (j 2).val; omega

theorem finds4 (c : Dev nD) (t : Fin (cfgV V).N) (Y : Vec F S1x768x1024 .i8) (h : (rdat V JE JY c).Finds 4 t Y) :
    Y = b4 (V c main_arg7) (grid0.coords t 0) := by
  funext (j : S1x768x1024.Idx)
  refine (finds_at V JE JY c 4 rfl (fun _ _ _ h => h) t Y h j).trans ?_
  show V c main_arg7 _ = V c main_arg7 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 768 + 1 * (j 1).val = (j 1).val; omega
  · show 0 * 1024 + 1 * (j 2).val = (j 2).val; omega

theorem finds5 (c : Dev nD) (t : Fin (cfgV V).N) (Y : Vec F S1x6x2048 .bf16) (h : (rdat V JE JY c).Finds 5 t Y) :
    Y = b5 (V c main_arg8) (grid0.coords t 0) := by
  funext (j : S1x6x2048.Idx)
  refine (finds_at V JE JY c 5 rfl (fun _ _ _ h => h) t Y h j).trans ?_
  show V c main_arg8 _ = V c main_arg8 _
  congr 1
  have hj : (j 0).val = 0 := Nat.lt_one_iff.mp (j 0).isLt
  have hs : (grid0.coords t 0).val < 48 := (grid0.coords t 0).isLt
  funext a; apply Fin.ext
  fin_cases a
  · show (BitVec.ofNat 32 (grid0.coords t 0).val).toNat * 1 + 1 * (j 0).val = (grid0.coords t 0).val
    rw [BitVec.toNat_ofNat, Nat.mod_eq_of_lt (by omega)]; omega
  · show 0 * 6 + 1 * (j 1).val = (j 1).val; omega
  · show 0 * 2048 + 1 * (j 2).val = (j 2).val; omega

/-- The result array's window is never fetched, -/
theorem fetch8 : ∀ t : Fin (cfgV V).N, ((cfgV V).win 8).fetch t = false := fun _ => rfl

/-- is written back at the last point alone, -/
theorem whole8 : ((cfgV V).win 8).WholeAt (⟨47, by decide⟩ : Fin grid0.N) := by
  have h : ∀ t : Fin grid0.N, Iff ((spec0 8).flushAt cc0_transform_8 t = true) (t.val = 47) := by decide +kernel
  refine ⟨(h ⟨47, by decide⟩).2 rfl, fun t ht => Fin.ext ((h t).1 ht), fun a => ?_⟩
  fin_cases a <;> exact ⟨rfl, rfl⟩

theorem whole7 : ((cfgV V).win 7).WholeAt (⟨47, by decide⟩ : Fin grid0.N) := by
  have h : ∀ t : Fin grid0.N, Iff ((spec0 7).flushAt cc0_transform_7 t = true) (t.val = 47) := by decide +kernel
  refine ⟨(h ⟨47, by decide⟩).2 rfl, fun t ht => Fin.ext ((h t).1 ht), fun a => ?_⟩
  fin_cases a <;> exact ⟨rfl, rfl⟩

/-- The accumulator and the result array at the point's start. -/
theorem finds8 (c : Dev nD) (t : Fin (cfgV V).N) (E : Vec F S2048x2048 .f32) (h : (rdat V JE JY c).Finds 8 t E)
    (s : Fin 48) (hs : s.val + 1 = t.val) : JE s.val (nOf (cntV V c) s) E := by
  have ht : t.val ≠ 0 := by omega
  have htl : t.val < 48 := t.isLt
  rcases ((rdat V JE JY c).finds_of_pos (fetch8 V t) ht E).mp h with hf | ⟨Y, _, hX⟩
  · have := congrArg Fin.val ((whole8 V).2.1 _ hf)
    have h47 : t.val - 1 = 47 := this
    omega
  · exact hX s (by show s.val = t.val - 1; omega)

/-- The two tables held. -/
theorem tabs_eq (c : Dev nD) (q : PosShare TreeShare) (v : pre0.Contents (Elt F)) :
    (Pipeline.prefHeld (Ix := Unit) (Name := ℕ) (U := UR sig nD τ) (Lvl := ℕ) pre0 c (fun _ => q) v : sProp 𝕄)
      = iprop(((c : Thread nD τ).loc main_v37 ↦{q} v 0) ∗ ((c : Thread nD τ).loc main_v58 ↦{q} v 1)) :=
  bigSep_univ_eq_bigSepL [(0 : Fin 2), (1 : Fin 2)] (by decide) (by decide) _

/-- The body table's row at the point. -/
theorem row (t : Fin (cfgV V).N) : defs₀ (F := F) .tc (cfgV V).body ((cfgV V).bodyArgs t ((cfgV V).slots t))
    = cc0_moe_decode (F := F) (grid0.coords t) (Memref.whole main_v37) (Memref.isWhole_whole _) (Memref.whole main_v58) (Memref.isWhole_whole _)
      (spec0_0.stage ((cfgV V).slots t 0)) (hstage0_0 (((cfgV V).slots t 0).cast nbuf0_0))
      (spec0_1.stage ((cfgV V).slots t 1)) (hstage0_1 (((cfgV V).slots t 1).cast nbuf0_1))
      (spec0_2.stage ((cfgV V).slots t 2)) (hstage0_2 (((cfgV V).slots t 2).cast nbuf0_2))
      (spec0_3.stage ((cfgV V).slots t 3)) (hstage0_3 (((cfgV V).slots t 3).cast nbuf0_3))
      (spec0_4.stage ((cfgV V).slots t 4)) (hstage0_4 (((cfgV V).slots t 4).cast nbuf0_4))
      (spec0_5.stage ((cfgV V).slots t 5)) (hstage0_5 (((cfgV V).slots t 5).cast nbuf0_5))
      (spec0_6.stage ((cfgV V).slots t 6)) (hstage0_6 (((cfgV V).slots t 6).cast nbuf0_6))
      (spec0_7.stage ((cfgV V).slots t 7)) (hstage0_7 (((cfgV V).slots t 7).cast nbuf0_7))
      (spec0_8.stage ((cfgV V).slots t 8)) (hstage0_8 (((cfgV V).slots t 8).cast nbuf0_8))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) := by
  unfold defs₀; rw [Defs.onTc_tc]

/-- What the region needs of the contents it is entered with. -/
abbrev KeptV (c : Dev nD) : Prop :=
  Kept (cntV V c) (V c main_v58) (xV V c) (V c main_arg4) (V c main_arg5) (V c main_arg6) (V c main_arg7) (V c main_arg8) (V c main_v60) JE JY

theorem body_obligation (c : Dev nD) (H : KeptV V JE JY c) :
    (rdat V JE JY c).BodyObligation (defs₀ (F := F)) 𝒱₀ () Set.univ := by
  intro t Y hY
  obtain rfl : c = 0 := Subsingleton.elim _ _
  have hct : (grid0.coords t 0).val = t.val := coords_val t
  have htl : t.val < 48 := t.isLt
  have e0 := finds0 V JE JY 0 t (Y 0) (hY 0)
  have e1 := finds1 V JE JY 0 t (Y 1) (hY 1)
  have e2 := finds2 V JE JY 0 t (Y 2) (hY 2)
  have e3 := finds3 V JE JY 0 t (Y 3) (hY 3)
  have e4 := finds4 V JE JY 0 t (Y 4) (hY 4)
  have e5 := finds5 V JE JY 0 t (Y 5) (hY 5)
  have e6 := finds6 V JE JY 0 t (Y 6) (hY 6)
  have e8 := finds8 V JE JY 0 t (Y 8) (hY 8)
  rw [bigSep_W0, bigSep_W0, row]
  show iprop((scr V JY 0 t.val ∗ (∃ r, prngReg 0 r) ∗ Pipeline.prefHeld (Ix := Unit) (Name := ℕ) (U := UR sig nD τ) (Lvl := ℕ) pre0 0 (fun _ => fullShare.right) (tabs V).1) ∗ _ ∗ _) ⊢ _
  rw [tabs_eq]
  iintro ⟨⟨Hs, Hg, HT1, HT2⟩, HO, H0, H1, H2, H3, H4, H5, H6, H7, H8⟩
  unfold scr
  icases Hs with ⟨%xs, %X, %Yc, %O, %hs, S0, S1, S2, S3⟩
  iapply (point_wp 0 (grid0.coords t) (Memref.whole main_v37) (Memref.isWhole_whole _) (Memref.whole main_v58) (Memref.isWhole_whole _)
      (spec0_0.stage ((cfgV V).slots t 0)) (hstage0_0 (((cfgV V).slots t 0).cast nbuf0_0))
      (spec0_1.stage ((cfgV V).slots t 1)) (hstage0_1 (((cfgV V).slots t 1).cast nbuf0_1))
      (spec0_2.stage ((cfgV V).slots t 2)) (hstage0_2 (((cfgV V).slots t 2).cast nbuf0_2))
      (spec0_3.stage ((cfgV V).slots t 3)) (hstage0_3 (((cfgV V).slots t 3).cast nbuf0_3))
      (spec0_4.stage ((cfgV V).slots t 4)) (hstage0_4 (((cfgV V).slots t 4).cast nbuf0_4))
      (spec0_5.stage ((cfgV V).slots t 5)) (hstage0_5 (((cfgV V).slots t 5).cast nbuf0_5))
      (spec0_6.stage ((cfgV V).slots t 6)) (hstage0_6 (((cfgV V).slots t 6).cast nbuf0_6))
      (spec0_7.stage ((cfgV V).slots t 7)) (hstage0_7 (((cfgV V).slots t 7).cast nbuf0_7))
      (spec0_8.stage ((cfgV V).slots t 8)) (hstage0_8 (((cfgV V).slots t 8).cast nbuf0_8))
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (cntV V 0) (V 0 main_v58) (V 0 main_v60) (xV V 0) fullShare.right fullShare.right fullShare fullShare
      H.cnt_le H.lst_lt xs X O (Y 7) (b1 (V 0 main_arg4) (grid0.coords t 0)) (b2 (V 0 main_arg5) (grid0.coords t 0))
      (b2 (V 0 main_arg6) (grid0.coords t 0)) (b4 (V 0 main_arg7) (grid0.coords t 0)) (b5 (V 0 main_arg8) (grid0.coords t 0))
      (fun n E Y => JE (grid0.coords t 0).val n E ∧ JY (grid0.coords t 0).val n Y) ?_ (Y 8) Yc ?_ _)
  rotate_left 2
  · isplitl [HT1]; · rw [owns_whole]; iexact HT1
    isplitl [HT2]; · rw [owns_whole]; iexact HT2
    isplitl [H0]; · rw [← e0]; iexact H0
    isplitl [H1]; · rw [← e1]; iexact H1
    isplitl [H2]; · rw [← e2]; iexact H2
    isplitl [H3]; · rw [← e3]; iexact H3
    isplitl [H4]; · rw [← e4]; iexact H4
    isplitl [H5]; · rw [← e5]; iexact H5
    isplitl [H6]; · rw [← e6]; iexact H6
    isplitl [H7]; · iexact H7
    isplitl [H8]; · iexact H8
    isplitl [S0]; · iexact S0
    isplitl [S1]; · iexact S1
    isplitl [S2]; · iexact S2
    isplitl [S3]; · iexact S3
    iintro %X' %O' %E' %Y' %hEY HT1 HT2 H0 H1 H2 H3 H4 H5 H6 H7 H8 S0 S1 S2 S3
    rw [← e0, ← e1, ← e2, ← e3, ← e4, ← e5, ← e6]
    rw [show (rdat V JE JY 0).Φ t.succ = iprop(scr V JY 0 (t.val + 1) ∗ (∃ r, prngReg 0 r) ∗ Pipeline.prefHeld (Ix := Unit) (Name := ℕ) (U := UR sig nD τ) (Lvl := ℕ) pre0 0 (fun _ => fullShare.right) (tabs V).1) from rfl, tabs_eq]
    isplitl [S0 S1 S2 S3 Hg HT1 HT2]
    · isplitl [S0 S1 S2 S3]
      · unfold scr
        iexists _, _, _, _
        isplitr
        swap
        · isplitl [S0]; · iexact S0
          isplitl [S1]; · iexact S1
          isplitl [S2]; · iexact S2
          iexact S3
        ipureintro
        refine ⟨fun _ => ?_, fun s hs' => ?_⟩
        · split
          · rw [e0]
          · next hz => exact hs.1 (hct ▸ hz)
        · obtain rfl : s = grid0.coords t 0 := Fin.ext (by rw [hct]; have h' : s.val + 1 = t.val + 1 := hs'; omega)
          exact hEY.2
      · isplitl [Hg]; · iexact Hg
        isplitl [HT1]
        · rw [owns_whole]; exact Entails.refl _
        · rw [owns_whole]; exact Entails.refl _
    isplitl [HO]; · iexact HO
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact rfl
    isplitl [H3]
    · iexists _; isplitr
      swap; · iexact H3
      ipureintro; exact rfl
    isplitl [H4]
    · iexists _; isplitr
      swap; · iexact H4
      ipureintro; exact rfl
    isplitl [H5]
    · iexists _; isplitr
      swap; · iexact H5
      ipureintro; exact rfl
    isplitl [H6]
    · iexists _; isplitr
      swap; · iexact H6
      ipureintro; exact rfl
    isplitl [H7]
    · iexists _; isplitr
      swap; · iexact H7
      ipureintro
      intro h47
      refine ⟨Y', ?_, if_pos (hct.trans h47)⟩
      have h := hEY.2
      have e : grid0.coords t 0 = (47 : Fin 48) := Fin.ext (hct.trans h47)
      rw [e] at h; exact h
    · iexists _; isplitr
      swap; · iexact H8
      ipureintro
      intro s hs'
      obtain rfl : s = grid0.coords t 0 := Fin.ext (hs'.trans hct.symm)
      exact hEY.1
  · have := H.step (grid0.coords t 0)
    split
    · exact this
    · next hz => rw [hs.1 (hct ▸ hz)]; exact this
  · rw [hct]
    by_cases hz : t.val = 0
    · exact ⟨Eq.mpr (congrArg (JE t.val 0) (if_pos hz)) (by rw [hz]; exact H.e0),
        Eq.mpr (congrArg (JY t.val 0) (if_pos hz)) (by rw [hz]; exact H.y0)⟩
    · have hp : ((⟨t.val - 1, by omega⟩ : Fin 48).val) + 1 = t.val := by show t.val - 1 + 1 = t.val; omega
      have hl : (⟨t.val - 1, by omega⟩ : Fin 48).val < 47 := by show t.val - 1 < 47; omega
      have hE := H.eS ⟨t.val - 1, by omega⟩ hl _ (e8 _ hp)
      have hYc := H.yS ⟨t.val - 1, by omega⟩ hl _ (hs.2 _ hp)
      rw [hp] at hE hYc
      exact ⟨Eq.mpr (congrArg (JE t.val 0) (if_neg hz)) hE, Eq.mpr (congrArg (JY t.val 0) (if_neg hz)) hYc⟩

/-- The class's invariant and the tables give the data's before the first point, -/
theorem inv_in (c : Dev nD) :
    iprop(Pipeline.ΦA (cfgV V).spec c ∗ Pipeline.ΦT pre0 (tabs V).1 c) ⊢ (rdat V JE JY c).Φ 0 := by
  show iprop(Pipeline.ΦA spec0 c ∗ _) ⊢ iprop(scr V JY c 0 ∗ (∃ r, prngReg c r) ∗ _)
  unfold Pipeline.ΦA scr
  rw [scopedRest0_eq]
  iintro ⟨⟨⟨⟨%f0, H0⟩, ⟨%f1, H1⟩, ⟨%f2, H2⟩, ⟨%f3, H3⟩⟩, Hg⟩, HT⟩
  isplitl [H0 H1 H2 H3]
  · iexists f0, f1, f2, f3
    isplitr
    · ipureintro; exact ⟨fun h => absurd rfl h, fun s h => absurd h (by omega)⟩
    isplitl [H0]; · rw [owns_whole]; iexact H0
    isplitl [H1]; · rw [owns_whole]; iexact H1
    isplitl [H2]; · rw [owns_whole]; iexact H2
    rw [owns_whole]; iexact H3
  isplitl [Hg]; · iexact Hg
  iexact HT

/-- and the data's after the last point gives the class's back. -/
theorem inv_out (c : Dev nD) : (rdat V JE JY c).Φ (Fin.last (cfgV V).N) ⊢ Pipeline.ΦA (cfgV V).spec c := by
  show iprop(scr V JY c (cfgV V).N ∗ (∃ r, prngReg c r) ∗ _) ⊢ Pipeline.ΦA spec0 c
  unfold Pipeline.ΦA scr
  rw [scopedRest0_eq]
  simp only [owns_whole]
  iintro ⟨⟨%xs, %X, %Y, %O, -, H0, H1, H2, H3⟩, Hg, -⟩
  isplitl [H0 H1 H2 H3]
  · isplitl [H0]; · iexists xs; iexact H0
    isplitl [H1]; · iexists X; iexact H1
    isplitl [H2]; · iexists Y; iexact H2
    iexists O; iexact H3
  iexact Hg

end Region

/-! ## The run of the program -/

/-- The host's stretches before the call. -/
abbrev opss : List (List (HloOp τ sig (Elt F))) := [hostOps0, hostOps0_1, hostOps0_2, hostOps0_3, hostOps0_4, hostOps0_5, hostOps0_6]

/-- None of them takes a buffer of its own. -/
theorem opss_fresh : (opss (F := F)).Forall fun ops => ops.Forall fun op => op.fresh = ∅ := by
  repeat' (first | exact rfl | apply And.intro)

variable (m : (ℓ : Loc nD τ sig) → Buf (Elt F) ℓ)

/-- What the region is entered with, the host's operations run from `m`. -/
def entry (c : Dev nD) (b : Ref sig .tc) : Buf (Elt F) ((c.tc : Thread nD τ).loc b) :=
  StableHlo.after (opss (F := F)).flatten (fun b => m (c, b)) b

variable (JE : Nat → Nat → Vec F S2048x2048 .f32 → Prop) (JY : Nat → Nat → Vec F S256x2048 .f32 → Prop)

/-- Every run from `m` ends in the region's post. -/
theorem run_post (g : Dev nD → PrngReg) (H : ∀ c, KeptV (entry m) JE JY c) :
    θ_run defs (onTc (τ := τ) (main (F := F))) (s₀ m g)
      (fun r => Pipeline.RDat.FramePost (cfgV (entry m)) (rdat (entry m) JE JY) (entry m) r ∧ r.2.sem = fun _ => 0) :=
  Pipeline.RDat.θ_run_frameP_track (pcfgs (F := F)) (tabsA (entry m)) 0 launch0 defs₀ 𝒱₀ (rdat (entry m) JE JY) m g main
    (hbody := fun c => body_obligation (entry m) JE JY c (H c))
    (hshare := fun c w => by
      unfold Pipeline.RDat.share; split <;> rfl)
    (howed := fun _ _ => rfl) (V := entry m)
    (hmain := Pipeline.hmainP_prefixes pcfgs 0 defs₀ 𝒱₀ m main opss
      ⟨hostOps0_sub, hostOps0_1_sub, hostOps0_2_sub, hostOps0_3_sub, hostOps0_4_sub, hostOps0_5_sub, hostOps0_6_sub⟩
      opss_fresh fun c => main_chain c)
    (hA := fun _ _ => rfl)
    (hpf := fun c k => by obtain rfl : c = 0 := Subsingleton.elim _ _; rfl)
    (hin := fun c => inv_in (entry m) JE JY c) (hout := fun c => inv_out (entry m) JE JY c)
    (Q' := _) (hQ' := fun _ h => h)

/-- What a run leaves: results that `JE` and `JY` hold of, the third result as the host computed it, the arguments as they were. -/
structure Final (r : PUnit × MemSt nD τ sig (Elt F)) (c : Dev nD) : Prop where
  outE : JE 47 (nOf (cntV (entry m) c) 47) (r.2.mem ((c.tc : Thread nD τ).loc main_v61_1))
  outY : ∃ Y, JY 47 (nOf (cntV (entry m) c) 47) Y ∧ r.2.mem ((c.tc : Thread nD τ).loc main_v61_0) = k0_pay10 Y
  out15 : r.2.mem ((c.tc : Thread nD τ).loc main_v15) = entry m c main_v15
  arg0 : r.2.mem ((c.tc : Thread nD τ).loc main_arg0) = m ((c.tc : Thread nD τ).loc main_arg0)
  arg1 : r.2.mem ((c.tc : Thread nD τ).loc main_arg1) = m ((c.tc : Thread nD τ).loc main_arg1)
  arg2 : r.2.mem ((c.tc : Thread nD τ).loc main_arg2) = m ((c.tc : Thread nD τ).loc main_arg2)
  arg3 : r.2.mem ((c.tc : Thread nD τ).loc main_arg3) = m ((c.tc : Thread nD τ).loc main_arg3)
  arg4 : r.2.mem ((c.tc : Thread nD τ).loc main_arg4) = m ((c.tc : Thread nD τ).loc main_arg4)
  arg5 : r.2.mem ((c.tc : Thread nD τ).loc main_arg5) = m ((c.tc : Thread nD τ).loc main_arg5)
  arg6 : r.2.mem ((c.tc : Thread nD τ).loc main_arg6) = m ((c.tc : Thread nD τ).loc main_arg6)
  arg7 : r.2.mem ((c.tc : Thread nD τ).loc main_arg7) = m ((c.tc : Thread nD τ).loc main_arg7)
  arg8 : r.2.mem ((c.tc : Thread nD τ).loc main_arg8) = m ((c.tc : Thread nD τ).loc main_arg8)

/-- An argument is entered with as it was at the start. -/
theorem entry_arg0 (c : Dev nD) : entry m c main_arg0 = m ((c.tc : Thread nD τ).loc main_arg0) := by
  unfold entry; after_reads_simp
theorem entry_arg1 (c : Dev nD) : entry m c main_arg1 = m ((c.tc : Thread nD τ).loc main_arg1) := by
  unfold entry; after_reads_simp
theorem entry_arg2 (c : Dev nD) : entry m c main_arg2 = m ((c.tc : Thread nD τ).loc main_arg2) := by
  unfold entry; after_reads_simp
theorem entry_arg3 (c : Dev nD) : entry m c main_arg3 = m ((c.tc : Thread nD τ).loc main_arg3) := by
  unfold entry; after_reads_simp
theorem entry_arg4 (c : Dev nD) : entry m c main_arg4 = m ((c.tc : Thread nD τ).loc main_arg4) := by
  unfold entry; after_reads_simp
theorem entry_arg5 (c : Dev nD) : entry m c main_arg5 = m ((c.tc : Thread nD τ).loc main_arg5) := by
  unfold entry; after_reads_simp
theorem entry_arg6 (c : Dev nD) : entry m c main_arg6 = m ((c.tc : Thread nD τ).loc main_arg6) := by
  unfold entry; after_reads_simp
theorem entry_arg7 (c : Dev nD) : entry m c main_arg7 = m ((c.tc : Thread nD τ).loc main_arg7) := by
  unfold entry; after_reads_simp
theorem entry_arg8 (c : Dev nD) : entry m c main_arg8 = m ((c.tc : Thread nD τ).loc main_arg8) := by
  unfold entry; after_reads_simp

/-- What the region's post says of the per-pair result, -/
theorem post_outE {r : PUnit × MemSt nD τ sig (Elt F)} (c : Dev nD)
    (h : Pipeline.RDat.FramePost (cfgV (entry m)) (rdat (entry m) JE JY) (entry m) r) :
    JE 47 (nOf (cntV (entry m) c) 47) (r.2.mem ((c.tc : Thread nD τ).loc main_v61_1)) := by
  obtain ⟨X, ⟨Y0, _, hX⟩, hG⟩ := Pipeline.RDat.ArrAt.emb_eq_of_wholeAt ((h c).1 8) (whole8 (entry m))
  have e : r.2.mem ((c.tc : Thread nD τ).loc main_v61_1) = X := funext fun j => hG j
  rw [e]
  exact hX 47 rfl

/-- of the output, -/
theorem post_outY {r : PUnit × MemSt nD τ sig (Elt F)} (c : Dev nD)
    (h : Pipeline.RDat.FramePost (cfgV (entry m)) (rdat (entry m) JE JY) (entry m) r) :
    ∃ Y, JY 47 (nOf (cntV (entry m) c) 47) Y ∧ r.2.mem ((c.tc : Thread nD τ).loc main_v61_0) = k0_pay10 Y := by
  obtain ⟨X, ⟨Y0, _, hX⟩, hG⟩ := Pipeline.RDat.ArrAt.emb_eq_of_wholeAt ((h c).1 7) (whole7 (entry m))
  have e : r.2.mem ((c.tc : Thread nD τ).loc main_v61_0) = X := funext fun j => hG j
  rw [e]
  exact hX rfl

/-- of a buffer that is no window's, -/
theorem post_rest {r : PUnit × MemSt nD τ sig (Elt F)} (c : Dev nD)
    (h : Pipeline.RDat.FramePost (cfgV (entry m)) (rdat (entry m) JE JY) (entry m) r) (b : Ref sig .tc) (hs : b.isScoped = false)
    (ha : ∀ w, (spec0 w).arr.view.ref ≠ b) : r.2.mem ((c.tc : Thread nD τ).loc b) = entry m c b :=
  (h c).2 b (Pipeline.mem_restRefs_of b hs ha)

/-- and of an input window's array. -/
theorem post_in {r : PUnit × MemSt nD τ sig (Elt F)} (c : Dev nD)
    (h : Pipeline.RDat.FramePost (cfgV (entry m)) (rdat (entry m) JE JY) (entry m) r) (w : Fin 9) (hw : (spec0 w).isOut = false) :
    r.2.mem ((spec0 w).arr.view.loc (c.tc : Thread nD τ)) = entry m c (Pipeline.arrRef spec0 w) :=
  h.arr_in c w hw

theorem final_of_post {r : PUnit × MemSt nD τ sig (Elt F)} (c : Dev nD)
    (h : Pipeline.RDat.FramePost (cfgV (entry m)) (rdat (entry m) JE JY) (entry m) r) : Final m JE JY r c where
  outE := post_outE m JE JY c h
  outY := post_outY m JE JY c h
  out15 := post_rest m JE JY c h main_v15 rfl (by decide)
  arg0 := (post_rest m JE JY c h main_arg0 rfl (by decide)).trans (entry_arg0 m c)
  arg1 := (post_rest m JE JY c h main_arg1 rfl (by decide)).trans (entry_arg1 m c)
  arg2 := (post_rest m JE JY c h main_arg2 rfl (by decide)).trans (entry_arg2 m c)
  arg3 := (post_rest m JE JY c h main_arg3 rfl (by decide)).trans (entry_arg3 m c)
  arg4 := (post_in m JE JY c h 1 rfl).trans (entry_arg4 m c)
  arg5 := (post_in m JE JY c h 2 rfl).trans (entry_arg5 m c)
  arg6 := (post_in m JE JY c h 3 rfl).trans (entry_arg6 m c)
  arg7 := (post_in m JE JY c h 4 rfl).trans (entry_arg7 m c)
  arg8 := (post_in m JE JY c h 5 rfl).trans (entry_arg8 m c)

/-- Every run from `m` ends so, with every counter at zero. -/
theorem run_final (g : Dev nD → PrngReg) (H : ∀ c, KeptV (entry m) JE JY c) :
    θ_run defs (onTc (τ := τ) (main (F := F))) (s₀ m g) (fun r => (∀ c, Final m JE JY r c) ∧ r.2.sem = fun _ => 0) :=
  (θ_run defs _ _).mono (fun r h => ⟨fun c => final_of_post m JE JY c h.1, h.2⟩) (run_post m JE JY g H)

end Cert.Kernel.Body
-- ==== Proof.Bits.Tables.lean ====
/- What the host makes of the routing: the slot of every pair, how many pairs each slot serves, and the list of each slot's pairs. -/
module

public import proofs.«01_k».proof.Proof.Bits.Region
public import proofs.«01_k».proof.Defs
public import Idealize.ShloMosaic.Lib.Routing.OpsOne
public import Idealize.ShloMosaic.Lib.Routing.OpsOrder
public import Idealize.ShloMosaic.Lib.StableHlo.Predicate

@[expose] public section

set_option maxRecDepth 16384

noncomputable section

namespace Cert.Kernel.Body

open Idealize.ShloMosaic Idealize.ShloMosaic.TcCoe
open Cert.Kernel Cert.Kernel.Gen Cert.Kernel.Blk Cert.Mem

variable {F : FTy → Type} [FloatOps F]

/-- The slot of each of a token's experts: the map at the expert's id (a negative id counts from the map's end). -/
def slotOf (ids : IVec S256x1x8 32) (map : IVec S128 32) : IVec S256x8 32 :=
  Host.gather gather_S128_S256x8x1_S256x8_n_0_n_n_0_2_1 map (broadcastInDim S256x8x1 ![0, 1] bcast_S256x8_S256x8x1_0_1
    (select (cmpi .slt (shapeCast S256x8 ids shapeCasts_S256x1x8_S256x8) (broadcastInDim S256x8 ![] bcast_S_S256x8 (constantI S_ 32 0#32)))
      (addi (shapeCast S256x8 ids shapeCasts_S256x1x8_S256x8) (broadcastInDim S256x8 ![] bcast_S_S256x8 (constantI S_ 32 128#32)))
      (shapeCast S256x8 ids shapeCasts_S256x1x8_S256x8)))

/-- The same, one after the other: pair `8 t + k` is token `t`'s `k`-th expert. -/
def sfOf (ids : IVec S256x1x8 32) (map : IVec S128 32) : IVec S2048 32 := shapeCast S2048 (slotOf ids map) shapeCasts_S256x8_S2048

/-- Whether slot `s` serves pair `p`. -/
def hotOf (sf : IVec S2048 32) : IVec S48x2048 1 :=
  cmpi .eq (broadcastInDim S48x2048 ![0, 1] bcast_S1x2048_S48x2048_0_1 (broadcastInDim S1x2048 ![1] bcast_S2048_S1x2048_1 sf))
    (broadcastInDim S48x2048 ![0, 1] bcast_S48x1_S48x2048_0_1 (broadcastInDim S48x1 ![0] bcast_S48_S48x1_0 (iotaInDim S48 32 0)))

/-- How many pairs each slot serves. -/
def cntOf (sf : IVec S2048 32) : IVec S48 32 :=
  Host.reduce IntOp.addi (extui 32 (hotOf sf) natLt_1_32) (constantI S_ 32 0#32) reducesTo_S48x2048_S48_d1 h_S_

/-- How many of the pairs up to `p` slot `s` serves. -/
def cumOf (sf : IVec S2048 32) : IVec S48x2048 32 :=
  Host.reduceWindow IntOp.addi ![1, 2048] ![1, 1] ![0, 2047] ![0, 0] (extui 32 (hotOf sf) natLt_1_32) (constantI S_ 32 0#32)
    reduceWindows_S48x2048_S48x2048_w1s1p0_0_w2048s1p2047_0 h_S_

/-- Where pair `p` goes in the list if slot `s` serves it, else past its end. -/
def dstOf (sf : IVec S2048 32) : IVec S48x2048 32 :=
  select (hotOf sf)
    (addi (broadcastInDim S48x2048 ![0, 1] bcast_S48x1_S48x2048_0_1
        (muli (broadcastInDim S48x1 ![0] bcast_S48_S48x1_0 (iotaInDim S48 32 0)) (broadcastInDim S48x1 ![] bcast_S_S48x1 (constantI S_ 32 256#32))))
      (subi (cumOf sf) (broadcastInDim S48x2048 ![] bcast_S_S48x2048 (constantI S_ 32 1#32))))
    (broadcastInDim S48x2048 ![] bcast_S_S48x2048 (constantI S_ 32 12288#32))

/-- The same, one row after the other. -/
def dstF (sf : IVec S2048 32) : IVec S98304 32 := shapeCast S98304 (dstOf sf) shapeCasts_S48x2048_S98304

/-- The scatter's index words. -/
def ixOf (sf : IVec S2048 32) : IVec S98304x1 32 :=
  broadcastInDim S98304x1 ![0] bcast_S98304_S98304x1_0
    (select (cmpi .slt (dstF sf) (broadcastInDim S98304 ![] bcast_S_S98304 (constantI S_ 32 0#32)))
      (addi (dstF sf) (broadcastInDim S98304 ![] bcast_S_S98304 (constantI S_ 32 12289#32))) (dstF sf))

/-- The scatter's updates: the pairs, once per slot. -/
def pairF : IVec S98304 32 :=
  shapeCast S98304 (broadcastInDim S48x2048 ![0, 1] bcast_S1x2048_S48x2048_0_1 (broadcastInDim S1x2048 ![1] bcast_S2048_S1x2048_1 (iotaInDim S2048 32 0)))
    shapeCasts_S48x2048_S98304

/-- The list with one place more for the pairs of no slot. -/
def lst0 (sf : IVec S2048 32) : IVec S12289 32 :=
  Host.scatter scatter_S12289_S98304x1_S98304_n_0_0_1 IntOp.maxsi (broadcastInDim S12289 ![] bcast_S_S12289 (constantI S_ 32 0#32)) (ixOf sf) pairF

/-- The list: 256 places a slot. -/
def lstOf (sf : IVec S2048 32) : IVec S12288 32 := extractStridedSlice S12288 ![0] (lst0 sf) slices_S12289_S12288_0

variable (m : (ℓ : Loc nD τ sig) → Buf (Elt F) ℓ)

/-- The pairs' slots of a memory. -/
def sfM (c : Dev nD) : IVec S2048 32 := sfOf (m ((c.tc : Thread nD τ).loc main_arg1)) (m ((c.tc : Thread nD τ).loc main_arg3))

attribute [local irreducible] Host.scatter Host.reduceWindow Host.reduce Host.gather

theorem entry_cnt (c : Dev nD) : entry m c main_v37 = cntOf (sfM m c) := by
  unfold entry; after_reads_simp; rfl

theorem entry_lst (c : Dev nD) : entry m c main_v58 = lstOf (sfM m c) := by
  unfold entry; after_reads_simp; rfl

/-- Every entry of the list is a pair. -/
theorem lst_lt (sf : IVec S2048 32) (j : S12288.Idx) : (lstOf sf j).toNat < 2048 := by
  unfold lstOf lst0
  unfold extractStridedSlice
  refine Routing.scatter_forall _ _ (fun v : BitVec 32 => v.toNat < 2048) ?_ _ _ _ ?_ ?_ _
  · intro a b ha hb
    show (IntOp.maxsi a b).toNat < 2048
    unfold IntOp.maxsi
    split
    · exact ha
    · exact hb
  · intro i
    show (0#32 : BitVec 32).toNat < 2048
    decide
  · intro i
    show (BitVec.ofNat 32 _).toNat < 2048
    rw [BitVec.toNat_ofNat]
    refine lt_of_le_of_lt (Nat.mod_le _ _) ?_
    exact Fin.isLt (n := 2048) _

/-- The pair `p` is slot `s`'s. -/
def Hits (sf : IVec S2048 32) (s p : Nat) : Prop := ∃ h : p < 2048, sf (ix1 ⟨p, h⟩) = BitVec.ofNat 32 s

instance (sf : IVec S2048 32) (s p : Nat) : Decidable (Hits sf s p) := by unfold Hits; infer_instance

theorem hits_iff (sf : IVec S2048 32) (s : Nat) (p : Fin 2048) : Iff (Hits sf s p.val) (sf (ix1 p) = BitVec.ofNat 32 s) :=
  ⟨fun h => h.2, fun h => ⟨p.isLt, h⟩⟩

theorem hotOf_at (sf : IVec S2048 32) (s : Fin 48) (p : Fin 2048) : Iff (hotOf sf (ix2 s p) = 1#1) (Hits sf s.val p.val) := by
  rw [hits_iff]
  change Iff (IntOp.cmpi .eq (broadcastInDim S48x2048 ![0, 1] bcast_S1x2048_S48x2048_0_1 (broadcastInDim S1x2048 ![1] bcast_S2048_S1x2048_1 sf) (ix2 s p))
    (broadcastInDim S48x2048 ![0, 1] bcast_S48x1_S48x2048_0_1 (broadcastInDim S48x1 ![0] bcast_S48_S48x1_0 (iotaInDim S48 32 0)) (ix2 s p)) = 1#1) _
  rw [StableHlo.Predicate.cmpi_eq_iff]
  rw [show broadcastInDim S48x2048 ![0, 1] bcast_S1x2048_S48x2048_0_1 (broadcastInDim S1x2048 ![1] bcast_S2048_S1x2048_1 sf) (ix2 s p) = sf (ix1 p) from
      Routing.bcCols _ _ sf s p,
    show broadcastInDim S48x2048 ![0, 1] bcast_S48x1_S48x2048_0_1 (broadcastInDim S48x1 ![0] bcast_S48_S48x1_0 (iotaInDim S48 32 0)) (ix2 s p)
      = BitVec.ofNat 32 s.val from Routing.bcRows _ _ (iotaInDim S48 32 0) s p]

/-- Slot `s`'s count is the number of its pairs. -/
theorem cntOf_at (sf : IVec S2048 32) (s : Fin 48) : cntOf sf (ix1 s) = BitVec.ofNat 32 (Nat.count (Hits sf s.val) 2048) :=
  Routing.reduce_count (by norm_num) (hotOf sf) natLt_1_32 reducesTo_S48x2048_S48_d1 h_S_ s (Hits sf s.val) (hotOf_at sf s)

theorem count_le (sf : IVec S2048 32) (s : Nat) : Nat.count (Hits sf s) 2048 ≤ 2048 := Nat.count_le _

theorem cntOf_toNat (sf : IVec S2048 32) (s : Fin 48) : (cntOf sf (ix1 s)).toNat = Nat.count (Hits sf s.val) 2048 := by
  rw [cntOf_at, BitVec.toNat_ofNat]
  exact Nat.mod_eq_of_lt (lt_of_le_of_lt (count_le sf s.val) (by norm_num))

theorem cntOf_toInt (sf : IVec S2048 32) (s : Fin 48) : (cntOf sf (ix1 s)).toInt = Nat.count (Hits sf s.val) 2048 := by
  rw [cntOf_at]
  exact StableHlo.Predicate.toInt_ofNat_small _ (lt_of_le_of_lt (count_le sf s.val) (by norm_num))

theorem and_one (a b : BitVec 1) (h : IntOp.andi a b = 1#1) : a = 1#1 ∧ b = 1#1 := by
  revert a b; decide

/-- What the precondition says: every pair's slot is below 48 (read signed), and no slot serves more than 256 pairs. -/
theorem pre_read [Cert.Pre_slots_fit.Facts] (a0 : FVec F S256x1x2048 .bf16) (a1 : IVec S256x1x8 32) (a2 : FVec F S256x1x8 .f32) (a3 : IVec S128 32)
    (a4 : IVec S48x2048x768 8) (a5 a6 : FVec F S48x16x768 .bf16) (a7 : IVec S48x768x1024 8) (a8 : FVec F S48x6x2048 .bf16)
    (h : Cert.Pre_slots_fit.fn (F := F) a0 a1 a2 a3 a4 a5 a6 a7 a8 = fun _ => 1#1) :
    (∀ p : Fin 2048, (sfOf a1 a3 (ix1 p)).toInt < 48) ∧ ∀ s : Fin 48, (cntOf (sfOf a1 a3) (ix1 s)).toNat ≤ 256 := by
  have e : ∀ (s : Fin 48) (p : Fin 2048), (sfOf a1 a3 (ix1 p)).toInt < 48 ∧ (cntOf (sfOf a1 a3) (ix1 s)).toInt ≤ 256 := by
    intro s p
    have e := congrFun h (ix2 s p)
    unfold Cert.Pre_slots_fit.fn Cert.Pre_slots_fit.fn_part1 at e
    obtain ⟨e1, e2⟩ := and_one _ _ e
    rw [broadcastInDim_apply _ _ _ _ (ix2 (0 : Fin 1) p) (by intro a; match a with | ⟨0, _⟩ => rfl | ⟨1, _⟩ => rfl)] at e1
    rw [broadcastInDim_apply _ _ _ _ (ix2 s (0 : Fin 1)) (by intro a; match a with | ⟨0, _⟩ => rfl | ⟨1, _⟩ => rfl)] at e2
    have e1' := (WordCmp.ofBool_decide_eq_one_iff _).1 ((WordCmp.cmpi_slt_eq _ _).symm.trans e1)
    have e2' := (WordCmp.ofBool_decide_eq_one_iff _).1 ((WordCmp.cmpi_sle_eq _ _).symm.trans e2)
    rw [broadcastInDim_apply _ _ _ _ (ix1 p) (by intro a; match a with | ⟨0, _⟩ => rfl)] at e1'
    rw [broadcastInDim_apply _ _ _ _ (ix1 s) (by intro a; match a with | ⟨0, _⟩ => rfl)] at e2'
    exact ⟨e1', e2'⟩
  exact ⟨fun p => (e 0 p).1, fun s => by
    have := (e s 0).2
    rw [cntOf_toInt] at this
    rw [cntOf_toNat]
    exact_mod_cast this⟩

end Cert.Kernel.Body
-- ==== Proof.Bits.Frame.lean ====
/- The frame: wherever the precondition holds, every run ends, the arguments are as they were and every counter is zero. -/
module

public import proofs.«01_k».proof.Proof.Bits.Tables
public import proofs.«01_k».proof.Proof.Gen.Pre_slots_fit

@[expose] public section

set_option maxRecDepth 16384

noncomputable section

namespace Cert.Kernel.Body

open Idealize.ShloMosaic Idealize.ShloMosaic.TcCoe
open Cert.Kernel Cert.Kernel.Gen Cert.Kernel.Blk Cert.Mem

variable {F : FTy → Type} [FloatOps F]
variable (m : (ℓ : Loc nD τ sig) → Buf (Elt F) ℓ)

/-- The precondition of a memory. -/
def PreM [Cert.Pre_slots_fit.Facts] (c : Dev nD) : Prop :=
  Cert.Pre_slots_fit.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) = fun _ => 1#1

theorem cnt_le [Cert.Pre_slots_fit.Facts] (c : Dev nD) (h : PreM m c) (j : S48.Idx) : (cntV (entry m) c j).toNat ≤ 256 := by
  unfold cntV
  rw [entry_cnt]
  have e := (pre_read _ _ _ _ _ _ _ _ _ h).2 (j 0)
  rw [eq_ix1 j]
  exact e

/-- The tables are in range, whatever is said of the results: nothing. -/
theorem kept_frame [Cert.Pre_slots_fit.Facts] (c : Dev nD) (h : PreM m c) : KeptV (entry m) (fun _ _ _ => True) (fun _ _ _ => True) c where
  cnt_le := cnt_le m c h
  lst_lt := fun j => by
    rw [entry_lst]
    exact lst_lt _ j
  e0 := trivial
  y0 := trivial
  step := fun s b r hr hn hb hp X O hX E Y _ => ⟨trivial, trivial⟩
  eS := fun _ _ _ _ => trivial
  yS := fun _ _ _ _ => trivial

theorem run_frame [Cert.Pre_slots_fit.Facts] (g : Dev nD → PrngReg) (h : ∀ c, PreM m c) :
    θ_run defs (onTc (τ := τ) (main (F := F))) (s₀ m g) (fun r => (∀ c, Final m (fun _ _ _ => True) (fun _ _ _ => True) r c) ∧ r.2.sem = fun _ => 0) :=
  run_final m _ _ g fun c => kept_frame m c (h c)

end Cert.Kernel.Body
-- ==== Proof.Lists.lean ====
/- The lists the host makes hold each slot's pairs in order: place `s * 256 + k` holds slot `s`'s pair that `k` of its pairs precede. -/
module

public import proofs.«01_k».proof.Proof.Tables
public import Idealize.ShloMosaic.Lib.Routing.Count
public import Idealize.ShloMosaic.Lib.Pointwise

@[expose] public section

set_option maxRecDepth 16384

noncomputable section

namespace Cert.KernelIdeal.Body

open Idealize.ShloMosaic
open Cert.KernelIdeal Cert.KernelIdeal.Gen Cert.KernelIdeal.Blk
open Idealize.ShloMosaic.Routing (shape0 shape2)

/-- A running sum along the rows of a matrix of two axes. -/
theorem cumsum_cols {R N Nm1 : Nat} (hN : Nm1 + 1 = N) (x : IVec (shape2 R N) 32) (f : Nat → Nat → Nat)
    (hx : ∀ (r : Fin R) (i : Fin N), x (ix2 r i) = BitVec.ofNat 32 (f r.val i.val)) (init : IVec shape0 32) (hinit : init ValueIdx.ix0 = 0#32)
    (h : (shape2 R N).ReduceWindows (![1, N] : Fin 2 → Nat) ![1, 1] ![0, Nm1] ![0, 0] (shape2 R N)) (hu : 0 < shape0.numel)
    (r : Fin R) (j : Fin N) :
    Host.reduceWindow IntOp.addi ![1, N] ![1, 1] ![0, Nm1] ![0, 0] x init h hu (ix2 r j)
      = BitVec.ofNat 32 ((List.range (j.val + 1)).map (f r.val)).sum := by
  subst hN
  have hv : init (Shape.Idx.first hu) = BitVec.ofNat 32 0 := (congrArg init (ValueIdx.eq_ix0 _)).trans hinit
  have hj := j.isLt
  have hr := r.isLt
  unfold Host.reduceWindow
  refine (Routing.foldl_addi_ofNat _ _ (fun n => if Nm1 ≤ j.val + n.val then f r.val (j.val + n.val - Nm1) else 0) (fun n _ => ?_) _ 0 hv).trans ?_
  · have hw0 : ((shape2 1 (Nm1 + 1)).rowMajor.symm n 0).val = 0 := by rw [Routing.symm2]; rfl
    have hw : ((shape2 1 (Nm1 + 1)).rowMajor.symm n 1).val = n.val := by rw [Routing.symm2]; rfl
    have hn : n.val < Nm1 + 1 := (n.cast (Routing.numel2 _)).isLt
    dsimp only
    split
    · next hin =>
      have h1 := hin 1
      change Nm1 ≤ j.val * 1 + ((shape2 1 (Nm1 + 1)).rowMajor.symm n 1).val
        ∧ j.val * 1 + ((shape2 1 (Nm1 + 1)).rowMajor.symm n 1).val - Nm1 < Nm1 + 1 at h1
      rw [hw] at h1
      rw [if_pos (by omega)]
      refine (congrArg x (funext fun a => Fin.ext ?_)).trans (hx r ⟨j.val + n.val - Nm1, by omega⟩)
      match a with
      | ⟨0, _⟩ =>
        show r.val * 1 + ((shape2 1 (Nm1 + 1)).rowMajor.symm n 0).val - 0 = r.val
        rw [hw0]
        omega
      | ⟨1, _⟩ =>
        show j.val * 1 + ((shape2 1 (Nm1 + 1)).rowMajor.symm n 1).val - Nm1 = j.val + n.val - Nm1
        rw [hw, Nat.mul_one]
    · next hin =>
      rw [if_neg fun hle => hin fun a => by
        match a with
        | ⟨0, _⟩ =>
          show 0 ≤ r.val * 1 + ((shape2 1 (Nm1 + 1)).rowMajor.symm n 0).val ∧ r.val * 1 + ((shape2 1 (Nm1 + 1)).rowMajor.symm n 0).val - 0 < R
          rw [hw0]
          omega
        | ⟨1, _⟩ =>
          show Nm1 ≤ j.val * 1 + ((shape2 1 (Nm1 + 1)).rowMajor.symm n 1).val
            ∧ j.val * 1 + ((shape2 1 (Nm1 + 1)).rowMajor.symm n 1).val - Nm1 < Nm1 + 1
          rw [hw]
          omega]
      exact hv
  · rw [Nat.zero_add, Routing.map_finRange_val _ (fun w => if Nm1 ≤ j.val + w then f r.val (j.val + w - Nm1) else 0)]
    exact congrArg (BitVec.ofNat 32) ((congrArg (fun M => ((List.range M).map fun w => if Nm1 ≤ j.val + w then f r.val (j.val + w - Nm1) else 0).sum)
      (Routing.numel2 (Nm1 + 1))).trans (Routing.sum_window (f r.val) Nm1 j.val (by omega)))

/-- A bit widened is one if it is set and zero if not. -/
theorem bit_word (b : BitVec 1) : b.setWidth 32 = BitVec.ofNat 32 (if b = 1#1 then 1 else 0) := by
  revert b; decide

/-- The running count: how many of the pairs up to `p` are slot `s`'s. -/
theorem cumOf_at (sf : IVec S2048 32) (s : Fin 48) (p : Fin 2048) :
    cumOf sf (ix2 s p) = BitVec.ofNat 32 (Nat.count (Hits sf s.val) (p.val + 1)) := by
  rw [← Routing.sum_map_ite]
  unfold cumOf
  refine cumsum_cols (by norm_num) _ (fun s c => if Hits sf s c then 1 else 0) ?_ _ rfl _ _ s p
  intro r i
  show (hotOf sf (ix2 r i)).setWidth 32 = _
  rw [bit_word]
  by_cases h : Hits sf r.val i.val
  · rw [if_pos h, if_pos ((hotOf_at sf r i).2 h)]
  · rw [if_neg h, if_neg fun e => h ((hotOf_at sf r i).1 e)]

theorem bit_zero (b : BitVec 1) (h : ¬ b = 1#1) : b = 0#1 := by
  revert b; decide

/-- A slot's pair goes to the slot's part of the list, behind the slot's earlier pairs; -/
theorem dst_hit (sf : IVec S2048 32) (s : Fin 48) (p : Fin 2048) (h : Hits sf s.val p.val) :
    dstOf sf (ix2 s p) = BitVec.ofNat 32 (s.val * 256 + Nat.count (Hits sf s.val) p.val) := by
  have e : dstOf sf (ix2 s p) = Scalar.select (hotOf sf (ix2 s p))
      (IntOp.addi (IntOp.muli (BitVec.ofNat 32 s.val) 256#32) (IntOp.subi (cumOf sf (ix2 s p)) 1#32)) 12288#32 := by
    unfold dstOf
    generalize hotOf sf = H
    generalize cumOf sf = C
    pointwise
  rw [e, (hotOf_at sf s p).2 h, cumOf_at, Nat.count_succ, if_pos h]
  show BitVec.ofNat 32 s.val * BitVec.ofNat 32 256 + (BitVec.ofNat 32 (Nat.count (Hits sf s.val) p.val + 1) - BitVec.ofNat 32 1) = _
  rw [BitVec.ofNat_add, BitVec.ofNat_add, BitVec.ofNat_mul, BitVec.add_sub_cancel]

/-- any other pair goes past the list's end. -/
theorem dst_miss (sf : IVec S2048 32) (s : Fin 48) (p : Fin 2048) (h : ¬ Hits sf s.val p.val) :
    dstOf sf (ix2 s p) = 12288#32 := by
  have e : dstOf sf (ix2 s p) = Scalar.select (hotOf sf (ix2 s p))
      (IntOp.addi (IntOp.muli (BitVec.ofNat 32 s.val) 256#32) (IntOp.subi (cumOf sf (ix2 s p)) 1#32)) 12288#32 := by
    unfold dstOf
    generalize hotOf sf = H
    generalize cumOf sf = C
    pointwise
  rw [e, bit_zero _ fun e => h ((hotOf_at sf s p).1 e)]
  rfl

/-- Where the update of slot `s` and pair `p` goes. -/
def place (sf : IVec S2048 32) (s p : Nat) : Nat := if Hits sf s p then s * 256 + Nat.count (Hits sf s) p else 12288

variable (sf : IVec S2048 32) (hc : ∀ s : Fin 48, Nat.count (Hits sf s.val) 2048 ≤ 256)

theorem count_lt (s p : Nat) (h : Hits sf s p) : Nat.count (Hits sf s) p < Nat.count (Hits sf s) 2048 :=
  lt_of_lt_of_le (Nat.count_strict_mono h (Nat.lt_succ_self p)) (Nat.count_monotone _ h.1)

include hc in
theorem place_le (s : Fin 48) (p : Nat) : place sf s.val p ≤ 12288 := by
  unfold place
  split
  · next h =>
    have := count_lt sf s.val p h
    have := hc s
    have := s.isLt
    omega
  · exact le_refl _

include hc in
theorem dst_at (s : Fin 48) (p : Fin 2048) : dstOf sf (ix2 s p) = BitVec.ofNat 32 (place sf s.val p.val) := by
  unfold place
  split
  · next h => exact dst_hit sf s p h
  · next h => exact dst_miss sf s p h

/-- The index word of update `n`. -/
theorem dstF_at (n : Fin 98304) :
    dstF sf (ix1 n) = dstOf sf (ix2 (⟨n.val / 2048, by omega⟩ : Fin 48) (⟨n.val % 2048, by omega⟩ : Fin 2048)) := by
  unfold dstF
  refine shapeCast_apply _ _ _ _ ?_
  rw [Shape.rowMajor_val_two, Shape.rowMajor_val_one]
  show n.val / 2048 * 2048 + n.val % 2048 = n.val
  omega

theorem pairF_at (n : Fin 98304) : pairF (ix1 n) = BitVec.ofNat 32 (n.val % 2048) := by
  unfold pairF
  refine (shapeCast_apply _ _ _ (ix2 (⟨n.val / 2048, by omega⟩ : Fin 48) (⟨n.val % 2048, by omega⟩ : Fin 2048)) ?_).trans ?_
  · rw [Shape.rowMajor_val_two, Shape.rowMajor_val_one]
    show n.val / 2048 * 2048 + n.val % 2048 = n.val
    omega
  · exact Routing.bcCols _ _ (iotaInDim S2048 32 0) _ _

include hc in
theorem ix_at (n : Fin 98304) : (ixOf sf (ix2 n (0 : Fin 1))).toInt = place sf (n.val / 2048) (n.val % 2048) := by
  have hp := place_le sf hc ⟨n.val / 2048, by omega⟩ (n.val % 2048)
  have e : ixOf sf (ix2 n (0 : Fin 1))
      = Scalar.select (IntOp.cmpi .slt (dstF sf (ix1 n)) 0#32) (IntOp.addi (dstF sf (ix1 n)) 12289#32) (dstF sf (ix1 n)) := by
    unfold ixOf
    generalize dstF sf = D
    pointwise
  rw [e, dstF_at, dst_at sf hc]
  simp only at hp ⊢
  rw [WordCmp.cmpi_slt_ofNat (by norm_num; omega) (by norm_num)]
  show (BitVec.ofNat 32 (place sf (n.val / 2048) (n.val % 2048))).toInt = _
  exact StableHlo.Predicate.toInt_ofNat_small _ (by omega)

/-- Update `i` lands at place `x` exactly when its index word, read signed, is `x`. -/
theorem lands (idx : IVec S98304x1 32) (i : Fin 98304) (x : Fin 12289) :
    Iff (scatter_S12289_S98304x1_S98304_n_0_0_1.resultIdx? (ix1 i) idx = some (ix1 x)) ((idx (ix2 i (0 : Fin 1))).toInt = (x.val : Int)) := by
  rw [Routing.resultIdx?_eq_some]
  have hs : scatter_S12289_S98304x1_S98304_n_0_0_1.start (ix1 i) idx 0 = (idx (ix2 i (0 : Fin 1))).toInt := by
    unfold ScatterDims.start
    rw [dif_pos (by decide)]
    congr 2
    funext a
    match a with
    | ⟨0, _⟩ => rfl
    | ⟨1, _⟩ => rfl
  have hw : scatter_S12289_S98304x1_S98304_n_0_0_1.window (ix1 i) 0 = 0 := by
    unfold ScatterDims.window
    rw [dif_neg (by decide)]
  constructor
  · intro h
    have := h 0
    rw [hs, hw] at this
    simpa using this
  · intro h a
    obtain rfl : a = 0 := Subsingleton.elim _ _
    rw [hs, hw, h]
    simp

/-- Position `n` of a vector is its index `n`. -/
theorem vec_symm (n : Fin S98304.numel) : S98304.rowMajor.symm n = ix1 (n.cast (Routing.numel1 98304)) :=
  (Routing.symm1 n).trans (by funext a; match a with | ⟨0, _⟩ => rfl)

/-- A fold in which one element alone acts. -/
theorem foldl_one {ι α : Type} (L : List ι) (hL : L.Nodup) (P : ι → Prop) [DecidablePred P] (f : α → ι → α) (n0 : ι) (h0 : n0 ∈ L)
    (hP : ∀ n ∈ L, Iff (P n) (n = n0)) (a : α) : L.foldl (fun a n => if P n then f a n else a) a = f a n0 := by
  have none : ∀ (L : List ι) (_ : ∀ n ∈ L, ¬ P n) (a : α), L.foldl (fun a n => if P n then f a n else a) a = a := by
    intro L
    induction L with
    | nil => intro _ a; rfl
    | cons m L ih =>
      intro h a
      rw [List.foldl_cons, if_neg (h m List.mem_cons_self)]
      exact ih (fun n hn => h n (List.mem_cons_of_mem _ hn)) a
  induction L generalizing a with
  | nil => exact absurd h0 List.not_mem_nil
  | cons m L ih =>
    rw [List.foldl_cons]
    obtain ⟨hm, hL'⟩ := List.nodup_cons.1 hL
    by_cases e : m = n0
    · subst e
      rw [if_pos ((hP m List.mem_cons_self).2 rfl)]
      refine none L (fun n hn hn' => ?_) _
      exact hm ((hP n (List.mem_cons_of_mem _ hn)).1 hn' ▸ hn)
    · rw [if_neg fun h => e ((hP m List.mem_cons_self).1 h)]
      refine ih hL' ?_ (fun n hn => hP n (List.mem_cons_of_mem _ hn)) a
      rcases List.mem_cons.1 h0 with h | h
      · exact absurd h.symm e
      · exact h

/-- Two updates land at the same place of the list only if they are the same. -/
theorem place_inj (s s' : Fin 48) (p p' : Nat) (h : Hits sf s.val p) (hs : Nat.count (Hits sf s.val) p < 256)
    (hs' : Hits sf s'.val p' → Nat.count (Hits sf s'.val) p' < 256)
    (e : place sf s'.val p' = s.val * 256 + Nat.count (Hits sf s.val) p) : s' = s ∧ p' = p := by
  unfold place at e
  split at e
  · next h' =>
    have := hs' h'
    have es : s' = s := Fin.ext (by omega)
    subst es
    exact ⟨rfl, Nat.count_injective h' h (by omega)⟩
  · have := s.isLt
    omega

include hc in
/-- Slot `s`'s pair `p` stands in the slot's part of the list at the number of the slot's earlier pairs. -/
theorem lst_at (s : Fin 48) (p : Fin 2048) (h : Hits sf s.val p.val) (hx : s.val * 256 + Nat.count (Hits sf s.val) p.val < 12288) :
    lstOf sf (ix1 ⟨s.val * 256 + Nat.count (Hits sf s.val) p.val, hx⟩) = BitVec.ofNat 32 p.val := by
  have lt (s : Fin 48) (p : Nat) (h : Hits sf s.val p) : Nat.count (Hits sf s.val) p < 256 :=
    lt_of_lt_of_le (count_lt sf s.val p h) (hc s)
  have hps := p.isLt
  have hss := s.isLt
  have e : lstOf sf (ix1 ⟨s.val * 256 + Nat.count (Hits sf s.val) p.val, hx⟩)
      = lst0 sf (ix1 (⟨s.val * 256 + Nat.count (Hits sf s.val) p.val, by omega⟩ : Fin 12289)) := by
    unfold lstOf
    unfold extractStridedSlice
    congr 1
    funext a
    match a with
    | ⟨0, _⟩ => exact Fin.ext (Nat.zero_add _)
  rw [e]
  unfold lst0
  rw [Routing.scatter_at]
  set n0 : Fin S98304.numel := (⟨s.val * 2048 + p.val, by omega⟩ : Fin 98304).cast (Routing.numel1 98304).symm with hn0
  refine (foldl_one _ (List.nodup_finRange _) _ (fun a n => IntOp.maxsi a (pairF (S98304.rowMajor.symm n))) n0 (List.mem_finRange _) ?_ _).trans ?_
  · intro n _
    rw [vec_symm, lands, ix_at sf hc]
    constructor
    · intro q
      have hn : (n.cast (Routing.numel1 98304)).val < 98304 := (n.cast (Routing.numel1 98304)).isLt
      have q' := place_inj sf s ⟨(n.cast (Routing.numel1 98304)).val / 2048, by omega⟩ p.val ((n.cast (Routing.numel1 98304)).val % 2048) h (lt s _ h)
        (fun h' => lt ⟨(n.cast (Routing.numel1 98304)).val / 2048, by omega⟩ _ h') (by exact_mod_cast q)
      have q1 : (n.cast (Routing.numel1 98304)).val / 2048 = s.val := congrArg Fin.val q'.1
      have q2 := q'.2
      apply Fin.ext
      show (n.cast (Routing.numel1 98304)).val = s.val * 2048 + p.val
      omega
    · intro q
      have q1 : (n.cast (Routing.numel1 98304)).val = s.val * 2048 + p.val := congrArg Fin.val q
      rw [q1, show (s.val * 2048 + p.val) / 2048 = s.val by omega, show (s.val * 2048 + p.val) % 2048 = p.val by omega]
      unfold place
      rw [if_pos h]
  · rw [vec_symm, show pairF (ix1 (n0.cast (Routing.numel1 98304))) = BitVec.ofNat 32 p.val from
      (pairF_at _).trans (by
        show BitVec.ofNat 32 ((s.val * 2048 + p.val) % 2048) = _
        rw [show (s.val * 2048 + p.val) % 2048 = p.val by omega])]
    have big : ∀ p : Fin 2048, IntOp.maxsi 0#32 (BitVec.ofNat 32 p.val) = BitVec.ofNat 32 p.val := by
      intro p
      have := p.isLt
      unfold IntOp.maxsi
      split
      · next q =>
        have e1 := BitVec.slt_iff_toInt_lt.1 q
        rw [StableHlo.Predicate.toInt_ofNat_small _ (by omega), show (0#32 : BitVec 32).toInt = 0 from rfl] at e1
        omega
      · rfl
    exact big p

end Cert.KernelIdeal.Body
-- ==== Proof.Spec.lean ====
/- The mathematics the two programs share: the row of one slot's network for one token, over the extended reals, and the
   facts about signed four-bit codes that relate the two ways of unpacking them. -/
module

public import Idealize.ShloMosaic.Lib.Pointwise
public import Idealize.ShloMosaic.Lib.BitcastFour
public import Idealize.ShloMosaic.Lib.IdealHost

@[expose] public section

set_option maxRecDepth 16384

noncomputable section

namespace Cert.Spec

open Idealize.ShloMosaic

/-- The signed value of a byte's low four bits, -/
def nLo (b : BitVec 8) : EReal := (((b <<< (4 : Nat)).toInt / 16 : Int) : ℝ)

/-- and of its high four bits. -/
def nHi (b : BitVec 8) : EReal := (((b &&& 0xF0#8).toInt / 16 : Int) : ℝ)

/-- The hidden layer's entry `j` for the row `x`: the gate product through its logistic, times the up product. -/
def hidS (x : Fin 2048 → EReal) (c13 : Fin 2048 → Fin 768 → BitVec 8) (sg su : Fin 16 → Fin 768 → EReal) (j : Fin 768) : EReal :=
  ((∑ k : Fin 2048, x k * (nLo (c13 k j) * sg ⟨k.val / 128, by omega⟩ j))
      * Ideal.logistic (∑ k : Fin 2048, x k * (nLo (c13 k j) * sg ⟨k.val / 128, by omega⟩ j)))
    * ∑ k : Fin 2048, x k * (nHi (c13 k j) * su ⟨k.val / 128, by omega⟩ j)

/-- Entry `d` of the result row: the low codes give the first 1024 entries, the high codes the others. -/
def rowS (x : Fin 2048 → EReal) (c13 : Fin 2048 → Fin 768 → BitVec 8) (sg su : Fin 16 → Fin 768 → EReal)
    (c2 : Fin 768 → Fin 1024 → BitVec 8) (s2 : Fin 6 → Fin 2048 → EReal) (d : Fin 2048) : EReal :=
  if h : d.val < 1024 then ∑ j : Fin 768, hidS x c13 sg su j * (nLo (c2 j ⟨d.val, h⟩) * s2 ⟨j.val / 128, by omega⟩ d)
  else ∑ j : Fin 768, hidS x c13 sg su j * (nHi (c2 j ⟨d.val - 1024, by omega⟩) * s2 ⟨j.val / 128, by omega⟩ d)

/-- A number that is not negative and not infinite may be taken into a sum. -/
theorem sum_mul_right {n : Nat} (f : Fin n → EReal) (c : EReal) (h0 : 0 ≤ c) (ht : c ≠ ⊤) :
    (∑ k, f k) * c = ∑ k, f k * c := by
  induction n with
  | zero => simp
  | succ n ih => rw [Fin.sum_univ_succ, Fin.sum_univ_succ, EReal.right_distrib_of_nonneg_of_ne_top h0 ht, ih]

/-- The pattern `0x3D800000` is one sixteenth. -/
theorem sixteenth : Ideal.ofBits .f32 0x3D800000#32 = ((1 / 16 : ℝ) : EReal) := by
  simp [Ideal.ofBits, Ideal.ieee, -EReal.coe_mul]; norm_num

/-- A product of codes taken sixteen times too large, over sixteen. -/
theorem sum_sixteen {n : Nat} (x s : Fin n → EReal) (z : Fin n → Int) :
    (∑ k, x k * ((((16 * z k : Int) : ℝ) : EReal) * s k)) * ((1 / 16 : ℝ) : EReal)
      = ∑ k, x k * ((((z k : Int) : ℝ) : EReal) * s k) := by
  rw [sum_mul_right _ _ (by exact_mod_cast (by norm_num : (0 : ℝ) ≤ 1 / 16)) (EReal.coe_ne_top _)]
  refine Finset.sum_congr rfl fun k _ => ?_
  have e : ((((16 * z k : Int) : ℝ) : EReal)) * ((1 / 16 : ℝ) : EReal) = (((z k : Int) : ℝ) : EReal) := by
    rw [← EReal.coe_mul]; congr 1; push_cast; ring
  calc x k * ((((16 * z k : Int) : ℝ) : EReal) * s k) * ((1 / 16 : ℝ) : EReal)
      = x k * ((((((16 * z k : Int) : ℝ) : EReal)) * ((1 / 16 : ℝ) : EReal)) * s k) := by ac_rfl
    _ = _ := by rw [e]

/-- Sixteen times the low code is the byte shifted up, -/
theorem lo16 (b : BitVec 8) : (b <<< (4 : Nat)).toInt = 16 * ((b <<< (4 : Nat)).toInt / 16) := by
  revert b; decide

/-- and sixteen times the high code is the byte without its low bits. -/
theorem hi16 (b : BitVec 8) : (b &&& 0xF0#8).toInt = 16 * ((b &&& 0xF0#8).toInt / 16) := by
  revert b; decide

/-- The mask keeps the upper four bits of each byte of a word. -/
theorem mask_bit (i : Nat) (hi : i < 32) : (4042322160#32).getLsbD i = decide (4 ≤ i % 8) := by
  revert i; decide

section Bytes

variable {R r n : Nat}

/-- A bit of a byte unpacked from a word. -/
theorem unpack_bit (y : IVec (⟨2, ![r, n]⟩ : Shape) 32) (h2 : (⟨2, ![r, n]⟩ : Shape).Bitcasts 32 ⟨2, ![R, n]⟩ 8)
    (k : Fin R) (j : Fin n) (q : Nat) (hq : q < 8) (a : Fin r) (ha : a.val = k.val / 4) :
    (bitcast ⟨2, ![R, n]⟩ 8 y h2 (ix2 k j)).getLsbD q = (y (ix2 a j)).getLsbD (8 * (k.val % 4) + q) := by
  rw [bitcast_getLsbD y h2 (ix2 k j) q hq (by decide)]
  have hr : (⟨2, ![R, n]⟩ : Shape).row (ix2 k j) = k.val := rfl
  have e : ((⟨2, ![R, n]⟩ : Shape).row (ix2 k j) * 8 + q) % 32 = 8 * (k.val % 4) + q := by rw [hr]; omega
  rw [e]
  congr 2
  funext c
  match c with
  | ⟨0, _⟩ =>
    exact Fin.ext ((h2.srcIdx_row _ _ _ ⟨0, Nat.zero_lt_two⟩ rfl).trans (by rw [hr]; show _ = a.val; omega))
  | ⟨1, _⟩ => exact Fin.ext (h2.srcIdx_other _ _ _ ⟨1, Nat.one_lt_two⟩ (by show ¬ 1 + 2 = 2; omega))

/-- Bytes packed four to a word, the word shifted up by four and masked, and unpacked again: each byte shifted up. -/
theorem lo_at (x : IVec (⟨2, ![R, n]⟩ : Shape) 8) (h1 : (⟨2, ![R, n]⟩ : Shape).Bitcasts 8 ⟨2, ![r, n]⟩ 32)
    (h2 : (⟨2, ![r, n]⟩ : Shape).Bitcasts 32 ⟨2, ![R, n]⟩ 8) (hR : R = 4 * r) (k : Fin R) (j : Fin n) :
    bitcast ⟨2, ![R, n]⟩ 8 (andi (shli (bitcast ⟨2, ![r, n]⟩ 32 x h1) (broadcast ⟨2, ![r, n]⟩ 4#32))
      (broadcast ⟨2, ![r, n]⟩ 4042322160#32)) h2 (ix2 k j) = x (ix2 k j) <<< (4 : Nat) := by
  apply BitVec.eq_of_getLsbD_eq
  intro q hq
  rw [unpack_bit _ h2 k j q hq ⟨k.val / 4, by omega⟩ rfl]
  show (bitcast ⟨2, ![r, n]⟩ 32 x h1 (ix2 _ j) <<< (4 : Nat) &&& 4042322160#32).getLsbD (8 * (k.val % 4) + q) = _
  rw [BitVec.getLsbD_and, mask_bit _ (by omega), BitVec.getLsbD_shiftLeft, BitVec.getLsbD_shiftLeft]
  by_cases h4 : 4 ≤ q
  · have e1 : ((8 * (k.val % 4) + q) % 8) = q := by omega
    have e2 := bitcast_8_32_getLsbD_ix2 x h1 ⟨k.val / 4, by omega⟩ j (8 * (k.val % 4) + q - 4) (by omega) k
      (by show k.val = 4 * (k.val / 4) + _; omega)
    have e3 : (8 * (k.val % 4) + q - 4) % 8 = q - 4 := by omega
    rw [e3] at e2
    rw [show (bitcast ⟨2, ![r, n]⟩ 32 x h1 (ix2 ⟨k.val / 4, by omega⟩ j)).getLsbD (8 * (k.val % 4) + q - 4)
      = (x (ix2 k j)).getLsbD (q - 4) from e2, e1]
    have : ¬ q < 4 := by omega
    have h5 : ¬ 8 * (k.val % 4) + q < 4 := by omega
    have h6 : 8 * (k.val % 4) + q < 32 := by omega
    simp [h4, hq, this, h5, h6]
  · have e1 : ¬ 4 ≤ ((8 * (k.val % 4) + q) % 8) := by omega
    have : q < 4 := by omega
    simp [e1, this]
    intro _ _ _
    omega

/-- The same without the shift: each byte without its low bits. -/
theorem hi_at (x : IVec (⟨2, ![R, n]⟩ : Shape) 8) (h1 : (⟨2, ![R, n]⟩ : Shape).Bitcasts 8 ⟨2, ![r, n]⟩ 32)
    (h2 : (⟨2, ![r, n]⟩ : Shape).Bitcasts 32 ⟨2, ![R, n]⟩ 8) (hR : R = 4 * r) (k : Fin R) (j : Fin n) :
    bitcast ⟨2, ![R, n]⟩ 8 (andi (bitcast ⟨2, ![r, n]⟩ 32 x h1) (broadcast ⟨2, ![r, n]⟩ 4042322160#32)) h2 (ix2 k j)
      = x (ix2 k j) &&& 0xF0#8 := by
  apply BitVec.eq_of_getLsbD_eq
  intro q hq
  rw [unpack_bit _ h2 k j q hq ⟨k.val / 4, by omega⟩ rfl]
  show (bitcast ⟨2, ![r, n]⟩ 32 x h1 (ix2 _ j) &&& 4042322160#32).getLsbD (8 * (k.val % 4) + q) = _
  rw [BitVec.getLsbD_and, mask_bit _ (by omega), BitVec.getLsbD_and]
  have e1 : ((8 * (k.val % 4) + q) % 8) = q := by omega
  have e2 := bitcast_8_32_getLsbD_ix2 x h1 ⟨k.val / 4, by omega⟩ j (8 * (k.val % 4) + q) (by omega) k
    (by show k.val = 4 * (k.val / 4) + _; omega)
  rw [e1] at e2
  rw [show (bitcast ⟨2, ![r, n]⟩ 32 x h1 (ix2 ⟨k.val / 4, by omega⟩ j)).getLsbD (8 * (k.val % 4) + q)
    = (x (ix2 k j)).getLsbD q from e2, e1]
  have : ∀ i : Nat, i < 8 → (0xF0#8).getLsbD i = decide (4 ≤ i) := by decide
  rw [this q hq]

end Bytes

end Cert.Spec
-- ==== Proof.Tile.lean ====
/- The result tile of one chunk over the extended reals: row by row, the slot's network applied to the gathered row. -/
module

public import proofs.«01_k».proof.Proof.Spec
public import proofs.«01_k».proof.Proof.Block

@[expose] public section

set_option maxRecDepth 16384

noncomputable section

namespace Cert.KernelIdeal.Tile

open Idealize.ShloMosaic Cert.KernelIdeal.Gen Cert.KernelIdeal.Blk Cert.Spec

section Scaled

variable {g R : Nat}

/-- Codes in groups of 128 rows, each group times its row of scales. -/
theorem scaled_at (x : IVec (⟨2, ![R, 256]⟩ : Shape) 8) (s : FVec Ideal (⟨3, ![1, g, 256]⟩ : Shape) .bf16) (hR : R = g * 128)
    (h1 : (⟨2, ![R, 256]⟩ : Shape).ShapeCasts ⟨3, ![g, 128, 256]⟩) (h2 : (⟨3, ![1, g, 256]⟩ : Shape).ShapeCasts ⟨2, ![g, 256]⟩)
    (h3 : (⟨2, ![g, 256]⟩ : Shape).ShapeCasts ⟨3, ![g, 1, 256]⟩) (h4 : (⟨3, ![g, 1, 256]⟩ : Shape).Broadcasts ⟨3, ![g, 128, 256]⟩)
    (h5 : (⟨3, ![g, 128, 256]⟩ : Shape).ShapeCasts ⟨2, ![R, 256]⟩) (k : Fin R) (j : Fin 256) :
    shapeCast ⟨2, ![R, 256]⟩ (mulf (shapeCast ⟨3, ![g, 128, 256]⟩ (sitofp .bf16 x : FVec Ideal _ .bf16) h1)
      (broadcastTo ⟨3, ![g, 128, 256]⟩ (shapeCast ⟨3, ![g, 1, 256]⟩ (shapeCast ⟨2, ![g, 256]⟩ s h2) h3) h4)) h5 (ix2 k j)
      = (((x (ix2 k j)).toInt : ℝ) : EReal) * s (ix3 0 ⟨k.val / 128, by omega⟩ j) := by
  have hk := k.isLt
  rw [shapeCast_apply _ h5 (ix2 k j) (ix3 ⟨k.val / 128, by omega⟩ ⟨k.val % 128, by omega⟩ j) (by
    rw [Shape.rowMajor_val_three, Shape.rowMajor_val_two]
    show (k.val / 128 * 128 + k.val % 128) * 256 + j.val = k.val * 256 + j.val; omega)]
  show shapeCast ⟨3, ![g, 128, 256]⟩ (sitofp .bf16 x : FVec Ideal _ .bf16) h1 _ * broadcastTo ⟨3, ![g, 128, 256]⟩ _ h4 _ = _
  rw [shapeCast_apply _ h1 _ (ix2 k j) (by
    rw [Shape.rowMajor_val_three, Shape.rowMajor_val_two]
    show k.val * 256 + j.val = (k.val / 128 * 128 + k.val % 128) * 256 + j.val; omega)]
  rw [broadcastTo_apply _ h4 _ (ix3 ⟨k.val / 128, by omega⟩ 0 j) (by
    intro a
    match a with
    | ⟨0, _⟩ =>
      show k.val / 128 = if g = 1 then 0 else k.val / 128
      split <;> omega
    | ⟨1, _⟩ => rfl
    | ⟨2, _⟩ => rfl)]
  rw [shapeCast_apply _ h3 _ (ix2 ⟨k.val / 128, by omega⟩ j) (by
    rw [Shape.rowMajor_val_three, Shape.rowMajor_val_two]
    show k.val / 128 * 256 + j.val = (k.val / 128 * 1 + 0) * 256 + j.val; omega)]
  rw [shapeCast_apply _ h2 _ (ix3 0 ⟨k.val / 128, by omega⟩ j) (by
    rw [Shape.rowMajor_val_three, Shape.rowMajor_val_two]
    show (0 * g + k.val / 128) * 256 + j.val = k.val / 128 * 256 + j.val; omega)]
  rfl

end Scaled

theorem mm13_at (a : FVec Ideal S64x2048 .bf16) (b : FVec Ideal S2048x256 .bf16) (r : Fin 64) (j : Fin 256) :
    mulf (matmul dot_S64x2048_S2048x256_S64x256_1_0_0_1_n_n none a b (constant S64x256 .f32 0x00000000#32))
      (broadcast S64x256 (Scalar.ofBits .f32 0x3D800000#32)) (ix2 r j)
      = (∑ k : Fin 2048, a (ix2 r k) * b (ix2 k j)) * ((1 / 16 : ℝ) : EReal) := by
  pointwise
  rw [sixteenth]

theorem mm2_at (a : FVec Ideal S64x768 .bf16) (b : FVec Ideal S768x256 .bf16) (r : Fin 64) (j : Fin 256) :
    mulf (matmul dot_S64x768_S768x256_S64x256_1_0_0_1_n_n none a b (constant S64x256 .f32 0x00000000#32))
      (broadcast S64x256 (Scalar.ofBits .f32 0x3D800000#32)) (ix2 r j)
      = (∑ k : Fin 768, a (ix2 r k) * b (ix2 k j)) * ((1 / 16 : ℝ) : EReal) := by
  pointwise
  rw [sixteenth]

/-! ### Tiles of weights -/

theorem cut2048_at (C : Vec Ideal S1x2048x256 .i8) (k : Fin 2048) (j : Fin 256) :
    shapeCast S2048x256 C shapeCasts_S1x2048x256_S2048x256 (ix2 k j) = C (ix3 0 k j) :=
  shapeCast_apply C shapeCasts_S1x2048x256_S2048x256 (ix2 k j) (ix3 0 k j) (by
    rw [Shape.rowMajor_val_three, Shape.rowMajor_val_two]
    show (0 * 2048 + k.val) * 256 + j.val = k.val * 256 + j.val; omega)

theorem cut768_at (C : Vec Ideal S1x768x256 .i8) (k : Fin 768) (j : Fin 256) :
    shapeCast S768x256 C shapeCasts_S1x768x256_S768x256 (ix2 k j) = C (ix3 0 k j) :=
  shapeCast_apply C shapeCasts_S1x768x256_S768x256 (ix2 k j) (ix3 0 k j) (by
    rw [Shape.rowMajor_val_three, Shape.rowMajor_val_two]
    show (0 * 768 + k.val) * 256 + j.val = k.val * 256 + j.val; omega)

/-- A tile of gate weights, sixteen times too large, -/
theorem loT_at (C : Vec Ideal S1x2048x256 .i8) (s : Vec Ideal S1x16x256 .bf16) (k : Fin 2048) (j : Fin 256) :
    k0_pay15 (F := Ideal) C s (ix2 k j)
      = (((16 * (((C (ix3 0 k j) : BitVec 8) <<< (4 : Nat)).toInt / 16) : Int) : ℝ) : EReal) * s (ix3 0 ⟨k.val / 128, by omega⟩ j) := by
  refine (scaled_at (g := 16) (R := 2048) (bitcast S2048x256 8 (andi (shli (k0_pay14 (F := Ideal) C) (broadcast S512x256 4#32))
    (broadcast S512x256 4042322160#32)) bitcasts_S512x256_w32_S2048x256_w8) s rfl _ _ _ _ _ k j).trans ?_
  rw [← lo16, ← cut2048_at C k j]
  exact congrArg (fun b : BitVec 8 => (((b.toInt : Int) : ℝ) : EReal) * s (ix3 0 ⟨k.val / 128, by omega⟩ j))
    (lo_at (r := 512) (shapeCast S2048x256 C shapeCasts_S1x2048x256_S2048x256) bitcasts_S2048x256_w8_S512x256_w32
      bitcasts_S512x256_w32_S2048x256_w8 rfl k j)

/-- of up weights, -/
theorem hiT_at (C : Vec Ideal S1x2048x256 .i8) (s : Vec Ideal S1x16x256 .bf16) (k : Fin 2048) (j : Fin 256) :
    shapeCast S2048x256 (k0_pay16 (F := Ideal) C s) shapeCasts_S16x128x256_S2048x256 (ix2 k j)
      = (((16 * (((C (ix3 0 k j) : BitVec 8) &&& 0xF0#8).toInt / 16) : Int) : ℝ) : EReal) * s (ix3 0 ⟨k.val / 128, by omega⟩ j) := by
  refine (scaled_at (g := 16) (R := 2048) (bitcast S2048x256 8 (andi (k0_pay14 (F := Ideal) C)
    (broadcast S512x256 4042322160#32)) bitcasts_S512x256_w32_S2048x256_w8) s rfl _ _ _ _ _ k j).trans ?_
  rw [← hi16, ← cut2048_at C k j]
  exact congrArg (fun b : BitVec 8 => (((b.toInt : Int) : ℝ) : EReal) * s (ix3 0 ⟨k.val / 128, by omega⟩ j))
    (hi_at (r := 512) (shapeCast S2048x256 C shapeCasts_S1x2048x256_S2048x256) bitcasts_S2048x256_w8_S512x256_w32
      bitcasts_S512x256_w32_S2048x256_w8 rfl k j)

/-- A tile of down weights from the low codes, -/
def loD (C : Vec Ideal S1x768x256 .i8) (s : Vec Ideal S1x6x256 .bf16) : FVec Ideal S768x256 .bf16 :=
  shapeCast S768x256 (mulf (shapeCast S6x128x256 (sitofp .bf16 (bitcast S768x256 8 (andi (shli (k0_pay24 (F := Ideal) C)
    (broadcast S192x256 4#32)) (broadcast S192x256 4042322160#32)) bitcasts_S192x256_w32_S768x256_w8) : FVec Ideal _ .bf16)
      shapeCasts_S768x256_S6x128x256)
    (broadcastTo S6x128x256 (shapeCast S6x1x256 (shapeCast S6x256 s shapeCasts_S1x6x256_S6x256) shapeCasts_S6x256_S6x1x256)
      broadcasts_S6x1x256_S6x128x256)) shapeCasts_S6x128x256_S768x256

/-- and from the high codes. -/
def hiD (C : Vec Ideal S1x768x256 .i8) (s : Vec Ideal S1x6x256 .bf16) : FVec Ideal S768x256 .bf16 :=
  shapeCast S768x256 (mulf (shapeCast S6x128x256 (sitofp .bf16 (bitcast S768x256 8 (andi (k0_pay24 (F := Ideal) C)
    (broadcast S192x256 4042322160#32)) bitcasts_S192x256_w32_S768x256_w8) : FVec Ideal _ .bf16)
      shapeCasts_S768x256_S6x128x256)
    (broadcastTo S6x128x256 (shapeCast S6x1x256 (shapeCast S6x256 s shapeCasts_S1x6x256_S6x256) shapeCasts_S6x256_S6x1x256)
      broadcasts_S6x1x256_S6x128x256)) shapeCasts_S6x128x256_S768x256

theorem loD_at (C : Vec Ideal S1x768x256 .i8) (s : Vec Ideal S1x6x256 .bf16) (k : Fin 768) (j : Fin 256) :
    loD C s (ix2 k j)
      = (((16 * (((C (ix3 0 k j) : BitVec 8) <<< (4 : Nat)).toInt / 16) : Int) : ℝ) : EReal) * s (ix3 0 ⟨k.val / 128, by omega⟩ j) := by
  refine (scaled_at (g := 6) (R := 768) _ s rfl _ _ _ _ _ k j).trans ?_
  rw [← lo16, ← cut768_at C k j]
  exact congrArg (fun b : BitVec 8 => (((b.toInt : Int) : ℝ) : EReal) * s (ix3 0 ⟨k.val / 128, by omega⟩ j))
    (lo_at (r := 192) (shapeCast S768x256 C shapeCasts_S1x768x256_S768x256) bitcasts_S768x256_w8_S192x256_w32
      bitcasts_S192x256_w32_S768x256_w8 rfl k j)

theorem hiD_at (C : Vec Ideal S1x768x256 .i8) (s : Vec Ideal S1x6x256 .bf16) (k : Fin 768) (j : Fin 256) :
    hiD C s (ix2 k j)
      = (((16 * (((C (ix3 0 k j) : BitVec 8) &&& 0xF0#8).toInt / 16) : Int) : ℝ) : EReal) * s (ix3 0 ⟨k.val / 128, by omega⟩ j) := by
  refine (scaled_at (g := 6) (R := 768) _ s rfl _ _ _ _ _ k j).trans ?_
  rw [← hi16, ← cut768_at C k j]
  exact congrArg (fun b : BitVec 8 => (((b.toInt : Int) : ℝ) : EReal) * s (ix3 0 ⟨k.val / 128, by omega⟩ j))
    (hi_at (r := 192) (shapeCast S768x256 C shapeCasts_S1x768x256_S768x256) bitcasts_S768x256_w8_S192x256_w32
      bitcasts_S192x256_w32_S768x256_w8 rfl k j)

/-! ### The hidden layer -/

/-- A product with a tile of weights, over sixteen. -/
def mm (a : FVec Ideal S64x2048 .bf16) (b : FVec Ideal S2048x256 .bf16) : FVec Ideal S64x256 .f32 :=
  mulf (matmul dot_S64x2048_S2048x256_S64x256_1_0_0_1_n_n none a b (constant S64x256 .f32 0x00000000#32))
    (broadcast S64x256 (Scalar.ofBits .f32 0x3D800000#32))

/-- 256 columns of the hidden layer. -/
def hidT (a : FVec Ideal S64x2048 .bf16) (C : Vec Ideal S1x2048x256 .i8) (sg su : Vec Ideal S1x16x256 .bf16) : FVec Ideal S64x256 .f32 :=
  mulf (mulf (mm a (k0_pay15 C sg)) (logistic (mm a (k0_pay15 C sg))))
    (mm a (shapeCast S2048x256 (k0_pay16 C su) shapeCasts_S16x128x256_S2048x256))

theorem gate_at (a : FVec Ideal S64x2048 .bf16) (C : Vec Ideal S1x2048x256 .i8) (s : Vec Ideal S1x16x256 .bf16) (r : Fin 64) (j : Fin 256) :
    mm a (k0_pay15 C s) (ix2 r j)
      = ∑ k : Fin 2048, a (ix2 r k) * (nLo (C (ix3 0 k j)) * s (ix3 0 ⟨k.val / 128, by omega⟩ j)) := by
  refine (mm13_at a _ r j).trans ((congrArg (· * ((1 / 16 : ℝ) : EReal)) (Finset.sum_congr rfl fun k _ => ?_)).trans
    (sum_sixteen (fun k => a (ix2 r k)) (fun k : Fin 2048 => s (ix3 0 ⟨k.val / 128, by omega⟩ j))
      (fun k => ((C (ix3 0 k j) : BitVec 8) <<< (4 : Nat)).toInt / 16)))
  rw [loT_at]

theorem up_at (a : FVec Ideal S64x2048 .bf16) (C : Vec Ideal S1x2048x256 .i8) (s : Vec Ideal S1x16x256 .bf16) (r : Fin 64) (j : Fin 256) :
    mm a (shapeCast S2048x256 (k0_pay16 C s) shapeCasts_S16x128x256_S2048x256) (ix2 r j)
      = ∑ k : Fin 2048, a (ix2 r k) * (nHi (C (ix3 0 k j)) * s (ix3 0 ⟨k.val / 128, by omega⟩ j)) := by
  refine (mm13_at a _ r j).trans ((congrArg (· * ((1 / 16 : ℝ) : EReal)) (Finset.sum_congr rfl fun k _ => ?_)).trans
    (sum_sixteen (fun k => a (ix2 r k)) (fun k : Fin 2048 => s (ix3 0 ⟨k.val / 128, by omega⟩ j))
      (fun k => ((C (ix3 0 k j) : BitVec 8) &&& 0xF0#8).toInt / 16)))
  rw [hiT_at]

section Hid

variable (X : Vec Ideal S64x2048 .f32) (c13 : Vec Ideal S1x2048x768 .i8) (sg su : Vec Ideal S1x16x768 .bf16)
  (c2 : Vec Ideal S1x768x1024 .i8) (s2 : Vec Ideal S1x6x2048 .bf16)

/-- The row function of the block, at row `r` of the gathered tile. -/
def hidB (r : Fin 64) : Fin 768 → EReal :=
  hidS (fun k => X (ix2 r k)) (fun k j => c13 (ix3 0 k j)) (fun g j => sg (ix3 0 g j)) (fun g j => su (ix3 0 g j))

def rowB (r : Fin 64) : Fin 2048 → EReal :=
  rowS (fun k => X (ix2 r k)) (fun k j => c13 (ix3 0 k j)) (fun g j => sg (ix3 0 g j)) (fun g j => su (ix3 0 g j))
    (fun k j => c2 (ix3 0 k j)) (fun g j => s2 (ix3 0 g j))

theorem c13At_at (o : Nat) (h : o + 256 ≤ 768) (k : Fin 2048) (j : Fin 256) :
    c13At c13 o h (ix3 0 k j) = c13 (ix3 0 k ⟨o + j.val, by omega⟩) := by
  refine congrArg c13 (funext fun a => Fin.ext ?_)
  rw [Rect.emb_apply]
  match a with
  | ⟨0, _⟩ => rfl
  | ⟨1, _⟩ => show 0 + 1 * k.val = k.val; omega
  | ⟨2, _⟩ => show o + 1 * j.val = o + j.val; omega

theorem s13At_at (s : Vec Ideal S1x16x768 .bf16) (o : Nat) (h : o + 256 ≤ 768) (k : Fin 16) (j : Fin 256) :
    s13At s o h (ix3 0 k j) = s (ix3 0 k ⟨o + j.val, by omega⟩) := by
  refine congrArg s (funext fun a => Fin.ext ?_)
  rw [Rect.emb_apply]
  match a with
  | ⟨0, _⟩ => rfl
  | ⟨1, _⟩ => show 0 + 1 * k.val = k.val; omega
  | ⟨2, _⟩ => show o + 1 * j.val = o + j.val; omega

theorem c2At_at (o : Nat) (h : o + 256 ≤ 1024) (k : Fin 768) (j : Fin 256) :
    c2At c2 o h (ix3 0 k j) = c2 (ix3 0 k ⟨o + j.val, by omega⟩) := by
  refine congrArg c2 (funext fun a => Fin.ext ?_)
  rw [Rect.emb_apply]
  match a with
  | ⟨0, _⟩ => rfl
  | ⟨1, _⟩ => show 0 + 1 * k.val = k.val; omega
  | ⟨2, _⟩ => show o + 1 * j.val = o + j.val; omega

theorem s2At_at (o : Nat) (h : o + 256 ≤ 2048) (k : Fin 6) (j : Fin 256) :
    s2At s2 o h (ix3 0 k j) = s2 (ix3 0 k ⟨o + j.val, by omega⟩) := by
  refine congrArg s2 (funext fun a => Fin.ext ?_)
  rw [Rect.emb_apply]
  match a with
  | ⟨0, _⟩ => rfl
  | ⟨1, _⟩ => show 0 + 1 * k.val = k.val; omega
  | ⟨2, _⟩ => show o + 1 * j.val = o + j.val; omega

theorem hidT_at (o : Nat) (h : o + 256 ≤ 768) (r : Fin 64) (j : Fin 256) :
    hidT (tA X) (c13At c13 o h) (s13At sg o h) (s13At su o h) (ix2 r j) = hidB X c13 sg su r ⟨o + j.val, by omega⟩ := by
  show (mm _ _ (ix2 r j) * Ideal.logistic (mm _ _ (ix2 r j))) * mm _ _ (ix2 r j) = _
  rw [gate_at, up_at]
  have eg : (∑ k : Fin 2048, tA X (ix2 r k) * (nLo (c13At c13 o h (ix3 0 k j)) * s13At sg o h (ix3 0 ⟨k.val / 128, by omega⟩ j)))
      = ∑ k : Fin 2048, X (ix2 r k) * (nLo (c13 (ix3 0 k ⟨o + j.val, by omega⟩)) * sg (ix3 0 ⟨k.val / 128, by omega⟩ ⟨o + j.val, by omega⟩)) :=
    Finset.sum_congr rfl fun k _ => by rw [c13At_at, s13At_at]; rfl
  have eu : (∑ k : Fin 2048, tA X (ix2 r k) * (nHi (c13At c13 o h (ix3 0 k j)) * s13At su o h (ix3 0 ⟨k.val / 128, by omega⟩ j)))
      = ∑ k : Fin 2048, X (ix2 r k) * (nHi (c13 (ix3 0 k ⟨o + j.val, by omega⟩)) * su (ix3 0 ⟨k.val / 128, by omega⟩ ⟨o + j.val, by omega⟩)) :=
    Finset.sum_congr rfl fun k _ => by rw [c13At_at, s13At_at]; rfl
  rw [eg, eu]
  rfl

theorem h0_at (r : Fin 64) (j : Fin 256) : h0 X c13 sg su (ix2 r j) = hidB X c13 sg su r ⟨0 + j.val, by omega⟩ :=
  hidT_at X c13 sg su 0 (by decide) r j

theorem h1_at (r : Fin 64) (j : Fin 256) : h1 X c13 sg su (ix2 r j) = hidB X c13 sg su r ⟨256 + j.val, by omega⟩ :=
  hidT_at X c13 sg su 256 (by decide) r j

theorem h2_eq : h2 X c13 sg su = hidT (tA X) (c13At c13 512 (by decide)) (s13At sg 512 (by decide)) (s13At su 512 (by decide)) := by
  unfold h2 k0_pay22 hidT mm k0_pay15 k0_pay16 k0_pay14
  rfl

theorem h2_at (r : Fin 64) (j : Fin 256) : h2 X c13 sg su (ix2 r j) = hidB X c13 sg su r ⟨512 + j.val, by omega⟩ := by
  rw [h2_eq]
  exact hidT_at X c13 sg su 512 (by decide) r j

theorem cat_at (a b : FVec Ideal S64x256 .bf16) (c : FVec Ideal S64x256 .f32) (r : Fin 64) (j : Fin 768) :
    k0_pay23 a b c (ix2 r j) = if h : j.val < 256 then a (ix2 r ⟨j.val, h⟩)
      else if h : j.val - 256 < 256 then b (ix2 r ⟨j.val - 256, h⟩) else c (ix2 r ⟨j.val - 256 - 256, by omega⟩) := by
  pointwise [k0_pay23]

theorem hid_at (r : Fin 64) (j : Fin 768) : hid X c13 sg su (ix2 r j) = hidB X c13 sg su r j := by
  unfold hid
  rw [cat_at]
  split
  · rw [h0_at]; congr 1; exact Fin.ext (by show 0 + j.val = j.val; omega)
  · split
    · rw [h1_at]; congr 1; exact Fin.ext (by show 256 + (j.val - 256) = j.val; omega)
    · rw [h2_at]; congr 1; exact Fin.ext (by show 512 + (j.val - 256 - 256) = j.val; omega)

/-! ### The result tile -/

/-- A product of the hidden layer with a tile of weights, over sixteen. -/
def mmD (b : FVec Ideal S768x256 .bf16) : FVec Ideal S64x256 .f32 :=
  mulf (matmul dot_S64x768_S768x256_S64x256_1_0_0_1_n_n none (hid X c13 sg su) b (constant S64x256 .f32 0x00000000#32))
    (broadcast S64x256 (Scalar.ofBits .f32 0x3D800000#32))

theorem lo_row (o : Nat) (h : o + 256 ≤ 1024) (r : Fin 64) (j : Fin 256) :
    mmD X c13 sg su (loD (c2At c2 o h) (s2At s2 o (by omega))) (ix2 r j) = rowB X c13 sg su c2 s2 r ⟨o + j.val, by omega⟩ := by
  refine (mm2_at _ _ r j).trans ((congrArg (· * ((1 / 16 : ℝ) : EReal)) (Finset.sum_congr rfl fun k _ => ?_)).trans
    ((sum_sixteen (hidB X c13 sg su r) (fun k : Fin 768 => s2 (ix3 0 ⟨k.val / 128, by omega⟩ ⟨o + j.val, by omega⟩))
      (fun k => ((c2 (ix3 0 k ⟨o + j.val, by omega⟩) : BitVec 8) <<< (4 : Nat)).toInt / 16)).trans ?_))
  · rw [loD_at, hid_at, c2At_at, s2At_at]
  · unfold rowB rowS
    rw [dif_pos (show o + j.val < 1024 by omega)]
    rfl

theorem hi_row (o : Nat) (h : o + 256 ≤ 1024) (r : Fin 64) (j : Fin 256) :
    mmD X c13 sg su (hiD (c2At c2 o h) (s2At s2 (1024 + o) (by omega))) (ix2 r j)
      = rowB X c13 sg su c2 s2 r ⟨1024 + o + j.val, by omega⟩ := by
  refine (mm2_at _ _ r j).trans ((congrArg (· * ((1 / 16 : ℝ) : EReal)) (Finset.sum_congr rfl fun k _ => ?_)).trans
    ((sum_sixteen (hidB X c13 sg su r) (fun k : Fin 768 => s2 (ix3 0 ⟨k.val / 128, by omega⟩ ⟨1024 + o + j.val, by omega⟩))
      (fun k => ((c2 (ix3 0 k ⟨o + j.val, by omega⟩) : BitVec 8) &&& 0xF0#8).toInt / 16)).trans ?_))
  · rw [hiD_at, hid_at, c2At_at, s2At_at]
  · unfold rowB rowS
    rw [dif_neg (show ¬ (1024 + o + j.val) < 1024 by omega)]
    refine Finset.sum_congr rfl fun k _ => ?_
    rw [show (⟨(1024 + o + j.val) - 1024, by omega⟩ : Fin 1024) = ⟨o + j.val, by omega⟩ from Fin.ext (by show 1024 + o + j.val - 1024 = o + j.val; omega)]
    rfl

/-- A tile with 256 of its columns replaced, at an index. -/
theorem c64_at (o : Nat) (h : o + 256 ≤ 2048) (Y : Vec Ideal S64x2048 .f32) (G : FVec Ideal S64x256 .f32) (r : Fin 64) (d : Fin 2048) :
    (c64 o h).overlay Y G (ix2 r d)
      = if hd : o ≤ d.val ∧ d.val < o + 256 then G (ix2 r ⟨d.val - o, by omega⟩) else Y (ix2 r d) := by
  split
  · next hd =>
    have e : (ix2 r d : S64x2048.Idx) = (c64 o h).emb (ix2 r ⟨d.val - o, by omega⟩ : S64x256.Idx) := by
      refine funext fun a => Fin.ext ?_
      rw [Rect.emb_apply]
      match a with
      | ⟨0, _⟩ => show r.val = 0 + 1 * r.val; omega
      | ⟨1, _⟩ => show d.val = o + 1 * (d.val - o); omega
    rw [e]
    exact Rect.overlay_emb _ _ _ _
  · next hd =>
    refine Rect.overlay_of_not_mem _ _ _ fun hm => hd ?_
    have := (Rect.mem_set_unit.1 hm) 1
    exact this

theorem row_eq (G : FVec Ideal S64x256 .f32) (o : Nat) (ho : o + 256 ≤ 2048) (r : Fin 64) (d : Fin 2048)
    (hG : ∀ j : Fin 256, G (ix2 r j) = rowB X c13 sg su c2 s2 r ⟨o + j.val, by omega⟩)
    (Y : Vec Ideal S64x2048 .f32) (hY : ¬ (o ≤ d.val ∧ d.val < o + 256) → Y (ix2 r d) = rowB X c13 sg su c2 s2 r d) :
    (c64 o ho).overlay Y G (ix2 r d) = rowB X c13 sg su c2 s2 r d := by
  rw [c64_at]
  split
  · rw [hG]; congr 1; exact Fin.ext (by show o + (d.val - o) = d.val; omega)
  · next h => exact hY h

theorem ident (G : FVec Ideal S64x256 .f32) (h : S64x256.ShapeCasts S64x256) (r : Fin 64) (j : Fin 256) :
    shapeCast S64x256 G h (ix2 r j) = G (ix2 r j) := shapeCast_apply G h _ _ rfl

/-- Row `r` of the result tile is the slot's network applied to row `r` of the gathered tile. -/
theorem ogTile_at (O : Vec Ideal S64x2048 .f32) (r : Fin 64) (d : Fin 2048) :
    ogTile X c13 sg su c2 s2 O (ix2 r d) = rowB X c13 sg su c2 s2 r d := by
  unfold ogTile
  refine row_eq X c13 sg su c2 s2 _ 1792 _ r d (fun j => (ident _ _ r j).trans (hi_row X c13 sg su c2 s2 768 (by decide) r j)) _ fun n8 => ?_
  refine row_eq X c13 sg su c2 s2 _ 768 _ r d (fun j => (ident _ _ r j).trans (lo_row X c13 sg su c2 s2 768 (by decide) r j)) _ fun n7 => ?_
  refine row_eq X c13 sg su c2 s2 _ 1536 _ r d (fun j => (ident _ _ r j).trans (hi_row X c13 sg su c2 s2 512 (by decide) r j)) _ fun n6 => ?_
  refine row_eq X c13 sg su c2 s2 _ 512 _ r d (fun j => (ident _ _ r j).trans (lo_row X c13 sg su c2 s2 512 (by decide) r j)) _ fun n5 => ?_
  refine row_eq X c13 sg su c2 s2 _ 1280 _ r d (fun j => (ident _ _ r j).trans (hi_row X c13 sg su c2 s2 256 (by decide) r j)) _ fun n4 => ?_
  refine row_eq X c13 sg su c2 s2 _ 256 _ r d (fun j => (ident _ _ r j).trans (lo_row X c13 sg su c2 s2 256 (by decide) r j)) _ fun n3 => ?_
  refine row_eq X c13 sg su c2 s2 _ 1024 _ r d (fun j => (ident _ _ r j).trans (hi_row X c13 sg su c2 s2 0 (by decide) r j)) _ fun n2 => ?_
  refine row_eq X c13 sg su c2 s2 _ 0 _ r d (fun j => (ident _ _ r j).trans (lo_row X c13 sg su c2 s2 0 (by decide) r j)) _ fun n1 => ?_
  have := d.isLt
  omega

end Hid

end Cert.KernelIdeal.Tile
-- ==== Proof.Inv.lean ====
/- What the two results hold while the pairs are handled: the rows of the pairs so far, and each token's weighted sum of them. -/
module

public import proofs.«01_k».proof.Proof.Lists
public import proofs.«01_k».proof.Proof.Tile

@[expose] public section

set_option maxRecDepth 16384

noncomputable section

namespace Cert.KernelIdeal.Inv

open Idealize.ShloMosaic
open Cert.KernelIdeal Cert.KernelIdeal.Gen Cert.KernelIdeal.Blk Cert.KernelIdeal.Body Cert.KernelIdeal.Tile Cert.Spec

variable (sf : IVec S2048 32)

/-- The number of pair `p`'s slot word. -/
def slotN (p : Fin 2048) : Nat := (sf (ix1 p)).toNat

theorem hits_slot (s : Nat) (hs : s < 48) (p : Fin 2048) : Iff (Hits sf s p.val) (slotN sf p = s) := by
  rw [hits_iff]
  unfold slotN
  constructor
  · intro h; rw [h, BitVec.toNat_ofNat]; omega
  · intro h; rw [← h, BitVec.ofNat_toNat, BitVec.setWidth_eq]

/-- Pair `p` is handled once the first `n` pairs of slot `s`, and all of the slots before, are. -/
def Dn (s n : Nat) (p : Fin 2048) : Prop := slotN sf p < s ∨ (slotN sf p = s ∧ Nat.count (Hits sf s) p.val < n)

instance (s n : Nat) (p : Fin 2048) : Decidable (Dn sf s n p) := by unfold Dn; infer_instance

theorem dn_start (p : Fin 2048) : ¬ Dn sf 0 0 p := by unfold Dn; omega

/-- Handling slot `s`'s pair `q` adds that pair alone. -/
theorem dn_step (s n : Nat) (hs : s < 48) (p q : Fin 2048) (hq : Hits sf s q.val) (hn : Nat.count (Hits sf s) q.val = n) :
    Iff (Dn sf s (n + 1) p) (Dn sf s n p ∨ p = q) := by
  have eq := (hits_slot sf s hs q).1 hq
  constructor
  · rintro (h | ⟨h, h'⟩)
    · exact Or.inl (Or.inl h)
    · by_cases e : Nat.count (Hits sf s) p.val = n
      · exact Or.inr (Fin.ext (Nat.count_injective ((hits_slot sf s hs p).2 h) hq (by omega)))
      · exact Or.inl (Or.inr ⟨h, by omega⟩)
  · rintro ((h | ⟨h, h'⟩) | h)
    · exact Or.inl h
    · exact Or.inr ⟨h, by omega⟩
    · subst h; exact Or.inr ⟨eq, by omega⟩

theorem dn_new (s n : Nat) (hs : s < 48) (q : Fin 2048) (hq : Hits sf s q.val) (hn : Nat.count (Hits sf s) q.val = n) : ¬ Dn sf s n q := by
  have eq := (hits_slot sf s hs q).1 hq
  unfold Dn
  omega

/-- With all of slot `s`'s pairs handled, the next slot begins. -/
theorem dn_next (s : Nat) (hs : s < 48) (p : Fin 2048) : Iff (Dn sf s (Nat.count (Hits sf s) 2048) p) (Dn sf (s + 1) 0 p) := by
  constructor
  · rintro (h | ⟨h, _⟩)
    · exact Or.inl (by omega)
    · exact Or.inl (by omega)
  · rintro (h | ⟨_, h⟩)
    · by_cases e : slotN sf p = s
      · exact Or.inr ⟨e, count_lt sf s p.val ((hits_slot sf s hs p).2 e)⟩
      · exact Or.inl (by omega)
    · omega

variable (x : Vec Ideal S256x2048 .bf16) (A1 : Vec Ideal S48x2048x768 .i8) (A2 A3 : Vec Ideal S48x16x768 .bf16)
  (A4 : Vec Ideal S48x768x1024 .i8) (A5 : Vec Ideal S48x6x2048 .bf16) (wt : Vec Ideal S2048 .f32)

/-- Slot `s`'s row for token `t`. -/
def rowAt (s : Fin 48) (t : Fin 256) (d : Fin 2048) : EReal :=
  rowS (fun k => x (ix2 t k)) (fun k j => A1 (ix3 s k j)) (fun g j => A2 (ix3 s g j)) (fun g j => A3 (ix3 s g j))
    (fun k j => A4 (ix3 s k j)) (fun g j => A5 (ix3 s g j)) d

/-- Pair `p`'s row: its slot's row for its token, and zero if it has no slot. -/
def rowP (p d : Fin 2048) : EReal :=
  if h : slotN sf p < 48 then rowAt x A1 A2 A3 A4 A5 ⟨slotN sf p, h⟩ ⟨p.val / 8, by omega⟩ d else 0

/-- The `k`-th pair of token `t`. -/
def pr (t : Fin 256) (k : Fin 8) : Fin 2048 := ⟨8 * t.val + k.val, by omega⟩

/-- The per-pair result so far. -/
def JE (s n : Nat) (E : Vec Ideal S2048x2048 .f32) : Prop :=
  ∀ p d : Fin 2048, E (ix2 p d) = if Dn sf s n p then rowP sf x A1 A2 A3 A4 A5 p d else 0

/-- The accumulator so far. -/
def JY (s n : Nat) (Y : Vec Ideal S256x2048 .f32) : Prop :=
  ∀ (t : Fin 256) (d : Fin 2048), Y (ix2 t d)
    = ∑ k : Fin 8, if Dn sf s n (pr t k) then wt (ix1 (pr t k)) * rowP sf x A1 A2 A3 A4 A5 (pr t k) d else 0

theorem je_start : JE sf x A1 A2 A3 A4 A5 0 0 (k0_pay3 (F := Ideal)) := fun p d => by
  rw [if_neg (dn_start sf p)]
  exact Ideal.ofBits_zero_f32

theorem jy_start : JY sf x A1 A2 A3 A4 A5 wt 0 0 (k0_pay2 (F := Ideal)) := fun t d => by
  rw [Finset.sum_eq_zero fun k _ => if_neg (dn_start sf (pr t k))]
  exact Ideal.ofBits_zero_f32

theorem je_next (s : Nat) (hs : s < 48) (E : Vec Ideal S2048x2048 .f32)
    (h : JE sf x A1 A2 A3 A4 A5 s (Nat.count (Hits sf s) 2048) E) : JE sf x A1 A2 A3 A4 A5 (s + 1) 0 E := fun p d => by
  rw [h p d, if_congr (dn_next sf s hs p) rfl rfl]

theorem jy_next (s : Nat) (hs : s < 48) (Y : Vec Ideal S256x2048 .f32)
    (h : JY sf x A1 A2 A3 A4 A5 wt s (Nat.count (Hits sf s) 2048) Y) : JY sf x A1 A2 A3 A4 A5 wt (s + 1) 0 Y := fun t d => by
  rw [h t d]
  exact Finset.sum_congr rfl fun k _ => if_congr (dn_next sf s hs (pr t k)) rfl rfl

/-! ### One pair -/

theorem r64_emb (r : Nat) (hr : r < 64) (d : Fin 2048) : (r64 r hr).emb (ix2 (0 : Fin 1) d) = ix2 (⟨r, hr⟩ : Fin 64) d := by
  funext a
  apply Fin.ext
  match a with
  | ⟨0, _⟩ => show r + 1 * 0 = r; omega
  | ⟨1, _⟩ => show 0 + 1 * d.val = d.val; omega

theorem r256_emb (r : Nat) (hr : r < 256) (d : Fin 2048) : (r256 r hr).emb (ix2 (0 : Fin 1) d) = ix2 (⟨r, hr⟩ : Fin 256) d := by
  funext a
  apply Fin.ext
  match a with
  | ⟨0, _⟩ => show r + 1 * 0 = r; omega
  | ⟨1, _⟩ => show 0 + 1 * d.val = d.val; omega

theorem r2048_emb (r : Nat) (hr : r < 2048) (d : Fin 2048) : (r2048 r hr).emb (ix2 (0 : Fin 1) d) = ix2 (⟨r, hr⟩ : Fin 2048) d := by
  funext a
  apply Fin.ext
  match a with
  | ⟨0, _⟩ => show r + 1 * 0 = r; omega
  | ⟨1, _⟩ => show 0 + 1 * d.val = d.val; omega

theorem putE_at (O : Vec Ideal S64x2048 .f32) (r : Nat) (hr : r < 64) (q : Nat) (hq : q < 2048) (E : Vec Ideal S2048x2048 .f32)
    (p d : Fin 2048) : putE O r hr q hq E (ix2 p d) = if p.val = q then O (ix2 (⟨r, hr⟩ : Fin 64) d) else E (ix2 p d) := by
  unfold putE
  split
  · next h =>
    have e : (ix2 p d : S2048x2048.Idx) = (r2048 q hq).emb (ix2 (0 : Fin 1) d) := by
      rw [r2048_emb]; congr 1; exact Fin.ext h
    rw [e, Rect.overlay_emb, r64_emb]
  · next h =>
    refine Rect.overlay_of_not_mem _ _ _ fun hm => h ?_
    have := Rect.mem_set_unit.1 hm 0
    have h1 : q ≤ p.val := this.1
    have h2 : p.val < q + 1 := this.2
    omega

/-- A row of the accumulator with the weighted row added. -/
theorem pay5_at (a b : Vec Ideal S1x2048 .f32) (w : Elt Ideal .f32) (d : Fin 2048) :
    k0_pay5 a b w (ix2 (0 : Fin 1) d) = b (ix2 (0 : Fin 1) d) + w * a (ix2 (0 : Fin 1) d) := by
  unfold k0_pay5
  exact shapeCast_apply _ _ _ (ix2 (0 : Fin 1) d) rfl

theorem putY_at (O : Vec Ideal S64x2048 .f32) (r : Nat) (hr : r < 64) (q : Nat) (hq : q < 2048) (Y : Vec Ideal S256x2048 .f32)
    (t : Fin 256) (d : Fin 2048) :
    putY wt O r hr q hq Y (ix2 t d)
      = if t.val = q / 8 then Y (ix2 t d) + wt (ix1 ⟨q, hq⟩) * O (ix2 (⟨r, hr⟩ : Fin 64) d) else Y (ix2 t d) := by
  unfold putY
  split
  · next h =>
    have e : (ix2 t d : S256x2048.Idx) = (r256 (q / 8) (by omega)).emb (ix2 (0 : Fin 1) d) := by
      rw [r256_emb]; congr 1; exact Fin.ext h
    rw [e, Rect.overlay_emb]
    rw [pay5_at, r64_emb]
  · next h =>
    refine Rect.overlay_of_not_mem _ _ _ fun hm => h ?_
    have := Rect.mem_set_unit.1 hm 0
    have h1 : q / 8 ≤ t.val := this.1
    have h2 : t.val < q / 8 + 1 := this.2
    omega

/-- A row of the gathered tile gives the slot's row for the pair's token. -/
theorem tile_row (s : Fin 48) (X O : Vec Ideal S64x2048 .f32) (r : Fin 64) (t : Fin 256)
    (hX : ∀ k : Fin 2048, X (ix2 r k) = x (ix2 t k)) (d : Fin 2048) :
    ogTile X (b1 A1 s) (b2 A2 s) (b2 A3 s) (b4 A4 s) (b5 A5 s) O (ix2 r d) = rowAt x A1 A2 A3 A4 A5 s t d := by
  rw [ogTile_at]
  unfold rowB rowAt
  rw [funext hX]
  rfl

theorem je_step (s n : Nat) (hs : s < 48) (q : Fin 2048) (hq : Hits sf s q.val) (hn : Nat.count (Hits sf s) q.val = n)
    (O : Vec Ideal S64x2048 .f32) (r : Nat) (hr : r < 64)
    (hO : ∀ d, O (ix2 (⟨r, hr⟩ : Fin 64) d) = rowP sf x A1 A2 A3 A4 A5 q d) (E : Vec Ideal S2048x2048 .f32)
    (h : JE sf x A1 A2 A3 A4 A5 s n E) : JE sf x A1 A2 A3 A4 A5 s (n + 1) (putE O r hr q.val q.isLt E) := fun p d => by
  rw [putE_at]
  by_cases e : p = q
  · subst e
    rw [if_pos rfl, if_pos ((dn_step sf s n hs p p hq hn).2 (Or.inr rfl)), hO]
  · rw [if_neg fun h => e (Fin.ext h), h p d]
    refine if_congr ?_ rfl rfl
    rw [dn_step sf s n hs p q hq hn]
    exact ⟨Or.inl, fun h => h.resolve_right e⟩

theorem jy_step (s n : Nat) (hs : s < 48) (q : Fin 2048) (hq : Hits sf s q.val) (hn : Nat.count (Hits sf s) q.val = n)
    (O : Vec Ideal S64x2048 .f32) (r : Nat) (hr : r < 64)
    (hO : ∀ d, O (ix2 (⟨r, hr⟩ : Fin 64) d) = rowP sf x A1 A2 A3 A4 A5 q d) (Y : Vec Ideal S256x2048 .f32)
    (h : JY sf x A1 A2 A3 A4 A5 wt s n Y) : JY sf x A1 A2 A3 A4 A5 wt s (n + 1) (putY wt O r hr q.val q.isLt Y) := fun t d => by
  rw [putY_at, h t d, hO]
  have split (k : Fin 8) : (if Dn sf s (n + 1) (pr t k) then wt (ix1 (pr t k)) * rowP sf x A1 A2 A3 A4 A5 (pr t k) d else 0)
      = (if Dn sf s n (pr t k) then wt (ix1 (pr t k)) * rowP sf x A1 A2 A3 A4 A5 (pr t k) d else 0)
        + (if pr t k = q then wt (ix1 q) * rowP sf x A1 A2 A3 A4 A5 q d else 0) := by
    by_cases e : pr t k = q
    · rw [e, if_pos ((dn_step sf s n hs q q hq hn).2 (Or.inr rfl)), if_neg (dn_new sf s n hs q hq hn), if_pos rfl, zero_add]
    · rw [if_neg e, add_zero]
      refine if_congr ?_ rfl rfl
      rw [dn_step sf s n hs (pr t k) q hq hn]
      exact ⟨fun h => h.resolve_right e, Or.inl⟩
  rw [Finset.sum_congr rfl fun k _ => split k, Finset.sum_add_distrib]
  have hql := q.isLt
  generalize (∑ k : Fin 8, if Dn sf s n (pr t k) then wt (ix1 (pr t k)) * rowP sf x A1 A2 A3 A4 A5 (pr t k) d else 0) = S
  by_cases e : t.val = q.val / 8
  · rw [if_pos e, Finset.sum_eq_single (⟨q.val % 8, by omega⟩ : Fin 8)]
    · have e' : pr t ⟨q.val % 8, by omega⟩ = q := Fin.ext (by show 8 * t.val + q.val % 8 = q.val; omega)
      rw [if_pos e']
    · intro k _ hk
      refine if_neg fun h => hk (Fin.ext ?_)
      have : 8 * t.val + k.val = q.val := congrArg Fin.val h
      show k.val = q.val % 8
      omega
    · intro h; exact absurd (Finset.mem_univ _) h
  · have z (k : Fin 8) : (if pr t k = q then wt (ix1 q) * rowP sf x A1 A2 A3 A4 A5 q d else 0) = 0 := by
      refine if_neg fun h => e ?_
      have : 8 * t.val + k.val = q.val := congrArg Fin.val h
      have := k.isLt
      omega
    rw [if_neg e, Finset.sum_eq_zero fun k _ => z k, add_zero]

/-! ### A slot's pairs -/

variable (hc : ∀ s : Fin 48, Nat.count (Hits sf s.val) 2048 ≤ 256)

/-- The pair that `n` of slot `s`'s pairs precede. -/
theorem pair_of (s n : Nat) (hn : n < Nat.count (Hits sf s) 2048) : ∃ q : Fin 2048, Hits sf s q.val ∧ Nat.count (Hits sf s) q.val = n := by
  have key : ∀ N, n < Nat.count (Hits sf s) N → ∃ q, Hits sf s q ∧ Nat.count (Hits sf s) q = n := by
    intro N
    induction N with
    | zero => intro h; rw [Nat.count_zero] at h; omega
    | succ N ih =>
      intro h
      by_cases hN : n < Nat.count (Hits sf s) N
      · exact ih hN
      · rw [Nat.count_succ] at h
        split at h
        · next hh => exact ⟨N, hh, by omega⟩
        · omega
  obtain ⟨q, h1, h2⟩ := key 2048 hn
  exact ⟨⟨q, h1.1⟩, h1, h2⟩

theorem pairAt_congr (lst : Vec Ideal S12288 .i32) {n n' : Nat} (e : n = n') (h : n < 12288) (h' : n' < 12288) :
    pairAt lst n h = pairAt lst n' h' := by
  subst e; rfl

include hc in
theorem pairAt_eq (s : Fin 48) (n : Nat) (hb : s.val * 256 + n < 12288) (q : Fin 2048) (hq : Hits sf s.val q.val)
    (hqn : Nat.count (Hits sf s.val) q.val = n) : (pairAt (F := Ideal) (lstOf sf) (s.val * 256 + n) hb).toNat = q.val := by
  subst hqn
  have hql := q.isLt
  have e : pairAt (F := Ideal) (lstOf sf) _ hb = BitVec.ofNat 32 q.val := lst_at sf hc s q hq hb
  rw [e, BitVec.toNat_ofNat]
  omega

theorem pay1_at (t : Fin 256) (k : Fin 2048) : k0_pay1 x (ix2 t k) = x (ix2 t k) := by
  pointwise [k0_pay1]

/-- A gathered row is its pair's token. -/
theorem gathered_row (lst : Vec Ideal S12288 .i32) (b n : Nat) (X : Vec Ideal S64x2048 .f32) (hX : Gathered lst (k0_pay1 x) b n X)
    (r : Nat) (hr : r < n) (hr' : r < 64) (hb : b + r < 12288) (q : Fin 2048) (e : (pairAt lst (b + r) hb).toNat = q.val) (k : Fin 2048) :
    X (ix2 (⟨r, hr'⟩ : Fin 64) k) = x (ix2 (⟨q.val / 8, by omega⟩ : Fin 256) k) := by
  have hql := q.isLt
  have g := congrFun (hX r hr hr' hb (by omega)) (ix2 (0 : Fin 1) k)
  rw [r64_emb, r256_emb] at g
  rw [g, pay1_at]
  exact congrArg (fun t : Fin 256 => x (ix2 t k)) (Fin.ext (congrArg (· / 8) e))

include hc in
/-- The handling of every pair keeps both. -/
theorem step_ok (s : Fin 48) :
    StepOK (lstOf sf) wt (k0_pay1 x) (b1 A1 s) (b2 A2 s) (b2 A3 s) (b4 A4 s) (b5 A5 s) s.val (Nat.count (Hits sf s.val) 2048)
      (fun n E Y => JE sf x A1 A2 A3 A4 A5 s.val n E ∧ JY sf x A1 A2 A3 A4 A5 wt s.val n Y) := by
  intro b r hr hn hb hp X O hX E Y hJ
  obtain ⟨q, hq, hqn⟩ := pair_of sf s.val (b + r) hn
  have hql := q.isLt
  have ep := pairAt_eq sf hc s (b + r) hb q hq hqn
  have ea : s.val * 256 + b + r = s.val * 256 + (b + r) := Nat.add_assoc _ _ _
  have hXr := gathered_row x (lstOf sf) (s.val * 256 + b) _ X hX r (by omega) hr (ea ▸ hb) q
    ((congrArg BitVec.toNat (pairAt_congr (lstOf sf) ea _ hb)).trans ep)
  have hO (d : Fin 2048) : ogTile X (b1 A1 s) (b2 A2 s) (b2 A3 s) (b4 A4 s) (b5 A5 s) O (ix2 (⟨r, hr⟩ : Fin 64) d)
      = rowP sf x A1 A2 A3 A4 A5 q d := by
    rw [tile_row x A1 A2 A3 A4 A5 s X O ⟨r, hr⟩ ⟨q.val / 8, by omega⟩ hXr d]
    have es := (hits_slot sf s.val s.isLt q).1 hq
    unfold rowP
    rw [dif_pos (by rw [es]; exact s.isLt)]
    exact congrArg (fun s => rowAt x A1 A2 A3 A4 A5 s ⟨q.val / 8, by omega⟩ d) (Fin.ext es.symm)
  have hE := je_step sf x A1 A2 A3 A4 A5 s.val (b + r) s.isLt q hq hqn _ r hr hO E hJ.1
  have hY := jy_step sf x A1 A2 A3 A4 A5 wt s.val (b + r) s.isLt q hq hqn _ r hr hO Y hJ.2
  have cast : ∀ (q' : Nat) (hq' : q' < 2048), q' = q.val →
      JE sf x A1 A2 A3 A4 A5 s.val (b + r + 1) (putE (ogTile X (b1 A1 s) (b2 A2 s) (b2 A3 s) (b4 A4 s) (b5 A5 s) O) r hr q' hq' E) ∧
      JY sf x A1 A2 A3 A4 A5 wt s.val (b + r + 1) (putY wt (ogTile X (b1 A1 s) (b2 A2 s) (b2 A3 s) (b4 A4 s) (b5 A5 s) O) r hr q' hq' Y) := by
    intro q' hq' e
    subst e
    exact ⟨hE, hY⟩
  exact cast _ hp ep

/-! ### The end -/

/-- After the last slot every pair with a slot is handled. -/
theorem dn_end (p : Fin 2048) : Iff (Dn sf 47 (Nat.count (Hits sf 47) 2048) p) (slotN sf p < 48) := by
  rw [dn_next sf 47 (by norm_num) p]
  unfold Dn
  omega

theorem je_end (E : Vec Ideal S2048x2048 .f32) (h : JE sf x A1 A2 A3 A4 A5 47 (Nat.count (Hits sf 47) 2048) E) (p d : Fin 2048) :
    E (ix2 p d) = rowP sf x A1 A2 A3 A4 A5 p d := by
  rw [h p d, if_congr (dn_end sf p) rfl rfl]
  split
  · rfl
  · next h => unfold rowP; rw [dif_neg h]

theorem jy_end (Y : Vec Ideal S256x2048 .f32) (h : JY sf x A1 A2 A3 A4 A5 wt 47 (Nat.count (Hits sf 47) 2048) Y) (t : Fin 256) (d : Fin 2048) :
    Y (ix2 t d) = ∑ k : Fin 8, wt (ix1 (pr t k)) * rowP sf x A1 A2 A3 A4 A5 (pr t k) d := by
  rw [h t d]
  refine Finset.sum_congr rfl fun k _ => ?_
  rw [if_congr (dn_end sf (pr t k)) rfl rfl]
  split
  · rfl
  · next h => unfold rowP; rw [dif_neg h, mul_zero]

end Cert.KernelIdeal.Inv
-- ==== Proof.RefRead.lean ====
/- The reference read at an index: its expert table is the shared row function, at every slot, token and column. -/
module

public import proofs.«01_k».proof.Proof.Spec
public import proofs.«01_k».proof.Proof.Gen.ReferenceIdeal.Read

@[expose] public section

set_option maxRecDepth 16384

noncomputable section

namespace Cert.ReferenceIdeal.Rows

open Idealize.ShloMosaic Cert.ReferenceIdeal Cert.ReferenceIdeal.Gen Cert.ReferenceIdeal.Read Cert.Spec

variable (x0 : (⟨S256x1x2048, .bf16⟩ : BufTy).Contents (Elt Ideal)) (x4 : (⟨S48x2048x768, .i8⟩ : BufTy).Contents (Elt Ideal))
  (x5 x6 : (⟨S48x16x768, .bf16⟩ : BufTy).Contents (Elt Ideal)) (x7 : (⟨S48x768x1024, .i8⟩ : BufTy).Contents (Elt Ideal))
  (x8 : (⟨S48x6x2048, .bf16⟩ : BufTy).Contents (Elt Ideal))

/-! ### Codes -/

theorem lo_word (b : BitVec 8) :
    (Scalar.select (IntOp.cmpi .sge (IntOp.andi (b.setWidth 32) 15#32) 8#32) (IntOp.subi (IntOp.andi (b.setWidth 32) 15#32) 16#32)
      (IntOp.andi (b.setWidth 32) 15#32)).toInt = (b <<< (4 : Nat)).toInt / 16 := by
  revert b; decide

theorem hi_word (b : BitVec 8) :
    (Scalar.select (IntOp.cmpi .sge (IntOp.shrsi .host (b.setWidth 32) 4#32) 8#32)
      (IntOp.subi (IntOp.shrsi .host (b.setWidth 32) 4#32) 16#32) (IntOp.shrsi .host (b.setWidth 32) 4#32)).toInt
      = (b &&& 0xF0#8).toInt / 16 := by
  revert b; decide

theorem v41_at (i : S48x2048x768.Idx) : val_main_v41 (F := Ideal) x4 i = nLo (x4 i) :=
  congrArg (fun z : Int => ((z : ℝ) : EReal)) (lo_word (x4 i))

theorem v47_at (i : S48x2048x768.Idx) : val_main_v47 (F := Ideal) x4 i = nHi (x4 i) :=
  congrArg (fun z : Int => ((z : ℝ) : EReal)) (hi_word (x4 i))

theorem v74_at (i : S48x768x1024.Idx) : val_main_v74 (F := Ideal) x7 i = nLo (x7 i) :=
  congrArg (fun z : Int => ((z : ℝ) : EReal)) (lo_word (x7 i))

theorem v81_at (i : S48x768x1024.Idx) : val_main_v81 (F := Ideal) x7 i = nHi (x7 i) :=
  congrArg (fun z : Int => ((z : ℝ) : EReal)) (hi_word (x7 i))

/-! ### Weights -/

theorem digits_up (N : Nat) : ((N / 1572864 * 16 + N / 98304 % 16) * 128 + N / 768 % 128) * 768 + N % 768 = N := by omega

theorem digits_down (N : Nat) : ((N / 786432 * 6 + N / 131072 % 6) * 128 + N / 1024 % 128) * 1024 + N % 1024 = N := by omega

theorem up_self (s : Fin 48) (k : Fin 2048) (j : Fin 768) : idx_main_v42 (idx_main_v46 (ix3 s k j)) = ix3 s k j := by
  have hs := s.isLt; have hk := k.isLt; have hj := j.isLt
  have e := digits_up ((s.val * 2048 + k.val) * 768 + j.val)
  funext a
  apply Fin.ext
  match a with
  | ⟨0, _⟩ => exact (congrArg (· / 1572864) e).trans (by show ((s.val * 2048 + k.val) * 768 + j.val) / 1572864 = s.val; omega)
  | ⟨1, _⟩ => exact (congrArg (· / 768 % 2048) e).trans (by show ((s.val * 2048 + k.val) * 768 + j.val) / 768 % 2048 = k.val; omega)
  | ⟨2, _⟩ => exact (congrArg (· % 768) e).trans (by show ((s.val * 2048 + k.val) * 768 + j.val) % 768 = j.val; omega)

theorem up_scale (s : Fin 48) (k : Fin 2048) (j : Fin 768) :
    idx_main_v43 (idx_main_v44 (idx_main_v46 (ix3 s k j))) = ix3 s ⟨k.val / 128, by omega⟩ j := by
  have hs := s.isLt; have hk := k.isLt; have hj := j.isLt
  funext a
  apply Fin.ext
  match a with
  | ⟨0, _⟩ => show ((s.val * 2048 + k.val) * 768 + j.val) / 1572864 = s.val; omega
  | ⟨1, _⟩ => show ((s.val * 2048 + k.val) * 768 + j.val) / 98304 % 16 = k.val / 128; omega
  | ⟨2, _⟩ => show ((s.val * 2048 + k.val) * 768 + j.val) % 768 = j.val; omega

theorem v46_at (s : Fin 48) (k : Fin 2048) (j : Fin 768) :
    val_main_v46 (F := Ideal) x4 x5 (ix3 s k j) = nLo (x4 (ix3 s k j)) * x5 (ix3 s ⟨k.val / 128, by omega⟩ j) := by
  rw [val_main_v46_apply, val_main_v45_apply, val_main_v42_apply, val_main_v44_apply, val_main_v43_apply, v41_at, up_self, up_scale]
  rfl

theorem v52_at (s : Fin 48) (k : Fin 2048) (j : Fin 768) :
    val_main_v52 (F := Ideal) x4 x6 (ix3 s k j) = nHi (x4 (ix3 s k j)) * x6 (ix3 s ⟨k.val / 128, by omega⟩ j) := by
  rw [val_main_v52_apply, val_main_v51_apply, val_main_v48_apply, val_main_v50_apply, val_main_v49_apply, v47_at]
  rw [show idx_main_v48 (idx_main_v52 (ix3 s k j)) = ix3 s k j from up_self s k j,
    show idx_main_v49 (idx_main_v50 (idx_main_v52 (ix3 s k j))) = ix3 s ⟨k.val / 128, by omega⟩ j from up_scale s k j]
  rfl

theorem down_self (s : Fin 48) (k : Fin 768) (j : Fin 1024) : idx_main_v75 (idx_main_v79 (ix3 s k j)) = ix3 s k j := by
  have hs := s.isLt; have hk := k.isLt; have hj := j.isLt
  have e := digits_down ((s.val * 768 + k.val) * 1024 + j.val)
  funext a
  apply Fin.ext
  match a with
  | ⟨0, _⟩ => exact (congrArg (· / 786432) e).trans (by show ((s.val * 768 + k.val) * 1024 + j.val) / 786432 = s.val; omega)
  | ⟨1, _⟩ => exact (congrArg (· / 1024 % 768) e).trans (by show ((s.val * 768 + k.val) * 1024 + j.val) / 1024 % 768 = k.val; omega)
  | ⟨2, _⟩ => exact (congrArg (· % 1024) e).trans (by show ((s.val * 768 + k.val) * 1024 + j.val) % 1024 = j.val; omega)

theorem down_scale (s : Fin 48) (k : Fin 768) (j : Fin 1024) :
    idx_main_v76 (idx_main_v77 (idx_main_v79 (ix3 s k j))) = ix3 s ⟨k.val / 128, by omega⟩ j := by
  have hs := s.isLt; have hk := k.isLt; have hj := j.isLt
  funext a
  apply Fin.ext
  match a with
  | ⟨0, _⟩ => show ((s.val * 768 + k.val) * 1024 + j.val) / 786432 = s.val; omega
  | ⟨1, _⟩ => show ((s.val * 768 + k.val) * 1024 + j.val) / 131072 % 6 = k.val / 128; omega
  | ⟨2, _⟩ => show ((s.val * 768 + k.val) * 1024 + j.val) % 1024 = j.val; omega

theorem v79_at (s : Fin 48) (k : Fin 768) (j : Fin 1024) :
    val_main_v79 (F := Ideal) x7 x8 (ix3 s k j)
      = nLo (x7 (ix3 s k j)) * x8 (ix3 s ⟨k.val / 128, by omega⟩ ⟨j.val, by omega⟩) := by
  rw [val_main_v79_apply, val_main_v78_apply, val_main_v75_apply, val_main_v77_apply, val_main_v76_apply, val_main_v73_apply, v74_at,
    down_self, down_scale]
  have e : idx_main_v73 (ix3 s ⟨k.val / 128, by omega⟩ j) = ix3 s ⟨k.val / 128, by omega⟩ ⟨j.val, by omega⟩ := by
    funext a
    match a with
    | ⟨0, _⟩ => rfl
    | ⟨1, _⟩ => rfl
    | ⟨2, _⟩ => rfl
  rw [e]
  rfl

theorem v86_at (s : Fin 48) (k : Fin 768) (j : Fin 1024) :
    val_main_v86 (F := Ideal) x7 x8 (ix3 s k j)
      = nHi (x7 (ix3 s k j)) * x8 (ix3 s ⟨k.val / 128, by omega⟩ ⟨1024 + j.val, by omega⟩) := by
  rw [val_main_v86_apply, val_main_v85_apply, val_main_v82_apply, val_main_v84_apply, val_main_v83_apply, val_main_v80_apply, v81_at]
  rw [show idx_main_v82 (idx_main_v86 (ix3 s k j)) = ix3 s k j from down_self s k j,
    show idx_main_v83 (idx_main_v84 (idx_main_v86 (ix3 s k j))) = ix3 s ⟨k.val / 128, by omega⟩ j from down_scale s k j]
  have e : idx_main_v80 (ix3 s ⟨k.val / 128, by omega⟩ j) = ix3 s ⟨k.val / 128, by omega⟩ ⟨1024 + j.val, by omega⟩ := by
    funext a
    match a with
    | ⟨0, _⟩ => rfl
    | ⟨1, _⟩ => rfl
    | ⟨2, _⟩ => rfl
  rw [e]
  rfl

/-! ### Products -/

theorem v0_at (t : Fin 256) (k : Fin 2048) : val_main_v0 (F := Ideal) x0 (ix2 t k) = x0 (ix3 t 0 k) := by
  have ht := t.isLt; have hk := k.isLt
  rw [val_main_v0_apply]
  congr 1
  funext a
  apply Fin.ext
  match a with
  | ⟨0, _⟩ => show (t.val * 2048 + k.val) / 2048 = t.val; omega
  | ⟨1, _⟩ => rfl
  | ⟨2, _⟩ => show (t.val * 2048 + k.val) % 2048 = k.val; omega

theorem v53_at (t : Fin 256) (s : Fin 48) (j : Fin 768) :
    val_main_v53 (F := Ideal) x0 x4 x5 (ix3 t s j)
      = ∑ k : Fin 2048, x0 (ix3 t 0 k) * (nLo (x4 (ix3 s k j)) * x5 (ix3 s ⟨k.val / 128, by omega⟩ j)) := by
  rw [val_main_v53_apply]
  refine Finset.sum_congr rfl fun k _ => ?_
  rw [← v46_at, ← v0_at x0 t k]
  congr 2 <;> funext a
  · match a with
    | ⟨0, _⟩ => rfl
    | ⟨1, _⟩ => rfl
  · match a with
    | ⟨0, _⟩ => rfl
    | ⟨1, _⟩ => rfl
    | ⟨2, _⟩ => rfl

theorem v54_at (t : Fin 256) (s : Fin 48) (j : Fin 768) :
    val_main_v54 (F := Ideal) x0 x4 x6 (ix3 t s j)
      = ∑ k : Fin 2048, x0 (ix3 t 0 k) * (nHi (x4 (ix3 s k j)) * x6 (ix3 s ⟨k.val / 128, by omega⟩ j)) := by
  rw [val_main_v54_apply]
  refine Finset.sum_congr rfl fun k _ => ?_
  rw [← v52_at, ← v0_at x0 t k]
  congr 2 <;> funext a
  · match a with
    | ⟨0, _⟩ => rfl
    | ⟨1, _⟩ => rfl
  · match a with
    | ⟨0, _⟩ => rfl
    | ⟨1, _⟩ => rfl
    | ⟨2, _⟩ => rfl

theorem silu_at (t : Fin 256) (s : Fin 48) (j : Fin 768) :
    val_main_v55 (F := Ideal) x0 x4 x5 (ix3 t s j)
      = val_main_v53 (F := Ideal) x0 x4 x5 (ix3 t s j) * Ideal.logistic (val_main_v53 (F := Ideal) x0 x4 x5 (ix3 t s j)) := by
  have e : val_main_v55 (F := Ideal) x0 x4 x5 (ix3 t s j)
      = val_main_v53 (F := Ideal) x0 x4 x5 (ix3 t s j)
        * Ideal.div (Ideal.ofBits .f32 0x3F800000#32)
          (Ideal.ofBits .f32 0x3F800000#32 + Ideal.exp (-(val_main_v53 (F := Ideal) x0 x4 x5 (ix3 t s j)))) := rfl
  rw [e, Ideal.ofBits_one_f32]
  rfl

/-- The hidden layer of slot `s` for token `t`. -/
theorem v57_at (t : Fin 256) (s : Fin 48) (j : Fin 768) :
    val_main_v57 (F := Ideal) x0 x4 x5 x6 (ix3 t s j)
      = hidS (fun k => x0 (ix3 t 0 k)) (fun k j => x4 (ix3 s k j)) (fun g j => x5 (ix3 s g j)) (fun g j => x6 (ix3 s g j)) j := by
  have e : val_main_v57 (F := Ideal) x0 x4 x5 x6 (ix3 t s j)
      = val_main_v55 (F := Ideal) x0 x4 x5 (ix3 t s j) * val_main_v54 (F := Ideal) x0 x4 x6 (ix3 t s j) := rfl
  rw [e, silu_at, v53_at, v54_at]
  rfl

/-- Row `t` of slot `s` in the reference's table. -/
def refRow (s : Fin 48) (t : Fin 256) (d : Fin 2048) : EReal :=
  rowS (fun k => x0 (ix3 t 0 k)) (fun k j => x4 (ix3 s k j)) (fun g j => x5 (ix3 s g j)) (fun g j => x6 (ix3 s g j))
    (fun k j => x7 (ix3 s k j)) (fun g j => x8 (ix3 s g j)) d

theorem v87_at (s : Fin 48) (t : Fin 256) (d : Fin 1024) :
    val_main_v87 (F := Ideal) x0 x4 x5 x6 x7 x8 (ix3 s t d) = refRow x0 x4 x5 x6 x7 x8 s t ⟨d.val, by omega⟩ := by
  unfold refRow rowS
  rw [dif_pos d.isLt, val_main_v87_apply]
  refine Finset.sum_congr rfl fun k _ => ?_
  rw [← v57_at, ← v79_at x7 x8 s k d]
  congr 2 <;> funext a
  · match a with
    | ⟨0, _⟩ => rfl
    | ⟨1, _⟩ => rfl
    | ⟨2, _⟩ => rfl
  · match a with
    | ⟨0, _⟩ => rfl
    | ⟨1, _⟩ => rfl
    | ⟨2, _⟩ => rfl

theorem v88_at (s : Fin 48) (t : Fin 256) (d : Fin 1024) :
    val_main_v88 (F := Ideal) x0 x4 x5 x6 x7 x8 (ix3 s t d) = refRow x0 x4 x5 x6 x7 x8 s t ⟨1024 + d.val, by omega⟩ := by
  unfold refRow rowS
  rw [dif_neg (by simp), val_main_v88_apply]
  refine Finset.sum_congr rfl fun k _ => ?_
  have ed : (⟨1024 + d.val - 1024, by omega⟩ : Fin 1024) = d := Fin.ext (by simp)
  rw [← v57_at]
  simp only [ed]
  rw [← v86_at x7 x8 s k d]
  congr 2 <;> funext a
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The reference's table is the shared row function. -/
theorem v89_at (s : Fin 48) (t : Fin 256) (d : Fin 2048) :
    val_main_v89 (F := Ideal) x0 x4 x5 x6 x7 x8 (ix3 s t d) = refRow x0 x4 x5 x6 x7 x8 s t d := by
  have hd := d.isLt
  by_cases h : d.val < 1024
  · rw [show refRow x0 x4 x5 x6 x7 x8 s t d = refRow x0 x4 x5 x6 x7 x8 s t ⟨(⟨d.val, h⟩ : Fin 1024).val, by omega⟩ from rfl, ← v87_at]
    unfold val_main_v89
    generalize val_main_v87 (F := Ideal) x0 x4 x5 x6 x7 x8 = y
    generalize val_main_v88 (F := Ideal) x0 x4 x5 x6 x7 x8 = z
    pointwise
    rw [dif_pos h]
  · have ed : d = ⟨1024 + (⟨d.val - 1024, by omega⟩ : Fin 1024).val, by show 1024 + (d.val - 1024) < 2048; omega⟩ :=
      Fin.ext (by show d.val = 1024 + (d.val - 1024); omega)
    rw [show refRow x0 x4 x5 x6 x7 x8 s t d = refRow x0 x4 x5 x6 x7 x8 s t ⟨1024 + (⟨d.val - 1024, by omega⟩ : Fin 1024).val, by
      show 1024 + (d.val - 1024) < 2048; omega⟩ from congrArg _ ed, ← v88_at]
    unfold val_main_v89
    generalize val_main_v87 (F := Ideal) x0 x4 x5 x6 x7 x8 = y
    generalize val_main_v88 (F := Ideal) x0 x4 x5 x6 x7 x8 = z
    pointwise
    rw [dif_neg h]

end Cert.ReferenceIdeal.Rows
-- ==== Proof.RefGather.lean ====
/- The reference's gather: a pair's row is its slot's row of the table at its token, and zero for a pair without a slot. -/
module

public import proofs.«01_k».proof.Proof.RefRead
public import Idealize.ShloMosaic.Lib.StableHlo.Predicate
public import Idealize.ShloMosaic.Lib.WordCmp

@[expose] public section

set_option maxRecDepth 16384

noncomputable section

namespace Cert.ReferenceIdeal.Rows

open Idealize.ShloMosaic Cert.ReferenceIdeal Cert.ReferenceIdeal.Gen Cert.ReferenceIdeal.Read Cert.Spec

/-- A gather of whole last-axis rows from a three-axis table by two start coordinates per result row: where the start coordinates
    are the in-range numbers `s` and `t`, entry `(b, k, d)` is the table's `(s, t, d)`. -/
theorem gather_two {α : Type} (x : S48x256x2048.Idx → α) (idx : IVec S256x8x2 32) (b : Fin 256) (k : Fin 8) (d : Fin 2048)
    (s : Fin 48) (t : Fin 256) (h0 : idx (ix3 b k (0 : Fin 2)) = BitVec.ofNat 32 s.val)
    (h1 : idx (ix3 b k (1 : Fin 2)) = BitVec.ofNat 32 t.val) :
    Host.gather gather_S48x256x2048_S256x8x2_S256x8x2048_2_01_n_n_01_2_112048 x idx (ix3 b k d) = x (ix3 s t d) := by
  unfold Host.gather
  refine congrArg x (funext fun a => Fin.ext ?_)
  set D := gather_S48x256x2048_S256x8x2_S256x8x2048_2_01_n_n_01_2_112048 with hD
  have hsl := s.isLt
  have htl := t.isLt
  have si (n : Fin 2) (hn : n.val < D.startIndexMap.length) : D.siIdx (ix3 b k d) ⟨n.val, hn⟩ = ix3 b k n := by
    funext a'
    apply Fin.ext
    match a' with
    | ⟨0, _⟩ => rfl
    | ⟨1, _⟩ => rfl
    | ⟨2, _⟩ => rfl
  match a with
  | ⟨0, _⟩ =>
    show D.start (ix3 b k d) idx 0 + D.batchCoord (ix3 b k d) 0 + D.offCoord (ix3 b k d) 0 = s.val
    rw [D.batchCoord_eq_zero _ _ (by decide), D.offCoord_eq_zero _ _ (by decide)]
    unfold GatherDims.start
    rw [dif_pos (by decide)]
    have e := si 0 (by decide)
    rw [show D.siIdx (ix3 b k d) ⟨D.startIndexMap.idxOf 0, _⟩ = ix3 b k (0 : Fin 2) from e, h0,
      StableHlo.Predicate.toInt_ofNat_small _ (by omega)]
    show min ((s.val : Int)).toNat (48 - 1) + 0 + 0 = s.val
    omega
  | ⟨1, _⟩ =>
    show D.start (ix3 b k d) idx 1 + D.batchCoord (ix3 b k d) 1 + D.offCoord (ix3 b k d) 1 = t.val
    rw [D.batchCoord_eq_zero _ _ (by decide), D.offCoord_eq_zero _ _ (by decide)]
    unfold GatherDims.start
    rw [dif_pos (by decide)]
    have e := si 1 (by decide)
    rw [show D.siIdx (ix3 b k d) ⟨D.startIndexMap.idxOf 1, _⟩ = ix3 b k (1 : Fin 2) from e, h1,
      StableHlo.Predicate.toInt_ofNat_small _ (by omega)]
    show min ((t.val : Int)).toNat (256 - 1) + 0 + 0 = t.val
    omega
  | ⟨2, _⟩ =>
    show D.start (ix3 b k d) idx 2 + D.batchCoord (ix3 b k d) 2 + D.offCoord (ix3 b k d) 2 = d.val
    rw [D.batchCoord_eq_zero _ _ (by decide)]
    unfold GatherDims.start GatherDims.offCoord
    rw [dif_neg (by decide), dif_pos (by decide)]
    show 0 + 0 + d.val = d.val
    omega

variable (x0 : (⟨S256x1x2048, .bf16⟩ : BufTy).Contents (Elt Ideal)) (x1 : (⟨S256x1x8, .i32⟩ : BufTy).Contents (Elt Ideal))
  (x2 : (⟨S256x1x8, .f32⟩ : BufTy).Contents (Elt Ideal)) (x3 : (⟨S128, .i32⟩ : BufTy).Contents (Elt Ideal))
  (x4 : (⟨S48x2048x768, .i8⟩ : BufTy).Contents (Elt Ideal))
  (x5 x6 : (⟨S48x16x768, .bf16⟩ : BufTy).Contents (Elt Ideal)) (x7 : (⟨S48x768x1024, .i8⟩ : BufTy).Contents (Elt Ideal))
  (x8 : (⟨S48x6x2048, .bf16⟩ : BufTy).Contents (Elt Ideal))

/-- The slot word of pair `k` of token `t`. -/
abbrev slotW (t : Fin 256) (k : Fin 8) : BitVec 32 := val_main_v9 (F := Ideal) x1 x3 (ix2 t k)

theorem v105_at (t : Fin 256) (k : Fin 8) :
    val_main_v105 (F := Ideal) x1 x3 (ix3 t k (0 : Fin 1)) = val_main_v98 (F := Ideal) x1 x3 (ix2 t k) := by
  rw [val_main_v105_apply]
  congr 1
  funext a
  match a with
  | ⟨0, _⟩ => rfl
  | ⟨1, _⟩ => rfl

theorem v98_at (t : Fin 256) (k : Fin 8) :
    val_main_v98 (F := Ideal) x1 x3 (ix2 t k)
      = Scalar.select (IntOp.cmpi .slt (IntOp.maxsi (slotW x1 x3 t k) 0#32) 0#32) (IntOp.addi (IntOp.maxsi (slotW x1 x3 t k) 0#32) 48#32)
        (IntOp.maxsi (slotW x1 x3 t k) 0#32) := rfl

theorem v106_at (t : Fin 256) (k : Fin 8) :
    val_main_v106 (F := Ideal) (ix3 t k (0 : Fin 1))
      = Scalar.select (IntOp.cmpi .slt (BitVec.ofNat 32 t.val) 0#32) (IntOp.addi (BitVec.ofNat 32 t.val) 256#32) (BitVec.ofNat 32 t.val) := rfl

theorem token_word : ∀ t : Fin 256,
    Scalar.select (IntOp.cmpi .slt (BitVec.ofNat 32 t.val) 0#32) (IntOp.addi (BitVec.ofNat 32 t.val) 256#32) (BitVec.ofNat 32 t.val)
      = BitVec.ofNat 32 t.val := by decide

theorem slot_word : ∀ s : Fin 48,
    Scalar.select (IntOp.cmpi .slt (IntOp.maxsi (BitVec.ofNat 32 s.val) 0#32) 0#32) (IntOp.addi (IntOp.maxsi (BitVec.ofNat 32 s.val) 0#32) 48#32)
      (IntOp.maxsi (BitVec.ofNat 32 s.val) 0#32) = BitVec.ofNat 32 s.val := by decide

theorem v107_at0 (t : Fin 256) (k : Fin 8) (s : Fin 48) (h : slotW x1 x3 t k = BitVec.ofNat 32 s.val) :
    val_main_v107 (F := Ideal) x1 x3 (ix3 t k (0 : Fin 2)) = BitVec.ofNat 32 s.val := by
  have e : val_main_v105 (F := Ideal) x1 x3 (ix3 t k (0 : Fin 1)) = BitVec.ofNat 32 s.val := by
    rw [v105_at, v98_at, h]; exact slot_word s
  rw [← e]
  unfold val_main_v107
  generalize val_main_v105 (F := Ideal) x1 x3 = y
  generalize val_main_v106 (F := Ideal) = z
  pointwise

theorem v107_at1 (t : Fin 256) (k : Fin 8) :
    val_main_v107 (F := Ideal) x1 x3 (ix3 t k (1 : Fin 2)) = BitVec.ofNat 32 t.val := by
  have e := (v106_at t k).trans (token_word t)
  rw [← e]
  unfold val_main_v107
  generalize val_main_v105 (F := Ideal) x1 x3 = y
  generalize val_main_v106 (F := Ideal) = z
  pointwise

theorem v110_val (t : Fin 256) (k : Fin 8) (d : Fin 2048) :
    val_main_v110 (F := Ideal) x0 x1 x3 x4 x5 x6 x7 x8 (ix3 t k d)
      = Scalar.select (IntOp.cmpi .sge (slotW x1 x3 t k) 0#32) (val_main_v108 (F := Ideal) x0 x1 x3 x4 x5 x6 x7 x8 (ix3 t k d))
        (Ideal.ofBits .f32 0x00000000#32) := by
  have e : val_main_call6_v1 (F := Ideal) x1 x3 (ix3 t k d) = IntOp.cmpi .sge (slotW x1 x3 t k) 0#32 := by
    have q : val_main_call6_v1 (F := Ideal) x1 x3 (ix3 t k d) = val_main_v11 (F := Ideal) x1 x3 (ix2 t k) := by
      rw [val_main_call6_v1_apply, val_main_v109_apply]
      congr 1
      funext a
      match a with
      | ⟨0, _⟩ => rfl
      | ⟨1, _⟩ => rfl
    rw [q]
    rfl
  rw [val_main_v110_apply, e]
  rfl

/-- A pair whose slot is `s` reads row `(s, t)` of the table; -/
theorem v110_slot (t : Fin 256) (k : Fin 8) (d : Fin 2048) (s : Fin 48) (h : slotW x1 x3 t k = BitVec.ofNat 32 s.val) :
    val_main_v110 (F := Ideal) x0 x1 x3 x4 x5 x6 x7 x8 (ix3 t k d) = refRow x0 x4 x5 x6 x7 x8 s t d := by
  have hc : ∀ s : Fin 48, IntOp.cmpi .sge (BitVec.ofNat 32 s.val) 0#32 = 1#1 := by decide
  rw [v110_val, h, hc s, ← v89_at]
  show val_main_v108 (F := Ideal) x0 x1 x3 x4 x5 x6 x7 x8 (ix3 t k d) = _
  unfold val_main_v108
  exact gather_two _ _ t k d s t (v107_at0 x1 x3 t k s h) (v107_at1 x1 x3 t k)

/-- and one whose slot is negative reads zero. -/
theorem v110_none (t : Fin 256) (k : Fin 8) (d : Fin 2048) (h : (slotW x1 x3 t k).toInt < 0) :
    val_main_v110 (F := Ideal) x0 x1 x3 x4 x5 x6 x7 x8 (ix3 t k d) = 0 := by
  have hc : IntOp.cmpi .sge (slotW x1 x3 t k) 0#32 = 0#1 := by
    rw [WordCmp.cmpi_sge_eq, decide_eq_false (by rw [show (0#32 : BitVec 32).toInt = 0 from rfl]; omega)]
    rfl
  rw [v110_val, hc]
  exact Ideal.ofBits_zero_f32

/-- The per-pair result. -/
theorem v113_at (t : Fin 256) (k : Fin 8) (d : Fin 2048) (p : Fin 2048) (hp : p.val = 8 * t.val + k.val) :
    val_main_v113 (F := Ideal) x0 x1 x3 x4 x5 x6 x7 x8 (ix2 p d) = val_main_v110 (F := Ideal) x0 x1 x3 x4 x5 x6 x7 x8 (ix3 t k d) := by
  have ht := t.isLt; have hk := k.isLt; have hd := d.isLt
  rw [val_main_v113_apply]
  congr 1
  funext a
  apply Fin.ext
  match a with
  | ⟨0, _⟩ => show (p.val * 2048 + d.val) / 16384 = t.val; omega
  | ⟨1, _⟩ => show (p.val * 2048 + d.val) / 2048 % 8 = k.val; omega
  | ⟨2, _⟩ => show (p.val * 2048 + d.val) % 2048 = d.val; omega

/-- The combined result. -/
theorem v112_at (t : Fin 256) (d : Fin 2048) :
    val_main_v112 (F := Ideal) x0 x1 x2 x3 x4 x5 x6 x7 x8 (ix2 t d)
      = ∑ k : Fin 8, val_main_v25 (F := Ideal) x1 x2 x3 (ix2 t k) * val_main_v110 (F := Ideal) x0 x1 x3 x4 x5 x6 x7 x8 (ix3 t k d) := by
  have e : val_main_v112 (F := Ideal) x0 x1 x2 x3 x4 x5 x6 x7 x8 (ix2 t d) = val_main_v111 (F := Ideal) x0 x1 x2 x3 x4 x5 x6 x7 x8 (ix2 t d) := rfl
  rw [e, val_main_v111_apply]
  refine Finset.sum_congr rfl fun k _ => ?_
  congr 2 <;> funext a
  · match a with
    | ⟨0, _⟩ => rfl
    | ⟨1, _⟩ => rfl
  · match a with
    | ⟨0, _⟩ => rfl
    | ⟨1, _⟩ => rfl
    | ⟨2, _⟩ => rfl

end Cert.ReferenceIdeal.Rows
-- ==== Proof.Entry.lean ====
/- What the host hands the kernel, in the reference's terms: the slots, the combine weights, the missing weights, the tokens. -/
module

public import proofs.«01_k».proof.Proof.Inv
public import proofs.«01_k».proof.Proof.RefGather

@[expose] public section

set_option maxRecDepth 16384

noncomputable section

namespace Cert.KernelIdeal.Value

open Idealize.ShloMosaic Idealize.ShloMosaic.TcCoe
open Cert.KernelIdeal Cert.KernelIdeal.Gen Cert.KernelIdeal.Blk Cert.KernelIdeal.Body Cert.KernelIdeal.Inv Cert.Mem
open Cert.ReferenceIdeal.Read (val_main_v9 val_main_v16 val_main_v25)
open Cert.ReferenceIdeal.Rows (slotW)

variable (m : (ℓ : Loc nD τ sig) → Buf (Elt Ideal) ℓ)

attribute [local irreducible] Host.scatter Host.reduceWindow Host.reduce Host.gather

/-- The slot table is the reference's. -/
theorem slot_eq (x1 : IVec S256x1x8 32) (x3 : IVec S128 32) : slotOf x1 x3 = val_main_v9 (F := Ideal) x1 x3 := rfl

/-- Pair `(t, k)`'s slot word. -/
theorem sf_at (x1 : IVec S256x1x8 32) (x3 : IVec S128 32) (t : Fin 256) (k : Fin 8) : sfOf x1 x3 (ix1 (pr t k)) = slotW x1 x3 t k := by
  unfold sfOf
  rw [slot_eq]
  refine shapeCast_apply _ _ _ (ix2 t k) ?_
  rw [Shape.rowMajor_val_two, Shape.rowMajor_val_one]
  show t.val * 8 + k.val = 8 * t.val + k.val
  omega

/-- The tokens, without the axis of length one. -/
theorem entry_x (c : Dev nD) (t : Fin 256) (k : Fin 2048) :
    xV (entry m) c (ix2 t k) = m ((c.tc : Thread nD τ).loc main_arg0) (ix3 t (0 : Fin 1) k) := by
  have e : xV (entry m) c = shapeCast _ (m ((c.tc : Thread nD τ).loc main_arg0)) shapeCasts_S256x1x2048_S256x2048 := by
    unfold xV entry; after_reads_simp; rfl
  rw [e]
  refine shapeCast_apply _ _ _ (ix3 t (0 : Fin 1) k) ?_
  rw [Shape.rowMajor_val_three, Shape.rowMajor_val_two]
  show (t.val * 1 + 0) * 2048 + k.val = t.val * 2048 + k.val
  omega

/-- The weight of pair `(t, k)`. -/
theorem entry_wt (c : Dev nD) (t : Fin 256) (k : Fin 8) :
    (entry m c main_v60 : Vec Ideal S2048 .f32) (ix1 (pr t k))
      = val_main_v25 (F := Ideal) (m ((c.tc : Thread nD τ).loc main_arg1)) (m ((c.tc : Thread nD τ).loc main_arg2))
          (m ((c.tc : Thread nD τ).loc main_arg3)) (ix2 t k) := by
  have e : entry m c main_v60 = shapeCast S2048 (val_main_v25 (F := Ideal) (m ((c.tc : Thread nD τ).loc main_arg1))
      (m ((c.tc : Thread nD τ).loc main_arg2)) (m ((c.tc : Thread nD τ).loc main_arg3))) shapeCasts_S256x8_S2048 := by
    unfold entry; after_reads_simp; rfl
  rw [e]
  refine shapeCast_apply _ _ _ (ix2 t k) ?_
  rw [Shape.rowMajor_val_two, Shape.rowMajor_val_one]
  show t.val * 8 + k.val = 8 * t.val + k.val
  omega

/-- The missing weights. -/
theorem entry_missing (c : Dev nD) :
    entry m c main_v15 = val_main_v16 (F := Ideal) (m ((c.tc : Thread nD τ).loc main_arg1)) (m ((c.tc : Thread nD τ).loc main_arg2))
      (m ((c.tc : Thread nD τ).loc main_arg3)) := by
  unfold entry; after_reads_simp; rfl

end Cert.KernelIdeal.Value
-- ==== Proof.Value.lean ====
/- The value: wherever the precondition holds, the kernel's three results are the reference's. -/
module

public import proofs.«01_k».proof.Proof.Entry
public import proofs.«01_k».proof.Proof.Frame

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Blk Cert.KernelIdeal.Body Cert.KernelIdeal.Inv Cert.Mem
open Cert.ReferenceIdeal.Read (val_main_v16 val_main_v25 val_main_v110 val_main_v112 val_main_v113)
open Cert.ReferenceIdeal.Rows (slotW refRow v110_slot v110_none v112_at v113_at)

variable (m : (ℓ : Loc nD τ sig) → Buf (Elt Ideal) ℓ)

/-- The arguments in the memory `m`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)

/-- The per-pair result so far, and the accumulator, of the kernel's run on `m`. -/
def JEm (c : Dev nD) : Nat → Nat → Vec Ideal S2048x2048 .f32 → Prop :=
  JE (sfM m c) (xV (entry m) c) (entry m c main_arg4) (entry m c main_arg5) (entry m c main_arg6) (entry m c main_arg7) (entry m c main_arg8)
def JYm (c : Dev nD) : Nat → Nat → Vec Ideal S256x2048 .f32 → Prop :=
  JY (sfM m c) (xV (entry m) c) (entry m c main_arg4) (entry m c main_arg5) (entry m c main_arg6) (entry m c main_arg7) (entry m c main_arg8)
    (entry m c main_v60)

/-- The count of a slot is the number of its pairs. -/
theorem count_eq (c : Dev nD) (s : Fin 48) : nOf (cntV (entry m) c) s = Nat.count (Hits (sfM m c) s.val) 2048 := by
  unfold nOf cntV
  rw [entry_cnt]
  exact cntOf_toNat _ s

variable [Cert.Pre_slots_fit.Facts]

theorem count_le (c : Dev nD) (h : PreM m c) (s : Fin 48) : Nat.count (Hits (sfM m c) s.val) 2048 ≤ 256 := by
  rw [← count_eq]
  exact cnt_le m c h _

/-- What the run of the region needs of the two invariants. -/
theorem kept_value (c : Dev nD) (h : PreM m c) : KeptV (entry m) (JEm m c) (JYm m c) c where
  cnt_le := cnt_le m c h
  lst_lt := fun j => by
    rw [entry_lst]
    exact lst_lt _ j
  e0 := je_start _ _ _ _ _ _ _
  y0 := jy_start _ _ _ _ _ _ _ _
  step := fun s => by
    rw [entry_lst, count_eq]
    exact step_ok _ _ _ _ _ _ _ _ (count_le m c h) s
  eS := fun s hs E hE => by
    rw [count_eq] at hE
    exact je_next _ _ _ _ _ _ _ s.val s.isLt E hE
  yS := fun s hs Y hY => by
    rw [count_eq] at hY
    exact jy_next _ _ _ _ _ _ _ _ s.val s.isLt Y hY

/-- Pair `(t, k)`'s row is the reference's. -/
theorem row_eq (c : Dev nD) (h : PreM m c) (t : Fin 256) (k : Fin 8) (d : Fin 2048) :
    rowP (sfM m c) (xV (entry m) c) (entry m c main_arg4) (entry m c main_arg5) (entry m c main_arg6) (entry m c main_arg7)
        (entry m c main_arg8) (pr t k) d
      = val_main_v110 (F := Ideal) (a0 m c) (a1 m c) (a3 m c) (a4 m c) (a5 m c) (a6 m c) (a7 m c) (a8 m c) (ix3 t k d) := by
  have lt : (slotW (a1 m c) (a3 m c) t k).toInt < 48 := by
    rw [← sf_at]
    exact (pre_read _ _ _ _ _ _ _ _ _ h).1 (pr t k)
  have e : slotN (sfM m c) (pr t k) = (slotW (a1 m c) (a3 m c) t k).toNat := congrArg BitVec.toNat (sf_at _ _ t k)
  have ht : (⟨(pr t k).val / 8, by have := (pr t k).isLt; omega⟩ : Fin 256) = t :=
    Fin.ext (by show (8 * t.val + k.val) / 8 = t.val; have := k.isLt; omega)
  unfold rowP
  split
  · next hs =>
    have es : slotW (a1 m c) (a3 m c) t k = BitVec.ofNat 32 (slotN (sfM m c) (pr t k)) := by
      rw [e, BitVec.ofNat_toNat, BitVec.setWidth_eq]
    rw [v110_slot _ _ _ _ _ _ _ _ t k d ⟨slotN (sfM m c) (pr t k), hs⟩ es, ht]
    unfold rowAt refRow
    rw [entry_arg4, entry_arg5, entry_arg6, entry_arg7, entry_arg8, funext fun k => entry_x m c t k]
  · next hs =>
    refine (v110_none _ _ _ _ _ _ _ _ t k d ?_).symm
    rw [e] at hs
    have := (slotW (a1 m c) (a3 m c) t k).toInt_eq_toNat_cond
    have := (slotW (a1 m c) (a3 m c) t k).isLt
    omega

/-- The per-pair result, at an index, -/
theorem out_pair (c : Dev nD) (h : PreM m c) (E : Vec Ideal S2048x2048 .f32) (hE : JEm m c 47 (Nat.count (Hits (sfM m c) 47) 2048) E)
    (p d : Fin 2048) : E (ix2 p d)
      = val_main_v113 (F := Ideal) (a0 m c) (a1 m c) (a3 m c) (a4 m c) (a5 m c) (a6 m c) (a7 m c) (a8 m c) (ix2 p d) := by
  have hp := p.isLt
  have ep : p = pr ⟨p.val / 8, by omega⟩ ⟨p.val % 8, by omega⟩ := Fin.ext (by show p.val = 8 * (p.val / 8) + p.val % 8; omega)
  refine (je_end _ _ _ _ _ _ _ E hE p d).trans ?_
  rw [ep, row_eq m c h]
  exact (v113_at _ _ _ _ _ _ _ _ _ _ d _ rfl).symm

/-- and as an array. -/
theorem out_pairs (c : Dev nD) (h : PreM m c) (E : Vec Ideal S2048x2048 .f32) (hE : JEm m c 47 (nOf (cntV (entry m) c) 47) E) :
    E = val_main_v113 (F := Ideal) (a0 m c) (a1 m c) (a3 m c) (a4 m c) (a5 m c) (a6 m c) (a7 m c) (a8 m c) := by
  rw [count_eq] at hE
  refine funext fun i => ?_
  rw [eq_ix2 i]
  exact out_pair m c h E hE (i 0) (i 1)

/-- The combined tokens, at an index, -/
theorem out_token (c : Dev nD) (h : PreM m c) (Y : Vec Ideal S256x2048 .f32) (hY : JYm m c 47 (Nat.count (Hits (sfM m c) 47) 2048) Y)
    (t : Fin 256) (d : Fin 2048) : k0_pay10 Y (ix2 t d)
      = val_main_v112 (F := Ideal) (a0 m c) (a1 m c) (a2 m c) (a3 m c) (a4 m c) (a5 m c) (a6 m c) (a7 m c) (a8 m c) (ix2 t d) := by
  have e : k0_pay10 Y (ix2 t d) = Y (ix2 t d) := rfl
  refine e.trans ((jy_end _ _ _ _ _ _ _ _ Y hY t d).trans ?_)
  refine Eq.trans ?_ (v112_at _ _ _ _ _ _ _ _ _ t d).symm
  refine Finset.sum_congr rfl fun k _ => ?_
  rw [row_eq m c h, entry_wt]

/-- and as an array. -/
theorem out_tokens (c : Dev nD) (h : PreM m c) (Y : Vec Ideal S256x2048 .f32) (hY : JYm m c 47 (nOf (cntV (entry m) c) 47) Y) :
    k0_pay10 Y = val_main_v112 (F := Ideal) (a0 m c) (a1 m c) (a2 m c) (a3 m c) (a4 m c) (a5 m c) (a6 m c) (a7 m c) (a8 m c) := by
  rw [count_eq] at hY
  funext i
  rw [eq_ix2 i]
  exact out_token m c h Y hY (i 0) (i 1)

/-- Every run of the kernel ends with the reference's results, and with its arguments as they were. -/
theorem run_value (g : Dev nD → PrngReg) (h : ∀ c, PreM m c) :
    θ_run defs (onTc main) (s₀ m g) (fun r => ∀ c : Dev nD,
      r.2.mem ((c.tc : Thread nD τ).loc main_v61_0)
          = val_main_v112 (F := Ideal) (a0 m c) (a1 m c) (a2 m c) (a3 m c) (a4 m c) (a5 m c) (a6 m c) (a7 m c) (a8 m c)
        ∧ r.2.mem ((c.tc : Thread nD τ).loc main_v15) = val_main_v16 (F := Ideal) (a1 m c) (a2 m c) (a3 m c)
        ∧ r.2.mem ((c.tc : Thread nD τ).loc main_v61_1)
          = val_main_v113 (F := Ideal) (a0 m c) (a1 m c) (a3 m c) (a4 m c) (a5 m c) (a6 m c) (a7 m c) (a8 m c)
        ∧ Final m (JEm m 0) (JYm m 0) r c) :=
  (θ_run defs _ _).mono
    (fun r q c => by
      obtain rfl : c = 0 := Subsingleton.elim c 0
      have f := q.1 0
      obtain ⟨Y, hY, eY⟩ := f.outY
      exact ⟨eY.trans (out_tokens m 0 (h 0) Y hY), f.out15.trans (entry_missing m 0), out_pairs m 0 (h 0) _ f.outE, f⟩)
    (run_final m (JEm m 0) (JYm m 0) g fun c => by
      obtain rfl : c = 0 := Subsingleton.elim c 0
      exact kept_value m 0 (h 0))

end Cert.KernelIdeal.Value
-- ==== Proof.lean ====
module

public import proofs.«01_k».proof.Defs
public import proofs.«01_k».proof.Proof.Frame
public import proofs.«01_k».proof.Proof.Bits.Frame
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_slots_fit
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

theorem frame_kernel : Cert.quiescent_Kernel (hKernel := Cert.Kernel.Gen.facts) (hPre_slots_fit := Cert.Pre_slots_fit.Gen.facts) := fun m g h =>
  (θ_run Cert.Kernel.defs _ _).mono
    (fun r q => ⟨fun c => ⟨(q.1 c).arg0, (q.1 c).arg1, (q.1 c).arg2, (q.1 c).arg3, (q.1 c).arg4, (q.1 c).arg5, (q.1 c).arg6, (q.1 c).arg7, (q.1 c).arg8⟩, q.2⟩)
    (Cert.Kernel.Body.run_frame m g h)

theorem frame_kernelIdeal : Cert.quiescent_KernelIdeal (hKernelIdeal := Cert.KernelIdeal.Gen.facts) (hPre_slots_fit := Cert.Pre_slots_fit.Gen.facts) := fun m g h =>
  (θ_run Cert.KernelIdeal.defs _ _).mono
    (fun r q => ⟨fun c => ⟨(q.1 c).arg0, (q.1 c).arg1, (q.1 c).arg2, (q.1 c).arg3, (q.1 c).arg4, (q.1 c).arg5, (q.1 c).arg6, (q.1 c).arg7, (q.1 c).arg8⟩, q.2⟩)
    (Cert.KernelIdeal.Body.run_frame m g h)

theorem frame_reference : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩)
    (Cert.ReferenceIdeal.Value.run (F := Ideal) m g)

/-- The same, under the precondition. -/
theorem frame_reference_pre : Cert.quiescent_ReferenceIdeal_pre_slots_fit (hReferenceIdeal := Cert.ReferenceIdeal.Gen.facts) (hPre_slots_fit := Cert.Pre_slots_fit.Gen.facts) := fun m g _ =>
  (θ_run Cert.ReferenceIdeal.defs _ _).mono
    (fun r h => ⟨fun c => (h c).2.2.2, sem_eq_zero_of_no_sems (by decide) r.2⟩)
    (Cert.ReferenceIdeal.Value.run (F := Ideal) m g)

open Cert.KernelIdeal.Value in
/-- The kernel's tokens, missing weights and per-pair rows are the reference's. -/
theorem algebraic : Cert.algebraic_KernelIdeal_ReferenceIdeal (hKernelIdeal := Cert.KernelIdeal.Gen.facts) (hReferenceIdeal := Cert.ReferenceIdeal.Gen.facts) (hPre_slots_fit := Cert.Pre_slots_fit.Gen.facts) := by
  intro m g m' g' h args
  refine ⟨fun c => Cert.ReferenceIdeal.Read.val_main_v112 (F := Ideal) (a0 m c) (a1 m c) (a2 m c) (a3 m c) (a4 m c) (a5 m c) (a6 m c) (a7 m c) (a8 m c),
    fun c => Cert.ReferenceIdeal.Read.val_main_v16 (F := Ideal) (a1 m c) (a2 m c) (a3 m c),
    fun c => Cert.ReferenceIdeal.Read.val_main_v113 (F := Ideal) (a0 m c) (a1 m c) (a3 m c) (a4 m c) (a5 m c) (a6 m c) (a7 m c) (a8 m c), ?_, ?_⟩
  · refine (θ_run Cert.KernelIdeal.defs _ _).mono (fun r q c => ?_) (run_value m g h)
    obtain ⟨y, w, e, f⟩ := q c
    exact ⟨y, w, e, f.arg0, f.arg1, f.arg2, f.arg3, f.arg4, f.arg5, f.arg6, f.arg7, f.arg8⟩
  · refine (θ_run Cert.ReferenceIdeal.defs _ _).mono (fun r q c => ?_) (Cert.ReferenceIdeal.Value.run (F := Ideal) m' g')
    obtain ⟨y, w, e, f⟩ := q c
    obtain ⟨h0, h1, h2, h3, h4, h5, h6, h7, h8⟩ := args c
    refine ⟨y.trans ((Cert.ReferenceIdeal.Read.val_main_v112_eq m' c).trans ?_),
      w.trans ((Cert.ReferenceIdeal.Read.val_main_v16_eq _ _ _).trans ?_),
      e.trans ((Cert.ReferenceIdeal.Read.val_main_v113_eq m' c).trans ?_), f⟩
    · rw [h0, h1, h2, h3, h4, h5, h6, h7, h8]
    · rw [h1, h2, h3]
    · rw [h0, h1, h3, h4, h5, h6, h7, h8]

theorem claim : Cert.Claim :=
  ⟨Cert.Kernel.Gen.facts, Cert.KernelIdeal.Gen.facts, Cert.ReferenceIdeal.Gen.facts, Cert.Pre_slots_fit.Gen.facts,
    frame_kernel, frame_kernelIdeal, frame_reference, frame_reference_pre, trivial, algebraic⟩

end Cert.Proof
